-- ==== Defs.lean ====
def Pre_Kernel (m : (ℓ : Loc Cert.Kernel.nD Cert.Kernel.τ Cert.Kernel.sig) → Buf (Elt Bits) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v10)) (v1 : (c : Dev Cert.Kernel.nD) → Buf (Elt Bits) ((c.tc : Thread Cert.Kernel.nD Cert.Kernel.τ).loc Cert.Kernel.main_v11)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v10) = v0 c
          ∧ r.2.mem ((c.tc : Thread Cert.Kernel.nD Cert.Kernel.τ).loc Cert.Kernel.main_v11) = v1 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_values) = v0 c
          ∧ r.2.mem ((c.tc : Thread Cert.Reference.nD Cert.Reference.τ).loc Cert.Reference.main_indices) = v1 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def Claim : Prop :=
  ∃ (hKernel : Cert.Kernel.Facts) (hReference : Cert.Reference.Facts),
    quiescent_Kernel (hKernel := hKernel)
    ∧ quiescent_Reference (hReference := hReference)
    ∧ bitexact_Kernel_Reference (hKernel := hKernel) (hReference := hReference)
-- ==== Kernel.lean ====
abbrev S131072x4 : Shape := ⟨2, ![131072, 4]⟩
abbrev S64x4 : Shape := ⟨2, ![64, 4]⟩
abbrev S4x131072 : Shape := ⟨2, ![4, 131072]⟩
abbrev S256x1 : Shape := ⟨2, ![256, 1]⟩
abbrev S256x16 : Shape := ⟨2, ![256, 16]⟩
abbrev S50x131072 : Shape := ⟨2, ![50, 131072]⟩
abbrev S4x256 : Shape := ⟨2, ![4, 256]⟩
abbrev S50x256 : Shape := ⟨2, ![50, 256]⟩
abbrev S_ : Shape := ⟨0, ![]⟩
abbrev S1x16 : Shape := ⟨2, ![1, 16]⟩
abbrev S16 : Shape := ⟨1, ![16]⟩
abbrev S131072x50 : Shape := ⟨2, ![131072, 50]⟩

abbrev nBuf : Table → Nat
  | .hbm => 15
  | .local .scVector .vmem => 6
  | _ => 0

abbrev bufTy : (tb : Table) → Fin (nBuf tb) → BufTy
  | .hbm, ⟨0, _⟩ => ⟨S131072x4, .f32⟩
  | .hbm, ⟨1, _⟩ => ⟨S64x4, .f32⟩
  | .hbm, ⟨2, _⟩ => ⟨S4x131072, .f32⟩
  | .hbm, ⟨3, _⟩ => ⟨S4x131072, .bf16⟩
  | .hbm, ⟨4, _⟩ => ⟨S4x131072, .bf16⟩
  | .hbm, ⟨5, _⟩ => ⟨S64x4, .bf16⟩
  | .hbm, ⟨6, _⟩ => ⟨S64x4, .bf16⟩
  | .hbm, ⟨7, _⟩ => ⟨S4x131072, .f32⟩
  | .hbm, ⟨8, _⟩ => ⟨S64x4, .f32⟩
  | .hbm, ⟨9, _⟩ => ⟨S256x1, .f32⟩
  | .hbm, ⟨10, _⟩ => ⟨S256x16, .f32⟩
  | .hbm, ⟨11, _⟩ => ⟨S50x131072, .f32⟩
  | .hbm, ⟨12, _⟩ => ⟨S50x131072, .i32⟩
  | .hbm, ⟨13, _⟩ => ⟨S131072x50, .f32⟩
  | .hbm, ⟨14, _⟩ => ⟨S131072x50, .i32⟩
  | .local .scVector .vmem, ⟨0, _⟩ => ⟨S4x256, .f32⟩
  | .local .scVector .vmem, ⟨1, _⟩ => ⟨S256x16, .f32⟩
  | .local .scVector .vmem, ⟨2, _⟩ => ⟨S50x256, .f32⟩
  | .local .scVector .vmem, ⟨3, _⟩ => ⟨S50x256, .i32⟩
  | .local .scVector .vmem, ⟨4, _⟩ => ⟨S50x256, .f32⟩
  | .local .scVector .vmem, ⟨5, _⟩ => ⟨S50x256, .i32⟩
  | _, _ => ⟨S131072x4, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 7 → Bool
  | ⟨0, _⟩ => false
  | ⟨1, _⟩ => false
  | ⟨2, _⟩ => false
  | ⟨3, _⟩ => false
  | ⟨4, _⟩ => false
  | ⟨5, _⟩ => false
  | ⟨6, _⟩ => false
  | _ => false

abbrev sig : RefSig :=
  ofTables nBuf rfl bufTy 4 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9_0 : Ref sig .tc := ⟨.hbm, 11, rfl⟩
abbrev main_v9_1 : Ref sig .tc := ⟨.hbm, 12, rfl⟩
abbrev main_v10 : Ref sig .tc := ⟨.hbm, 13, rfl⟩
abbrev main_v11 : Ref sig .tc := ⟨.hbm, 14, rfl⟩
abbrev main_v5_scv : Ref sig .scVector := ⟨.hbm, 7, rfl⟩
abbrev main_v8_scv : Ref sig .scVector := ⟨.hbm, 10, rfl⟩
abbrev main_v9_0_scv : Ref sig .scVector := ⟨.hbm, 11, rfl⟩
abbrev main_v9_1_scv : Ref sig .scVector := ⟨.hbm, 12, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [BitOps F]

abbrev grid0 : Pipeline.Grid := ⟨2, ![2, 16], ![false, false]⟩

def k0_off1 (i : grid0.Coords) (c0_i32 : BitVec 32) : Fin 2 → Nat :=
  let c0_i32_28_r1 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4096_i32 : BitVec 32 := 4096#32
  let v2 : BitVec 32 := Scalar.muli v1 c4096_i32
  let v3 : BitVec 32 := Scalar.addi v2 c0_i32
  ![0, v3.toNat]
@[reducible] def k0_t1_loop : Scf.Loop 32 :=
  let c0_i32_1 : BitVec 32 := 0#32
  let c16_i32 : BitVec 32 := 16#32
  let v4 : BitVec 32 := Scalar.addi c0_i32_1 c16_i32
  let c1_i32 : BitVec 32 := 1#32
  ⟨c0_i32_1, v4, c1_i32⟩
def k0_off2 (k0_t1 : Fin k0_t1_loop.trips) : Fin 2 → Nat :=
  let c0_i32_29 : BitVec 32 := 0#32
  let v25 : Index := Scalar.indexCast c0_i32_29
  let c0_i32_1 : BitVec 32 := 0#32
  let c1_i32 : BitVec 32 := 1#32
  let arg14 : BitVec 32 := Scf.iv c0_i32_1 c1_i32 k0_t1
  let c16_i32_28 : BitVec 32 := 16#32
  let v24 : BitVec 32 := Scalar.muli arg14 c16_i32_28
  let v26 : Index := Scalar.indexCast v24
  ![0, v26.toNat]
def k0_off3 (k0_t1 : Fin k0_t1_loop.trips) : Fin 2 → Nat :=
  let c1_i32_30 : BitVec 32 := 1#32
  let v29 : Index := Scalar.indexCast c1_i32_30
  let c0_i32_1 : BitVec 32 := 0#32
  let c1_i32 : BitVec 32 := 1#32
  let arg14 : BitVec 32 := Scf.iv c0_i32_1 c1_i32 k0_t1
  let c16_i32_28 : BitVec 32 := 16#32
  let v24 : BitVec 32 := Scalar.muli arg14 c16_i32_28
  let v30 : Index := Scalar.indexCast v24
  ![1, v30.toNat]
def k0_off4 (k0_t1 : Fin k0_t1_loop.trips) : Fin 2 → Nat :=
  let c2_i32_31 : BitVec 32 := 2#32
  let v33 : Index := Scalar.indexCast c2_i32_31
  let c0_i32_1 : BitVec 32 := 0#32
  let c1_i32 : BitVec 32 := 1#32
  let arg14 : BitVec 32 := Scf.iv c0_i32_1 c1_i32 k0_t1
  let c16_i32_28 : BitVec 32 := 16#32
  let v24 : BitVec 32 := Scalar.muli arg14 c16_i32_28
  let v34 : Index := Scalar.indexCast v24
  ![2, v34.toNat]
def k0_off5 (k0_t1 : Fin k0_t1_loop.trips) : Fin 2 → Nat :=
  let c3_i32 : BitVec 32 := 3#32
  let v37 : Index := Scalar.indexCast c3_i32
  let c0_i32_1 : BitVec 32 := 0#32
  let c1_i32 : BitVec 32 := 1#32
  let arg14 : BitVec 32 := Scf.iv c0_i32_1 c1_i32 k0_t1
  let c16_i32_28 : BitVec 32 := 16#32
  let v24 : BitVec 32 := Scalar.muli arg14 c16_i32_28
  let v38 : Index := Scalar.indexCast v24
  ![3, v38.toNat]
def k0_off6 (k0_t1 : Fin k0_t1_loop.trips) : Fin 2 → Nat :=
  let c0_i32_553 : BitVec 32 := 0#32
  let v2956 : Index := Scalar.indexCast c0_i32_553
  let c0_i32_1 : BitVec 32 := 0#32
  let c1_i32 : BitVec 32 := 1#32
  let arg14 : BitVec 32 := Scf.iv c0_i32_1 c1_i32 k0_t1
  let c16_i32_28 : BitVec 32 := 16#32
  let v24 : BitVec 32 := Scalar.muli arg14 c16_i32_28
  let v2957 : Index := Scalar.indexCast v24
  ![0, v2957.toNat]
def k0_off7 (k0_t1 : Fin k0_t1_loop.trips) : Fin 2 → Nat :=
  let c1_i32_562 : BitVec 32 := 1#32
  let v2981 : Index := Scalar.indexCast c1_i32_562
  let c0_i32_1 : BitVec 32 := 0#32
  let c1_i32 : BitVec 32 := 1#32
  let arg14 : BitVec 32 := Scf.iv c0_i32_1 c1_i32 k0_t1
  let c16_i32_28 : BitVec 32 := 16#32
  let v24 : BitVec 32 := Scalar.muli arg14 c16_i32_28
  let v2982 : Index := Scalar.indexCast v24
  ![1, v2982.toNat]
def k0_off8 (k0_t1 : Fin k0_t1_loop.trips) : Fin 2 → Nat :=
  let c2_i32_571 : BitVec 32 := 2#32
  let v3006 : Index := Scalar.indexCast c2_i32_571
  let c0_i32_1 : BitVec 32 := 0#32
  let c1_i32 : BitVec 32 := 1#32
  let arg14 : BitVec 32 := Scf.iv c0_i32_1 c1_i32 k0_t1
  let c16_i32_28 : BitVec 32 := 16#32
  let v24 : BitVec 32 := Scalar.muli arg14 c16_i32_28
  let v3007 : Index := Scalar.indexCast v24
  ![2, v3007.toNat]
def k0_off9 (k0_t1 : Fin k0_t1_loop.trips) : Fin 2 → Nat :=
  let c3_i32_580 : BitVec 32 := 3#32
  let v3031 : Index := Scalar.indexCast c3_i32_580
  let c0_i32_1 : BitVec 32 := 0#32
  let c1_i32 : BitVec 32 := 1#32
  let arg14 : BitVec 32 := Scf.iv c0_i32_1 c1_i32 k0_t1
  let c16_i32_28 : BitVec 32 := 16#32
  let v24 : BitVec 32 := Scalar.muli arg14 c16_i32_28
  let v3032 : Index := Scalar.indexCast v24
  ![3, v3032.toNat]
def k0_off10 (k0_t1 : Fin k0_t1_loop.trips) : Fin 2 → Nat :=
  let c4_i32_589 : BitVec 32 := 4#32
  let v3056 : Index := Scalar.indexCast c4_i32_589
  let c0_i32_1 : BitVec 32 := 0#32
  let c1_i32 : BitVec 32 := 1#32
  let arg14 : BitVec 32 := Scf.iv c0_i32_1 c1_i32 k0_t1
  let c16_i32_28 : BitVec 32 := 16#32
  let v24 : BitVec 32 := Scalar.muli arg14 c16_i32_28
  let v3057 : Index := Scalar.indexCast v24
  ![4, v3057.toNat]
def k0_off11 (k0_t1 : Fin k0_t1_loop.trips) : Fin 2 → Nat :=
  let c5_i32_598 : BitVec 32 := 5#32
  let v3081 : Index := Scalar.indexCast c5_i32_598
  let c0_i32_1 : BitVec 32 := 0#32
  let c1_i32 : BitVec 32 := 1#32
  let arg14 : BitVec 32 := Scf.iv c0_i32_1 c1_i32 k0_t1
  let c16_i32_28 : BitVec 32 := 16#32
  let v24 : BitVec 32 := Scalar.muli arg14 c16_i32_28
  let v3082 : Index := Scalar.indexCast v24
  ![5, v3082.toNat]
def k0_off12 (k0_t1 : Fin k0_t1_loop.trips) : Fin 2 → Nat :=
  let c6_i32_607 : BitVec 32 := 6#32
  let v3106 : Index := Scalar.indexCast c6_i32_607
  let c0_i32_1 : BitVec 32 := 0#32
  let c1_i32 : BitVec 32 := 1#32
  let arg14 : BitVec 32 := Scf.iv c0_i32_1 c1_i32 k0_t1
  let c16_i32_28 : BitVec 32 := 16#32
  let v24 : BitVec 32 := Scalar.muli arg14 c16_i32_28
  let v3107 : Index := Scalar.indexCast v24
  ![6, v3107.toNat]
def k0_off13 (k0_t1 : Fin k0_t1_loop.trips) : Fin 2 → Nat :=
  let c7_i32_616 : BitVec 32 := 7#32
  let v3131 : Index := Scalar.indexCast c7_i32_616
  let c0_i32_1 : BitVec 32 := 0#32
  let c1_i32 : BitVec 32 := 1#32
  let arg14 : BitVec 32 := Scf.iv c0_i32_1 c1_i32 k0_t1
  let c16_i32_28 : BitVec 32 := 16#32
  let v24 : BitVec 32 := Scalar.muli arg14 c16_i32_28
  let v3132 : Index := Scalar.indexCast v24
  ![7, v3132.toNat]
def k0_off14 (k0_t1 : Fin k0_t1_loop.trips) : Fin 2 → Nat :=
  let c8_i32_625 : BitVec 32 := 8#32
  let v3156 : Index := Scalar.indexCast c8_i32_625
  let c0_i32_1 : BitVec 32 := 0#32
  let c1_i32 : BitVec 32 := 1#32
  let arg14 : BitVec 32 := Scf.iv c0_i32_1 c1_i32 k0_t1
  let c16_i32_28 : BitVec 32 := 16#32
  let v24 : BitVec 32 := Scalar.muli arg14 c16_i32_28
  let v3157 : Index := Scalar.indexCast v24
  ![8, v3157.toNat]
def k0_off15 (k0_t1 : Fin k0_t1_loop.trips) : Fin 2 → Nat :=
  let c9_i32_634 : BitVec 32 := 9#32
  let v3181 : Index := Scalar.indexCast c9_i32_634
  let c0_i32_1 : BitVec 32 := 0#32
  let c1_i32 : BitVec 32 := 1#32
  let arg14 : BitVec 32 := Scf.iv c0_i32_1 c1_i32 k0_t1
  let c16_i32_28 : BitVec 32 := 16#32
  let v24 : BitVec 32 := Scalar.muli arg14 c16_i32_28
  let v3182 : Index := Scalar.indexCast v24
  ![9, v3182.toNat]
def k0_off16 (k0_t1 : Fin k0_t1_loop.trips) : Fin 2 → Nat :=
  let c10_i32_643 : BitVec 32 := 10#32
  let v3206 : Index := Scalar.indexCast c10_i32_643
  let c0_i32_1 : BitVec 32 := 0#32
  let c1_i32 : BitVec 32 := 1#32
  let arg14 : BitVec 32 := Scf.iv c0_i32_1 c1_i32 k0_t1
  let c16_i32_28 : BitVec 32 := 16#32
  let v24 : BitVec 32 := Scalar.muli arg14 c16_i32_28
  let v3207 : Index := Scalar.indexCast v24
  ![10, v3207.toNat]
def k0_off17 (k0_t1 : Fin k0_t1_loop.trips) : Fin 2 → Nat :=
  let c11_i32_652 : BitVec 32 := 11#32
  let v3231 : Index := Scalar.indexCast c11_i32_652
  let c0_i32_1 : BitVec 32 := 0#32
  let c1_i32 : BitVec 32 := 1#32
  let arg14 : BitVec 32 := Scf.iv c0_i32_1 c1_i32 k0_t1
  let c16_i32_28 : BitVec 32 := 16#32
  let v24 : BitVec 32 := Scalar.muli arg14 c16_i32_28
  let v3232 : Index := Scalar.indexCast v24
  ![11, v3232.toNat]
def k0_off18 (k0_t1 : Fin k0_t1_loop.trips) : Fin 2 → Nat :=
  let c12_i32_661 : BitVec 32 := 12#32
  let v3256 : Index := Scalar.indexCast c12_i32_661
  let c0_i32_1 : BitVec 32 := 0#32
  let c1_i32 : BitVec 32 := 1#32
  let arg14 : BitVec 32 := Scf.iv c0_i32_1 c1_i32 k0_t1
  let c16_i32_28 : BitVec 32 := 16#32
  let v24 : BitVec 32 := Scalar.muli arg14 c16_i32_28
  let v3257 : Index := Scalar.indexCast v24
  ![12, v3257.toNat]
def k0_off19 (k0_t1 : Fin k0_t1_loop.trips) : Fin 2 → Nat :=
  let c13_i32_670 : BitVec 32 := 13#32
  let v3281 : Index := Scalar.indexCast c13_i32_670
  let c0_i32_1 : BitVec 32 := 0#32
  let c1_i32 : BitVec 32 := 1#32
  let arg14 : BitVec 32 := Scf.iv c0_i32_1 c1_i32 k0_t1
  let c16_i32_28 : BitVec 32 := 16#32
  let v24 : BitVec 32 := Scalar.muli arg14 c16_i32_28
  let v3282 : Index := Scalar.indexCast v24
  ![13, v3282.toNat]
def k0_off20 (k0_t1 : Fin k0_t1_loop.trips) : Fin 2 → Nat :=
  let c14_i32_679 : BitVec 32 := 14#32
  let v3306 : Index := Scalar.indexCast c14_i32_679
  let c0_i32_1 : BitVec 32 := 0#32
  let c1_i32 : BitVec 32 := 1#32
  let arg14 : BitVec 32 := Scf.iv c0_i32_1 c1_i32 k0_t1
  let c16_i32_28 : BitVec 32 := 16#32
  let v24 : BitVec 32 := Scalar.muli arg14 c16_i32_28
  let v3307 : Index := Scalar.indexCast v24
  ![14, v3307.toNat]
def k0_off21 (k0_t1 : Fin k0_t1_loop.trips) : Fin 2 → Nat :=
  let c15_i32_688 : BitVec 32 := 15#32
  let v3331 : Index := Scalar.indexCast c15_i32_688
  let c0_i32_1 : BitVec 32 := 0#32
  let c1_i32 : BitVec 32 := 1#32
  let arg14 : BitVec 32 := Scf.iv c0_i32_1 c1_i32 k0_t1
  let c16_i32_28 : BitVec 32 := 16#32
  let v24 : BitVec 32 := Scalar.muli arg14 c16_i32_28
  let v3332 : Index := Scalar.indexCast v24
  ![15, v3332.toNat]
def k0_off22 (k0_t1 : Fin k0_t1_loop.trips) : Fin 2 → Nat :=
  let c16_i32_697 : BitVec 32 := 16#32
  let v3356 : Index := Scalar.indexCast c16_i32_697
  let c0_i32_1 : BitVec 32 := 0#32
  let c1_i32 : BitVec 32 := 1#32
  let arg14 : BitVec 32 := Scf.iv c0_i32_1 c1_i32 k0_t1
  let c16_i32_28 : BitVec 32 := 16#32
  let v24 : BitVec 32 := Scalar.muli arg14 c16_i32_28
  let v3357 : Index := Scalar.indexCast v24
  ![16, v3357.toNat]
def k0_off23 (k0_t1 : Fin k0_t1_loop.trips) : Fin 2 → Nat :=
  let c17_i32_706 : BitVec 32 := 17#32
  let v3381 : Index := Scalar.indexCast c17_i32_706
  let c0_i32_1 : BitVec 32 := 0#32
  let c1_i32 : BitVec 32 := 1#32
  let arg14 : BitVec 32 := Scf.iv c0_i32_1 c1_i32 k0_t1
  let c16_i32_28 : BitVec 32 := 16#32
  let v24 : BitVec 32 := Scalar.muli arg14 c16_i32_28
  let v3382 : Index := Scalar.indexCast v24
  ![17, v3382.toNat]
def k0_off24 (k0_t1 : Fin k0_t1_loop.trips) : Fin 2 → Nat :=
  let c18_i32_715 : BitVec 32 := 18#32
  let v3406 : Index := Scalar.indexCast c18_i32_715
  let c0_i32_1 : BitVec 32 := 0#32
  let c1_i32 : BitVec 32 := 1#32
  let arg14 : BitVec 32 := Scf.iv c0_i32_1 c1_i32 k0_t1
  let c16_i32_28 : BitVec 32 := 16#32
  let v24 : BitVec 32 := Scalar.muli arg14 c16_i32_28
  let v3407 : Index := Scalar.indexCast v24
  ![18, v3407.toNat]
def k0_off25 (k0_t1 : Fin k0_t1_loop.trips) : Fin 2 → Nat :=
  let c19_i32_724 : BitVec 32 := 19#32
  let v3431 : Index := Scalar.indexCast c19_i32_724
  let c0_i32_1 : BitVec 32 := 0#32
  let c1_i32 : BitVec 32 := 1#32
  let arg14 : BitVec 32 := Scf.iv c0_i32_1 c1_i32 k0_t1
  let c16_i32_28 : BitVec 32 := 16#32
  let v24 : BitVec 32 := Scalar.muli arg14 c16_i32_28
  let v3432 : Index := Scalar.indexCast v24
  ![19, v3432.toNat]
def k0_off26 (k0_t1 : Fin k0_t1_loop.trips) : Fin 2 → Nat :=
  let c20_i32_733 : BitVec 32 := 20#32
  let v3456 : Index := Scalar.indexCast c20_i32_733
  let c0_i32_1 : BitVec 32 := 0#32
  let c1_i32 : BitVec 32 := 1#32
  let arg14 : BitVec 32 := Scf.iv c0_i32_1 c1_i32 k0_t1
  let c16_i32_28 : BitVec 32 := 16#32
  let v24 : BitVec 32 := Scalar.muli arg14 c16_i32_28
  let v3457 : Index := Scalar.indexCast v24
  ![20, v3457.toNat]
def k0_off27 (k0_t1 : Fin k0_t1_loop.trips) : Fin 2 → Nat :=
  let c21_i32_742 : BitVec 32 := 21#32
  let v3481 : Index := Scalar.indexCast c21_i32_742
  let c0_i32_1 : BitVec 32 := 0#32
  let c1_i32 : BitVec 32 := 1#32
  let arg14 : BitVec 32 := Scf.iv c0_i32_1 c1_i32 k0_t1
  let c16_i32_28 : BitVec 32 := 16#32
  let v24 : BitVec 32 := Scalar.muli arg14 c16_i32_28
  let v3482 : Index := Scalar.indexCast v24
  ![21, v3482.toNat]
def k0_off28 (k0_t1 : Fin k0_t1_loop.trips) : Fin 2 → Nat :=
  let c22_i32_751 : BitVec 32 := 22#32
  let v3506 : Index := Scalar.indexCast c22_i32_751
  let c0_i32_1 : BitVec 32 := 0#32
  let c1_i32 : BitVec 32 := 1#32
  let arg14 : BitVec 32 := Scf.iv c0_i32_1 c1_i32 k0_t1
  let c16_i32_28 : BitVec 32 := 16#32
  let v24 : BitVec 32 := Scalar.muli arg14 c16_i32_28
  let v3507 : Index := Scalar.indexCast v24
  ![22, v3507.toNat]
def k0_off29 (k0_t1 : Fin k0_t1_loop.trips) : Fin 2 → Nat :=
  let c23_i32_760 : BitVec 32 := 23#32
  let v3531 : Index := Scalar.indexCast c23_i32_760
  let c0_i32_1 : BitVec 32 := 0#32
  let c1_i32 : BitVec 32 := 1#32
  let arg14 : BitVec 32 := Scf.iv c0_i32_1 c1_i32 k0_t1
  let c16_i32_28 : BitVec 32 := 16#32
  let v24 : BitVec 32 := Scalar.muli arg14 c16_i32_28
  let v3532 : Index := Scalar.indexCast v24
  ![23, v3532.toNat]
def k0_off30 (k0_t1 : Fin k0_t1_loop.trips) : Fin 2 → Nat :=
  let c24_i32_769 : BitVec 32 := 24#32
  let v3556 : Index := Scalar.indexCast c24_i32_769
  let c0_i32_1 : BitVec 32 := 0#32
  let c1_i32 : BitVec 32 := 1#32
  let arg14 : BitVec 32 := Scf.iv c0_i32_1 c1_i32 k0_t1
  let c16_i32_28 : BitVec 32 := 16#32
  let v24 : BitVec 32 := Scalar.muli arg14 c16_i32_28
  let v3557 : Index := Scalar.indexCast v24
  ![24, v3557.toNat]
def k0_off31 (k0_t1 : Fin k0_t1_loop.trips) : Fin 2 → Nat :=
  let c25_i32_778 : BitVec 32 := 25#32
  let v3581 : Index := Scalar.indexCast c25_i32_778
  let c0_i32_1 : BitVec 32 := 0#32
  let c1_i32 : BitVec 32 := 1#32
  let arg14 : BitVec 32 := Scf.iv c0_i32_1 c1_i32 k0_t1
  let c16_i32_28 : BitVec 32 := 16#32
  let v24 : BitVec 32 := Scalar.muli arg14 c16_i32_28
  let v3582 : Index := Scalar.indexCast v24
  ![25, v3582.toNat]
def k0_off32 (k0_t1 : Fin k0_t1_loop.trips) : Fin 2 → Nat :=
  let c26_i32_787 : BitVec 32 := 26#32
  let v3606 : Index := Scalar.indexCast c26_i32_787
  let c0_i32_1 : BitVec 32 := 0#32
  let c1_i32 : BitVec 32 := 1#32
  let arg14 : BitVec 32 := Scf.iv c0_i32_1 c1_i32 k0_t1
  let c16_i32_28 : BitVec 32 := 16#32
  let v24 : BitVec 32 := Scalar.muli arg14 c16_i32_28
  let v3607 : Index := Scalar.indexCast v24
  ![26, v3607.toNat]
def k0_off33 (k0_t1 : Fin k0_t1_loop.trips) : Fin 2 → Nat :=
  let c27_i32_796 : BitVec 32 := 27#32
  let v3631 : Index := Scalar.indexCast c27_i32_796
  let c0_i32_1 : BitVec 32 := 0#32
  let c1_i32 : BitVec 32 := 1#32
  let arg14 : BitVec 32 := Scf.iv c0_i32_1 c1_i32 k0_t1
  let c16_i32_28 : BitVec 32 := 16#32
  let v24 : BitVec 32 := Scalar.muli arg14 c16_i32_28
  let v3632 : Index := Scalar.indexCast v24
  ![27, v3632.toNat]
def k0_off34 (k0_t1 : Fin k0_t1_loop.trips) : Fin 2 → Nat :=
  let c28_i32_805 : BitVec 32 := 28#32
  let v3656 : Index := Scalar.indexCast c28_i32_805
  let c0_i32_1 : BitVec 32 := 0#32
  let c1_i32 : BitVec 32 := 1#32
  let arg14 : BitVec 32 := Scf.iv c0_i32_1 c1_i32 k0_t1
  let c16_i32_28 : BitVec 32 := 16#32
  let v24 : BitVec 32 := Scalar.muli arg14 c16_i32_28
  let v3657 : Index := Scalar.indexCast v24
  ![28, v3657.toNat]
def k0_off35 (k0_t1 : Fin k0_t1_loop.trips) : Fin 2 → Nat :=
  let c29_i32_814 : BitVec 32 := 29#32
  let v3681 : Index := Scalar.indexCast c29_i32_814
  let c0_i32_1 : BitVec 32 := 0#32
  let c1_i32 : BitVec 32 := 1#32
  let arg14 : BitVec 32 := Scf.iv c0_i32_1 c1_i32 k0_t1
  let c16_i32_28 : BitVec 32 := 16#32
  let v24 : BitVec 32 := Scalar.muli arg14 c16_i32_28
  let v3682 : Index := Scalar.indexCast v24
  ![29, v3682.toNat]
def k0_off36 (k0_t1 : Fin k0_t1_loop.trips) : Fin 2 → Nat :=
  let c30_i32_823 : BitVec 32 := 30#32
  let v3706 : Index := Scalar.indexCast c30_i32_823
  let c0_i32_1 : BitVec 32 := 0#32
  let c1_i32 : BitVec 32 := 1#32
  let arg14 : BitVec 32 := Scf.iv c0_i32_1 c1_i32 k0_t1
  let c16_i32_28 : BitVec 32 := 16#32
  let v24 : BitVec 32 := Scalar.muli arg14 c16_i32_28
  let v3707 : Index := Scalar.indexCast v24
  ![30, v3707.toNat]
def k0_off37 (k0_t1 : Fin k0_t1_loop.trips) : Fin 2 → Nat :=
  let c31_i32_832 : BitVec 32 := 31#32
  let v3731 : Index := Scalar.indexCast c31_i32_832
  let c0_i32_1 : BitVec 32 := 0#32
  let c1_i32 : BitVec 32 := 1#32
  let arg14 : BitVec 32 := Scf.iv c0_i32_1 c1_i32 k0_t1
  let c16_i32_28 : BitVec 32 := 16#32
  let v24 : BitVec 32 := Scalar.muli arg14 c16_i32_28
  let v3732 : Index := Scalar.indexCast v24
  ![31, v3732.toNat]
def k0_off38 (k0_t1 : Fin k0_t1_loop.trips) : Fin 2 → Nat :=
  let c32_i32_841 : BitVec 32 := 32#32
  let v3756 : Index := Scalar.indexCast c32_i32_841
  let c0_i32_1 : BitVec 32 := 0#32
  let c1_i32 : BitVec 32 := 1#32
  let arg14 : BitVec 32 := Scf.iv c0_i32_1 c1_i32 k0_t1
  let c16_i32_28 : BitVec 32 := 16#32
  let v24 : BitVec 32 := Scalar.muli arg14 c16_i32_28
  let v3757 : Index := Scalar.indexCast v24
  ![32, v3757.toNat]
def k0_off39 (k0_t1 : Fin k0_t1_loop.trips) : Fin 2 → Nat :=
  let c33_i32_850 : BitVec 32 := 33#32
  let v3781 : Index := Scalar.indexCast c33_i32_850
  let c0_i32_1 : BitVec 32 := 0#32
  let c1_i32 : BitVec 32 := 1#32
  let arg14 : BitVec 32 := Scf.iv c0_i32_1 c1_i32 k0_t1
  let c16_i32_28 : BitVec 32 := 16#32
  let v24 : BitVec 32 := Scalar.muli arg14 c16_i32_28
  let v3782 : Index := Scalar.indexCast v24
  ![33, v3782.toNat]
def k0_off40 (k0_t1 : Fin k0_t1_loop.trips) : Fin 2 → Nat :=
  let c34_i32_859 : BitVec 32 := 34#32
  let v3806 : Index := Scalar.indexCast c34_i32_859
  let c0_i32_1 : BitVec 32 := 0#32
  let c1_i32 : BitVec 32 := 1#32
  let arg14 : BitVec 32 := Scf.iv c0_i32_1 c1_i32 k0_t1
  let c16_i32_28 : BitVec 32 := 16#32
  let v24 : BitVec 32 := Scalar.muli arg14 c16_i32_28
  let v3807 : Index := Scalar.indexCast v24
  ![34, v3807.toNat]
def k0_off41 (k0_t1 : Fin k0_t1_loop.trips) : Fin 2 → Nat :=
  let c35_i32_868 : BitVec 32 := 35#32
  let v3831 : Index := Scalar.indexCast c35_i32_868
  let c0_i32_1 : BitVec 32 := 0#32
  let c1_i32 : BitVec 32 := 1#32
  let arg14 : BitVec 32 := Scf.iv c0_i32_1 c1_i32 k0_t1
  let c16_i32_28 : BitVec 32 := 16#32
  let v24 : BitVec 32 := Scalar.muli arg14 c16_i32_28
  let v3832 : Index := Scalar.indexCast v24
  ![35, v3832.toNat]
def k0_off42 (k0_t1 : Fin k0_t1_loop.trips) : Fin 2 → Nat :=
  let c36_i32_877 : BitVec 32 := 36#32
  let v3856 : Index := Scalar.indexCast c36_i32_877
  let c0_i32_1 : BitVec 32 := 0#32
  let c1_i32 : BitVec 32 := 1#32
  let arg14 : BitVec 32 := Scf.iv c0_i32_1 c1_i32 k0_t1
  let c16_i32_28 : BitVec 32 := 16#32
  let v24 : BitVec 32 := Scalar.muli arg14 c16_i32_28
  let v3857 : Index := Scalar.indexCast v24
  ![36, v3857.toNat]
def k0_off43 (k0_t1 : Fin k0_t1_loop.trips) : Fin 2 → Nat :=
  let c37_i32_886 : BitVec 32 := 37#32
  let v3881 : Index := Scalar.indexCast c37_i32_886
  let c0_i32_1 : BitVec 32 := 0#32
  let c1_i32 : BitVec 32 := 1#32
  let arg14 : BitVec 32 := Scf.iv c0_i32_1 c1_i32 k0_t1
  let c16_i32_28 : BitVec 32 := 16#32
  let v24 : BitVec 32 := Scalar.muli arg14 c16_i32_28
  let v3882 : Index := Scalar.indexCast v24
  ![37, v3882.toNat]
def k0_off44 (k0_t1 : Fin k0_t1_loop.trips) : Fin 2 → Nat :=
  let c38_i32_895 : BitVec 32 := 38#32
  let v3906 : Index := Scalar.indexCast c38_i32_895
  let c0_i32_1 : BitVec 32 := 0#32
  let c1_i32 : BitVec 32 := 1#32
  let arg14 : BitVec 32 := Scf.iv c0_i32_1 c1_i32 k0_t1
  let c16_i32_28 : BitVec 32 := 16#32
  let v24 : BitVec 32 := Scalar.muli arg14 c16_i32_28
  let v3907 : Index := Scalar.indexCast v24
  ![38, v3907.toNat]
def k0_off45 (k0_t1 : Fin k0_t1_loop.trips) : Fin 2 → Nat :=
  let c39_i32_904 : BitVec 32 := 39#32
  let v3931 : Index := Scalar.indexCast c39_i32_904
  let c0_i32_1 : BitVec 32 := 0#32
  let c1_i32 : BitVec 32 := 1#32
  let arg14 : BitVec 32 := Scf.iv c0_i32_1 c1_i32 k0_t1
  let c16_i32_28 : BitVec 32 := 16#32
  let v24 : BitVec 32 := Scalar.muli arg14 c16_i32_28
  let v3932 : Index := Scalar.indexCast v24
  ![39, v3932.toNat]
def k0_off46 (k0_t1 : Fin k0_t1_loop.trips) : Fin 2 → Nat :=
  let c40_i32_913 : BitVec 32 := 40#32
  let v3956 : Index := Scalar.indexCast c40_i32_913
  let c0_i32_1 : BitVec 32 := 0#32
  let c1_i32 : BitVec 32 := 1#32
  let arg14 : BitVec 32 := Scf.iv c0_i32_1 c1_i32 k0_t1
  let c16_i32_28 : BitVec 32 := 16#32
  let v24 : BitVec 32 := Scalar.muli arg14 c16_i32_28
  let v3957 : Index := Scalar.indexCast v24
  ![40, v3957.toNat]
def k0_off47 (k0_t1 : Fin k0_t1_loop.trips) : Fin 2 → Nat :=
  let c41_i32_922 : BitVec 32 := 41#32
  let v3981 : Index := Scalar.indexCast c41_i32_922
  let c0_i32_1 : BitVec 32 := 0#32
  let c1_i32 : BitVec 32 := 1#32
  let arg14 : BitVec 32 := Scf.iv c0_i32_1 c1_i32 k0_t1
  let c16_i32_28 : BitVec 32 := 16#32
  let v24 : BitVec 32 := Scalar.muli arg14 c16_i32_28
  let v3982 : Index := Scalar.indexCast v24
  ![41, v3982.toNat]
def k0_off48 (k0_t1 : Fin k0_t1_loop.trips) : Fin 2 → Nat :=
  let c42_i32_931 : BitVec 32 := 42#32
  let v4006 : Index := Scalar.indexCast c42_i32_931
  let c0_i32_1 : BitVec 32 := 0#32
  let c1_i32 : BitVec 32 := 1#32
  let arg14 : BitVec 32 := Scf.iv c0_i32_1 c1_i32 k0_t1
  let c16_i32_28 : BitVec 32 := 16#32
  let v24 : BitVec 32 := Scalar.muli arg14 c16_i32_28
  let v4007 : Index := Scalar.indexCast v24
  ![42, v4007.toNat]
def k0_off49 (k0_t1 : Fin k0_t1_loop.trips) : Fin 2 → Nat :=
  let c43_i32_940 : BitVec 32 := 43#32
  let v4031 : Index := Scalar.indexCast c43_i32_940
  let c0_i32_1 : BitVec 32 := 0#32
  let c1_i32 : BitVec 32 := 1#32
  let arg14 : BitVec 32 := Scf.iv c0_i32_1 c1_i32 k0_t1
  let c16_i32_28 : BitVec 32 := 16#32
  let v24 : BitVec 32 := Scalar.muli arg14 c16_i32_28
  let v4032 : Index := Scalar.indexCast v24
  ![43, v4032.toNat]
def k0_off50 (k0_t1 : Fin k0_t1_loop.trips) : Fin 2 → Nat :=
  let c44_i32_949 : BitVec 32 := 44#32
  let v4056 : Index := Scalar.indexCast c44_i32_949
  let c0_i32_1 : BitVec 32 := 0#32
  let c1_i32 : BitVec 32 := 1#32
  let arg14 : BitVec 32 := Scf.iv c0_i32_1 c1_i32 k0_t1
  let c16_i32_28 : BitVec 32 := 16#32
  let v24 : BitVec 32 := Scalar.muli arg14 c16_i32_28
  let v4057 : Index := Scalar.indexCast v24
  ![44, v4057.toNat]
def k0_off51 (k0_t1 : Fin k0_t1_loop.trips) : Fin 2 → Nat :=
  let c45_i32_958 : BitVec 32 := 45#32
  let v4081 : Index := Scalar.indexCast c45_i32_958
  let c0_i32_1 : BitVec 32 := 0#32
  let c1_i32 : BitVec 32 := 1#32
  let arg14 : BitVec 32 := Scf.iv c0_i32_1 c1_i32 k0_t1
  let c16_i32_28 : BitVec 32 := 16#32
  let v24 : BitVec 32 := Scalar.muli arg14 c16_i32_28
  let v4082 : Index := Scalar.indexCast v24
  ![45, v4082.toNat]
def k0_off52 (k0_t1 : Fin k0_t1_loop.trips) : Fin 2 → Nat :=
  let c46_i32_967 : BitVec 32 := 46#32
  let v4106 : Index := Scalar.indexCast c46_i32_967
  let c0_i32_1 : BitVec 32 := 0#32
  let c1_i32 : BitVec 32 := 1#32
  let arg14 : BitVec 32 := Scf.iv c0_i32_1 c1_i32 k0_t1
  let c16_i32_28 : BitVec 32 := 16#32
  let v24 : BitVec 32 := Scalar.muli arg14 c16_i32_28
  let v4107 : Index := Scalar.indexCast v24
  ![46, v4107.toNat]
def k0_off53 (k0_t1 : Fin k0_t1_loop.trips) : Fin 2 → Nat :=
  let c47_i32_976 : BitVec 32 := 47#32
  let v4131 : Index := Scalar.indexCast c47_i32_976
  let c0_i32_1 : BitVec 32 := 0#32
  let c1_i32 : BitVec 32 := 1#32
  let arg14 : BitVec 32 := Scf.iv c0_i32_1 c1_i32 k0_t1
  let c16_i32_28 : BitVec 32 := 16#32
  let v24 : BitVec 32 := Scalar.muli arg14 c16_i32_28
  let v4132 : Index := Scalar.indexCast v24
  ![47, v4132.toNat]
def k0_off54 (k0_t1 : Fin k0_t1_loop.trips) : Fin 2 → Nat :=
  let c48_i32_985 : BitVec 32 := 48#32
  let v4156 : Index := Scalar.indexCast c48_i32_985
  let c0_i32_1 : BitVec 32 := 0#32
  let c1_i32 : BitVec 32 := 1#32
  let arg14 : BitVec 32 := Scf.iv c0_i32_1 c1_i32 k0_t1
  let c16_i32_28 : BitVec 32 := 16#32
  let v24 : BitVec 32 := Scalar.muli arg14 c16_i32_28
  let v4157 : Index := Scalar.indexCast v24
  ![48, v4157.toNat]
def k0_off55 (k0_t1 : Fin k0_t1_loop.trips) : Fin 2 → Nat :=
  let c49_i32_994 : BitVec 32 := 49#32
  let v4181 : Index := Scalar.indexCast c49_i32_994
  let c0_i32_1 : BitVec 32 := 0#32
  let c1_i32 : BitVec 32 := 1#32
  let arg14 : BitVec 32 := Scf.iv c0_i32_1 c1_i32 k0_t1
  let c16_i32_28 : BitVec 32 := 16#32
  let v24 : BitVec 32 := Scalar.muli arg14 c16_i32_28
  let v4182 : Index := Scalar.indexCast v24
  ![49, v4182.toNat]
def k0_off56 (i : grid0.Coords) (c0_i32 : BitVec 32) : Fin 2 → Nat :=
  let c0_i32_3 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4096_i32 : BitVec 32 := 4096#32
  let v2 : BitVec 32 := Scalar.muli v1 c4096_i32
  let v3 : BitVec 32 := Scalar.addi v2 c0_i32
  ![0, v3.toNat]
@[reducible] def k0_t2_loop : Scf.Loop 32 :=
  let c0_i32_8 : BitVec 32 := 0#32
  let c16_i32_9 : BitVec 32 := 16#32
  let v10 : BitVec 32 := Scalar.addi c0_i32_8 c16_i32_9
  let c1_i32_10 : BitVec 32 := 1#32
  ⟨c0_i32_8, v10, c1_i32_10⟩
def k0_off57 (k0_t2 : Fin k0_t2_loop.trips) : Fin 2 → Nat :=
  let c0_i32_29 : BitVec 32 := 0#32
  let v25 : Index := Scalar.indexCast c0_i32_29
  let c0_i32_8 : BitVec 32 := 0#32
  let c1_i32_10 : BitVec 32 := 1#32
  let arg14 : BitVec 32 := Scf.iv c0_i32_8 c1_i32_10 k0_t2
  let c16_i32_28 : BitVec 32 := 16#32
  let v24 : BitVec 32 := Scalar.muli arg14 c16_i32_28
  let v26 : Index := Scalar.indexCast v24
  ![0, v26.toNat]
def k0_off58 (k0_t2 : Fin k0_t2_loop.trips) : Fin 2 → Nat :=
  let c1_i32_30 : BitVec 32 := 1#32
  let v29 : Index := Scalar.indexCast c1_i32_30
  let c0_i32_8 : BitVec 32 := 0#32
  let c1_i32_10 : BitVec 32 := 1#32
  let arg14 : BitVec 32 := Scf.iv c0_i32_8 c1_i32_10 k0_t2
  let c16_i32_28 : BitVec 32 := 16#32
  let v24 : BitVec 32 := Scalar.muli arg14 c16_i32_28
  let v30 : Index := Scalar.indexCast v24
  ![1, v30.toNat]
def k0_off59 (k0_t2 : Fin k0_t2_loop.trips) : Fin 2 → Nat :=
  let c2_i32_31 : BitVec 32 := 2#32
  let v33 : Index := Scalar.indexCast c2_i32_31
  let c0_i32_8 : BitVec 32 := 0#32
  let c1_i32_10 : BitVec 32 := 1#32
  let arg14 : BitVec 32 := Scf.iv c0_i32_8 c1_i32_10 k0_t2
  let c16_i32_28 : BitVec 32 := 16#32
  let v24 : BitVec 32 := Scalar.muli arg14 c16_i32_28
  let v34 : Index := Scalar.indexCast v24
  ![2, v34.toNat]
def k0_off60 (k0_t2 : Fin k0_t2_loop.trips) : Fin 2 → Nat :=
  let c3_i32 : BitVec 32 := 3#32
  let v37 : Index := Scalar.indexCast c3_i32
  let c0_i32_8 : BitVec 32 := 0#32
  let c1_i32_10 : BitVec 32 := 1#32
  let arg14 : BitVec 32 := Scf.iv c0_i32_8 c1_i32_10 k0_t2
  let c16_i32_28 : BitVec 32 := 16#32
  let v24 : BitVec 32 := Scalar.muli arg14 c16_i32_28
  let v38 : Index := Scalar.indexCast v24
  ![3, v38.toNat]
def k0_off61 (k0_t2 : Fin k0_t2_loop.trips) : Fin 2 → Nat :=
  let c0_i32_553 : BitVec 32 := 0#32
  let v2956 : Index := Scalar.indexCast c0_i32_553
  let c0_i32_8 : BitVec 32 := 0#32
  let c1_i32_10 : BitVec 32 := 1#32
  let arg14 : BitVec 32 := Scf.iv c0_i32_8 c1_i32_10 k0_t2
  let c16_i32_28 : BitVec 32 := 16#32
  let v24 : BitVec 32 := Scalar.muli arg14 c16_i32_28
  let v2957 : Index := Scalar.indexCast v24
  ![0, v2957.toNat]
def k0_off62 (k0_t2 : Fin k0_t2_loop.trips) : Fin 2 → Nat :=
  let c1_i32_562 : BitVec 32 := 1#32
  let v2981 : Index := Scalar.indexCast c1_i32_562
  let c0_i32_8 : BitVec 32 := 0#32
  let c1_i32_10 : BitVec 32 := 1#32
  let arg14 : BitVec 32 := Scf.iv c0_i32_8 c1_i32_10 k0_t2
  let c16_i32_28 : BitVec 32 := 16#32
  let v24 : BitVec 32 := Scalar.muli arg14 c16_i32_28
  let v2982 : Index := Scalar.indexCast v24
  ![1, v2982.toNat]
def k0_off63 (k0_t2 : Fin k0_t2_loop.trips) : Fin 2 → Nat :=
  let c2_i32_571 : BitVec 32 := 2#32
  let v3006 : Index := Scalar.indexCast c2_i32_571
  let c0_i32_8 : BitVec 32 := 0#32
  let c1_i32_10 : BitVec 32 := 1#32
  let arg14 : BitVec 32 := Scf.iv c0_i32_8 c1_i32_10 k0_t2
  let c16_i32_28 : BitVec 32 := 16#32
  let v24 : BitVec 32 := Scalar.muli arg14 c16_i32_28
  let v3007 : Index := Scalar.indexCast v24
  ![2, v3007.toNat]
def k0_off64 (k0_t2 : Fin k0_t2_loop.trips) : Fin 2 → Nat :=
  let c3_i32_580 : BitVec 32 := 3#32
  let v3031 : Index := Scalar.indexCast c3_i32_580
  let c0_i32_8 : BitVec 32 := 0#32
  let c1_i32_10 : BitVec 32 := 1#32
  let arg14 : BitVec 32 := Scf.iv c0_i32_8 c1_i32_10 k0_t2
  let c16_i32_28 : BitVec 32 := 16#32
  let v24 : BitVec 32 := Scalar.muli arg14 c16_i32_28
  let v3032 : Index := Scalar.indexCast v24
  ![3, v3032.toNat]
def k0_off65 (k0_t2 : Fin k0_t2_loop.trips) : Fin 2 → Nat :=
  let c4_i32_589 : BitVec 32 := 4#32
  let v3056 : Index := Scalar.indexCast c4_i32_589
  let c0_i32_8 : BitVec 32 := 0#32
  let c1_i32_10 : BitVec 32 := 1#32
  let arg14 : BitVec 32 := Scf.iv c0_i32_8 c1_i32_10 k0_t2
  let c16_i32_28 : BitVec 32 := 16#32
  let v24 : BitVec 32 := Scalar.muli arg14 c16_i32_28
  let v3057 : Index := Scalar.indexCast v24
  ![4, v3057.toNat]
def k0_off66 (k0_t2 : Fin k0_t2_loop.trips) : Fin 2 → Nat :=
  let c5_i32_598 : BitVec 32 := 5#32
  let v3081 : Index := Scalar.indexCast c5_i32_598
  let c0_i32_8 : BitVec 32 := 0#32
  let c1_i32_10 : BitVec 32 := 1#32
  let arg14 : BitVec 32 := Scf.iv c0_i32_8 c1_i32_10 k0_t2
  let c16_i32_28 : BitVec 32 := 16#32
  let v24 : BitVec 32 := Scalar.muli arg14 c16_i32_28
  let v3082 : Index := Scalar.indexCast v24
  ![5, v3082.toNat]
def k0_off67 (k0_t2 : Fin k0_t2_loop.trips) : Fin 2 → Nat :=
  let c6_i32_607 : BitVec 32 := 6#32
  let v3106 : Index := Scalar.indexCast c6_i32_607
  let c0_i32_8 : BitVec 32 := 0#32
  let c1_i32_10 : BitVec 32 := 1#32
  let arg14 : BitVec 32 := Scf.iv c0_i32_8 c1_i32_10 k0_t2
  let c16_i32_28 : BitVec 32 := 16#32
  let v24 : BitVec 32 := Scalar.muli arg14 c16_i32_28
  let v3107 : Index := Scalar.indexCast v24
  ![6, v3107.toNat]
def k0_off68 (k0_t2 : Fin k0_t2_loop.trips) : Fin 2 → Nat :=
  let c7_i32_616 : BitVec 32 := 7#32
  let v3131 : Index := Scalar.indexCast c7_i32_616
  let c0_i32_8 : BitVec 32 := 0#32
  let c1_i32_10 : BitVec 32 := 1#32
  let arg14 : BitVec 32 := Scf.iv c0_i32_8 c1_i32_10 k0_t2
  let c16_i32_28 : BitVec 32 := 16#32
  let v24 : BitVec 32 := Scalar.muli arg14 c16_i32_28
  let v3132 : Index := Scalar.indexCast v24
  ![7, v3132.toNat]
def k0_off69 (k0_t2 : Fin k0_t2_loop.trips) : Fin 2 → Nat :=
  let c8_i32_625 : BitVec 32 := 8#32
  let v3156 : Index := Scalar.indexCast c8_i32_625
  let c0_i32_8 : BitVec 32 := 0#32
  let c1_i32_10 : BitVec 32 := 1#32
  let arg14 : BitVec 32 := Scf.iv c0_i32_8 c1_i32_10 k0_t2
  let c16_i32_28 : BitVec 32 := 16#32
  let v24 : BitVec 32 := Scalar.muli arg14 c16_i32_28
  let v3157 : Index := Scalar.indexCast v24
  ![8, v3157.toNat]
def k0_off70 (k0_t2 : Fin k0_t2_loop.trips) : Fin 2 → Nat :=
  let c9_i32_634 : BitVec 32 := 9#32
  let v3181 : Index := Scalar.indexCast c9_i32_634
  let c0_i32_8 : BitVec 32 := 0#32
  let c1_i32_10 : BitVec 32 := 1#32
  let arg14 : BitVec 32 := Scf.iv c0_i32_8 c1_i32_10 k0_t2
  let c16_i32_28 : BitVec 32 := 16#32
  let v24 : BitVec 32 := Scalar.muli arg14 c16_i32_28
  let v3182 : Index := Scalar.indexCast v24
  ![9, v3182.toNat]
def k0_off71 (k0_t2 : Fin k0_t2_loop.trips) : Fin 2 → Nat :=
  let c10_i32_643 : BitVec 32 := 10#32
  let v3206 : Index := Scalar.indexCast c10_i32_643
  let c0_i32_8 : BitVec 32 := 0#32
  let c1_i32_10 : BitVec 32 := 1#32
  let arg14 : BitVec 32 := Scf.iv c0_i32_8 c1_i32_10 k0_t2
  let c16_i32_28 : BitVec 32 := 16#32
  let v24 : BitVec 32 := Scalar.muli arg14 c16_i32_28
  let v3207 : Index := Scalar.indexCast v24
  ![10, v3207.toNat]
def k0_off72 (k0_t2 : Fin k0_t2_loop.trips) : Fin 2 → Nat :=
  let c11_i32_652 : BitVec 32 := 11#32
  let v3231 : Index := Scalar.indexCast c11_i32_652
  let c0_i32_8 : BitVec 32 := 0#32
  let c1_i32_10 : BitVec 32 := 1#32
  let arg14 : BitVec 32 := Scf.iv c0_i32_8 c1_i32_10 k0_t2
  let c16_i32_28 : BitVec 32 := 16#32
  let v24 : BitVec 32 := Scalar.muli arg14 c16_i32_28
  let v3232 : Index := Scalar.indexCast v24
  ![11, v3232.toNat]
def k0_off73 (k0_t2 : Fin k0_t2_loop.trips) : Fin 2 → Nat :=
  let c12_i32_661 : BitVec 32 := 12#32
  let v3256 : Index := Scalar.indexCast c12_i32_661
  let c0_i32_8 : BitVec 32 := 0#32
  let c1_i32_10 : BitVec 32 := 1#32
  let arg14 : BitVec 32 := Scf.iv c0_i32_8 c1_i32_10 k0_t2
  let c16_i32_28 : BitVec 32 := 16#32
  let v24 : BitVec 32 := Scalar.muli arg14 c16_i32_28
  let v3257 : Index := Scalar.indexCast v24
  ![12, v3257.toNat]
def k0_off74 (k0_t2 : Fin k0_t2_loop.trips) : Fin 2 → Nat :=
  let c13_i32_670 : BitVec 32 := 13#32
  let v3281 : Index := Scalar.indexCast c13_i32_670
  let c0_i32_8 : BitVec 32 := 0#32
  let c1_i32_10 : BitVec 32 := 1#32
  let arg14 : BitVec 32 := Scf.iv c0_i32_8 c1_i32_10 k0_t2
  let c16_i32_28 : BitVec 32 := 16#32
  let v24 : BitVec 32 := Scalar.muli arg14 c16_i32_28
  let v3282 : Index := Scalar.indexCast v24
  ![13, v3282.toNat]
def k0_off75 (k0_t2 : Fin k0_t2_loop.trips) : Fin 2 → Nat :=
  let c14_i32_679 : BitVec 32 := 14#32
  let v3306 : Index := Scalar.indexCast c14_i32_679
  let c0_i32_8 : BitVec 32 := 0#32
  let c1_i32_10 : BitVec 32 := 1#32
  let arg14 : BitVec 32 := Scf.iv c0_i32_8 c1_i32_10 k0_t2
  let c16_i32_28 : BitVec 32 := 16#32
  let v24 : BitVec 32 := Scalar.muli arg14 c16_i32_28
  let v3307 : Index := Scalar.indexCast v24
  ![14, v3307.toNat]
def k0_off76 (k0_t2 : Fin k0_t2_loop.trips) : Fin 2 → Nat :=
  let c15_i32_688 : BitVec 32 := 15#32
  let v3331 : Index := Scalar.indexCast c15_i32_688
  let c0_i32_8 : BitVec 32 := 0#32
  let c1_i32_10 : BitVec 32 := 1#32
  let arg14 : BitVec 32 := Scf.iv c0_i32_8 c1_i32_10 k0_t2
  let c16_i32_28 : BitVec 32 := 16#32
  let v24 : BitVec 32 := Scalar.muli arg14 c16_i32_28
  let v3332 : Index := Scalar.indexCast v24
  ![15, v3332.toNat]
def k0_off77 (k0_t2 : Fin k0_t2_loop.trips) : Fin 2 → Nat :=
  let c16_i32_697 : BitVec 32 := 16#32
  let v3356 : Index := Scalar.indexCast c16_i32_697
  let c0_i32_8 : BitVec 32 := 0#32
  let c1_i32_10 : BitVec 32 := 1#32
  let arg14 : BitVec 32 := Scf.iv c0_i32_8 c1_i32_10 k0_t2
  let c16_i32_28 : BitVec 32 := 16#32
  let v24 : BitVec 32 := Scalar.muli arg14 c16_i32_28
  let v3357 : Index := Scalar.indexCast v24
  ![16, v3357.toNat]
def k0_off78 (k0_t2 : Fin k0_t2_loop.trips) : Fin 2 → Nat :=
  let c17_i32_706 : BitVec 32 := 17#32
  let v3381 : Index := Scalar.indexCast c17_i32_706
  let c0_i32_8 : BitVec 32 := 0#32
  let c1_i32_10 : BitVec 32 := 1#32
  let arg14 : BitVec 32 := Scf.iv c0_i32_8 c1_i32_10 k0_t2
  let c16_i32_28 : BitVec 32 := 16#32
  let v24 : BitVec 32 := Scalar.muli arg14 c16_i32_28
  let v3382 : Index := Scalar.indexCast v24
  ![17, v3382.toNat]
def k0_off79 (k0_t2 : Fin k0_t2_loop.trips) : Fin 2 → Nat :=
  let c18_i32_715 : BitVec 32 := 18#32
  let v3406 : Index := Scalar.indexCast c18_i32_715
  let c0_i32_8 : BitVec 32 := 0#32
  let c1_i32_10 : BitVec 32 := 1#32
  let arg14 : BitVec 32 := Scf.iv c0_i32_8 c1_i32_10 k0_t2
  let c16_i32_28 : BitVec 32 := 16#32
  let v24 : BitVec 32 := Scalar.muli arg14 c16_i32_28
  let v3407 : Index := Scalar.indexCast v24
  ![18, v3407.toNat]
def k0_off80 (k0_t2 : Fin k0_t2_loop.trips) : Fin 2 → Nat :=
  let c19_i32_724 : BitVec 32 := 19#32
  let v3431 : Index := Scalar.indexCast c19_i32_724
  let c0_i32_8 : BitVec 32 := 0#32
  let c1_i32_10 : BitVec 32 := 1#32
  let arg14 : BitVec 32 := Scf.iv c0_i32_8 c1_i32_10 k0_t2
  let c16_i32_28 : BitVec 32 := 16#32
  let v24 : BitVec 32 := Scalar.muli arg14 c16_i32_28
  let v3432 : Index := Scalar.indexCast v24
  ![19, v3432.toNat]
def k0_off81 (k0_t2 : Fin k0_t2_loop.trips) : Fin 2 → Nat :=
  let c20_i32_733 : BitVec 32 := 20#32
  let v3456 : Index := Scalar.indexCast c20_i32_733
  let c0_i32_8 : BitVec 32 := 0#32
  let c1_i32_10 : BitVec 32 := 1#32
  let arg14 : BitVec 32 := Scf.iv c0_i32_8 c1_i32_10 k0_t2
  let c16_i32_28 : BitVec 32 := 16#32
  let v24 : BitVec 32 := Scalar.muli arg14 c16_i32_28
  let v3457 : Index := Scalar.indexCast v24
  ![20, v3457.toNat]
def k0_off82 (k0_t2 : Fin k0_t2_loop.trips) : Fin 2 → Nat :=
  let c21_i32_742 : BitVec 32 := 21#32
  let v3481 : Index := Scalar.indexCast c21_i32_742
  let c0_i32_8 : BitVec 32 := 0#32
  let c1_i32_10 : BitVec 32 := 1#32
  let arg14 : BitVec 32 := Scf.iv c0_i32_8 c1_i32_10 k0_t2
  let c16_i32_28 : BitVec 32 := 16#32
  let v24 : BitVec 32 := Scalar.muli arg14 c16_i32_28
  let v3482 : Index := Scalar.indexCast v24
  ![21, v3482.toNat]
def k0_off83 (k0_t2 : Fin k0_t2_loop.trips) : Fin 2 → Nat :=
  let c22_i32_751 : BitVec 32 := 22#32
  let v3506 : Index := Scalar.indexCast c22_i32_751
  let c0_i32_8 : BitVec 32 := 0#32
  let c1_i32_10 : BitVec 32 := 1#32
  let arg14 : BitVec 32 := Scf.iv c0_i32_8 c1_i32_10 k0_t2
  let c16_i32_28 : BitVec 32 := 16#32
  let v24 : BitVec 32 := Scalar.muli arg14 c16_i32_28
  let v3507 : Index := Scalar.indexCast v24
  ![22, v3507.toNat]
def k0_off84 (k0_t2 : Fin k0_t2_loop.trips) : Fin 2 → Nat :=
  let c23_i32_760 : BitVec 32 := 23#32
  let v3531 : Index := Scalar.indexCast c23_i32_760
  let c0_i32_8 : BitVec 32 := 0#32
  let c1_i32_10 : BitVec 32 := 1#32
  let arg14 : BitVec 32 := Scf.iv c0_i32_8 c1_i32_10 k0_t2
  let c16_i32_28 : BitVec 32 := 16#32
  let v24 : BitVec 32 := Scalar.muli arg14 c16_i32_28
  let v3532 : Index := Scalar.indexCast v24
  ![23, v3532.toNat]
def k0_off85 (k0_t2 : Fin k0_t2_loop.trips) : Fin 2 → Nat :=
  let c24_i32_769 : BitVec 32 := 24#32
  let v3556 : Index := Scalar.indexCast c24_i32_769
  let c0_i32_8 : BitVec 32 := 0#32
  let c1_i32_10 : BitVec 32 := 1#32
  let arg14 : BitVec 32 := Scf.iv c0_i32_8 c1_i32_10 k0_t2
  let c16_i32_28 : BitVec 32 := 16#32
  let v24 : BitVec 32 := Scalar.muli arg14 c16_i32_28
  let v3557 : Index := Scalar.indexCast v24
  ![24, v3557.toNat]
def k0_off86 (k0_t2 : Fin k0_t2_loop.trips) : Fin 2 → Nat :=
  let c25_i32_778 : BitVec 32 := 25#32
  let v3581 : Index := Scalar.indexCast c25_i32_778
  let c0_i32_8 : BitVec 32 := 0#32
  let c1_i32_10 : BitVec 32 := 1#32
  let arg14 : BitVec 32 := Scf.iv c0_i32_8 c1_i32_10 k0_t2
  let c16_i32_28 : BitVec 32 := 16#32
  let v24 : BitVec 32 := Scalar.muli arg14 c16_i32_28
  let v3582 : Index := Scalar.indexCast v24
  ![25, v3582.toNat]
def k0_off87 (k0_t2 : Fin k0_t2_loop.trips) : Fin 2 → Nat :=
  let c26_i32_787 : BitVec 32 := 26#32
  let v3606 : Index := Scalar.indexCast c26_i32_787
  let c0_i32_8 : BitVec 32 := 0#32
  let c1_i32_10 : BitVec 32 := 1#32
  let arg14 : BitVec 32 := Scf.iv c0_i32_8 c1_i32_10 k0_t2
  let c16_i32_28 : BitVec 32 := 16#32
  let v24 : BitVec 32 := Scalar.muli arg14 c16_i32_28
  let v3607 : Index := Scalar.indexCast v24
  ![26, v3607.toNat]
def k0_off88 (k0_t2 : Fin k0_t2_loop.trips) : Fin 2 → Nat :=
  let c27_i32_796 : BitVec 32 := 27#32
  let v3631 : Index := Scalar.indexCast c27_i32_796
  let c0_i32_8 : BitVec 32 := 0#32
  let c1_i32_10 : BitVec 32 := 1#32
  let arg14 : BitVec 32 := Scf.iv c0_i32_8 c1_i32_10 k0_t2
  let c16_i32_28 : BitVec 32 := 16#32
  let v24 : BitVec 32 := Scalar.muli arg14 c16_i32_28
  let v3632 : Index := Scalar.indexCast v24
  ![27, v3632.toNat]
def k0_off89 (k0_t2 : Fin k0_t2_loop.trips) : Fin 2 → Nat :=
  let c28_i32_805 : BitVec 32 := 28#32
  let v3656 : Index := Scalar.indexCast c28_i32_805
  let c0_i32_8 : BitVec 32 := 0#32
  let c1_i32_10 : BitVec 32 := 1#32
  let arg14 : BitVec 32 := Scf.iv c0_i32_8 c1_i32_10 k0_t2
  let c16_i32_28 : BitVec 32 := 16#32
  let v24 : BitVec 32 := Scalar.muli arg14 c16_i32_28
  let v3657 : Index := Scalar.indexCast v24
  ![28, v3657.toNat]
def k0_off90 (k0_t2 : Fin k0_t2_loop.trips) : Fin 2 → Nat :=
  let c29_i32_814 : BitVec 32 := 29#32
  let v3681 : Index := Scalar.indexCast c29_i32_814
  let c0_i32_8 : BitVec 32 := 0#32
  let c1_i32_10 : BitVec 32 := 1#32
  let arg14 : BitVec 32 := Scf.iv c0_i32_8 c1_i32_10 k0_t2
  let c16_i32_28 : BitVec 32 := 16#32
  let v24 : BitVec 32 := Scalar.muli arg14 c16_i32_28
  let v3682 : Index := Scalar.indexCast v24
  ![29, v3682.toNat]
def k0_off91 (k0_t2 : Fin k0_t2_loop.trips) : Fin 2 → Nat :=
  let c30_i32_823 : BitVec 32 := 30#32
  let v3706 : Index := Scalar.indexCast c30_i32_823
  let c0_i32_8 : BitVec 32 := 0#32
  let c1_i32_10 : BitVec 32 := 1#32
  let arg14 : BitVec 32 := Scf.iv c0_i32_8 c1_i32_10 k0_t2
  let c16_i32_28 : BitVec 32 := 16#32
  let v24 : BitVec 32 := Scalar.muli arg14 c16_i32_28
  let v3707 : Index := Scalar.indexCast v24
  ![30, v3707.toNat]
def k0_off92 (k0_t2 : Fin k0_t2_loop.trips) : Fin 2 → Nat :=
  let c31_i32_832 : BitVec 32 := 31#32
  let v3731 : Index := Scalar.indexCast c31_i32_832
  let c0_i32_8 : BitVec 32 := 0#32
  let c1_i32_10 : BitVec 32 := 1#32
  let arg14 : BitVec 32 := Scf.iv c0_i32_8 c1_i32_10 k0_t2
  let c16_i32_28 : BitVec 32 := 16#32
  let v24 : BitVec 32 := Scalar.muli arg14 c16_i32_28
  let v3732 : Index := Scalar.indexCast v24
  ![31, v3732.toNat]
def k0_off93 (k0_t2 : Fin k0_t2_loop.trips) : Fin 2 → Nat :=
  let c32_i32_841 : BitVec 32 := 32#32
  let v3756 : Index := Scalar.indexCast c32_i32_841
  let c0_i32_8 : BitVec 32 := 0#32
  let c1_i32_10 : BitVec 32 := 1#32
  let arg14 : BitVec 32 := Scf.iv c0_i32_8 c1_i32_10 k0_t2
  let c16_i32_28 : BitVec 32 := 16#32
  let v24 : BitVec 32 := Scalar.muli arg14 c16_i32_28
  let v3757 : Index := Scalar.indexCast v24
  ![32, v3757.toNat]
def k0_off94 (k0_t2 : Fin k0_t2_loop.trips) : Fin 2 → Nat :=
  let c33_i32_850 : BitVec 32 := 33#32
  let v3781 : Index := Scalar.indexCast c33_i32_850
  let c0_i32_8 : BitVec 32 := 0#32
  let c1_i32_10 : BitVec 32 := 1#32
  let arg14 : BitVec 32 := Scf.iv c0_i32_8 c1_i32_10 k0_t2
  let c16_i32_28 : BitVec 32 := 16#32
  let v24 : BitVec 32 := Scalar.muli arg14 c16_i32_28
  let v3782 : Index := Scalar.indexCast v24
  ![33, v3782.toNat]
def k0_off95 (k0_t2 : Fin k0_t2_loop.trips) : Fin 2 → Nat :=
  let c34_i32_859 : BitVec 32 := 34#32
  let v3806 : Index := Scalar.indexCast c34_i32_859
  let c0_i32_8 : BitVec 32 := 0#32
  let c1_i32_10 : BitVec 32 := 1#32
  let arg14 : BitVec 32 := Scf.iv c0_i32_8 c1_i32_10 k0_t2
  let c16_i32_28 : BitVec 32 := 16#32
  let v24 : BitVec 32 := Scalar.muli arg14 c16_i32_28
  let v3807 : Index := Scalar.indexCast v24
  ![34, v3807.toNat]
def k0_off96 (k0_t2 : Fin k0_t2_loop.trips) : Fin 2 → Nat :=
  let c35_i32_868 : BitVec 32 := 35#32
  let v3831 : Index := Scalar.indexCast c35_i32_868
  let c0_i32_8 : BitVec 32 := 0#32
  let c1_i32_10 : BitVec 32 := 1#32
  let arg14 : BitVec 32 := Scf.iv c0_i32_8 c1_i32_10 k0_t2
  let c16_i32_28 : BitVec 32 := 16#32
  let v24 : BitVec 32 := Scalar.muli arg14 c16_i32_28
  let v3832 : Index := Scalar.indexCast v24
  ![35, v3832.toNat]
def k0_off97 (k0_t2 : Fin k0_t2_loop.trips) : Fin 2 → Nat :=
  let c36_i32_877 : BitVec 32 := 36#32
  let v3856 : Index := Scalar.indexCast c36_i32_877
  let c0_i32_8 : BitVec 32 := 0#32
  let c1_i32_10 : BitVec 32 := 1#32
  let arg14 : BitVec 32 := Scf.iv c0_i32_8 c1_i32_10 k0_t2
  let c16_i32_28 : BitVec 32 := 16#32
  let v24 : BitVec 32 := Scalar.muli arg14 c16_i32_28
  let v3857 : Index := Scalar.indexCast v24
  ![36, v3857.toNat]
def k0_off98 (k0_t2 : Fin k0_t2_loop.trips) : Fin 2 → Nat :=
  let c37_i32_886 : BitVec 32 := 37#32
  let v3881 : Index := Scalar.indexCast c37_i32_886
  let c0_i32_8 : BitVec 32 := 0#32
  let c1_i32_10 : BitVec 32 := 1#32
  let arg14 : BitVec 32 := Scf.iv c0_i32_8 c1_i32_10 k0_t2
  let c16_i32_28 : BitVec 32 := 16#32
  let v24 : BitVec 32 := Scalar.muli arg14 c16_i32_28
  let v3882 : Index := Scalar.indexCast v24
  ![37, v3882.toNat]
def k0_off99 (k0_t2 : Fin k0_t2_loop.trips) : Fin 2 → Nat :=
  let c38_i32_895 : BitVec 32 := 38#32
  let v3906 : Index := Scalar.indexCast c38_i32_895
  let c0_i32_8 : BitVec 32 := 0#32
  let c1_i32_10 : BitVec 32 := 1#32
  let arg14 : BitVec 32 := Scf.iv c0_i32_8 c1_i32_10 k0_t2
  let c16_i32_28 : BitVec 32 := 16#32
  let v24 : BitVec 32 := Scalar.muli arg14 c16_i32_28
  let v3907 : Index := Scalar.indexCast v24
  ![38, v3907.toNat]
def k0_off100 (k0_t2 : Fin k0_t2_loop.trips) : Fin 2 → Nat :=
  let c39_i32_904 : BitVec 32 := 39#32
  let v3931 : Index := Scalar.indexCast c39_i32_904
  let c0_i32_8 : BitVec 32 := 0#32
  let c1_i32_10 : BitVec 32 := 1#32
  let arg14 : BitVec 32 := Scf.iv c0_i32_8 c1_i32_10 k0_t2
  let c16_i32_28 : BitVec 32 := 16#32
  let v24 : BitVec 32 := Scalar.muli arg14 c16_i32_28
  let v3932 : Index := Scalar.indexCast v24
  ![39, v3932.toNat]
def k0_off101 (k0_t2 : Fin k0_t2_loop.trips) : Fin 2 → Nat :=
  let c40_i32_913 : BitVec 32 := 40#32
  let v3956 : Index := Scalar.indexCast c40_i32_913
  let c0_i32_8 : BitVec 32 := 0#32
  let c1_i32_10 : BitVec 32 := 1#32
  let arg14 : BitVec 32 := Scf.iv c0_i32_8 c1_i32_10 k0_t2
  let c16_i32_28 : BitVec 32 := 16#32
  let v24 : BitVec 32 := Scalar.muli arg14 c16_i32_28
  let v3957 : Index := Scalar.indexCast v24
  ![40, v3957.toNat]
def k0_off102 (k0_t2 : Fin k0_t2_loop.trips) : Fin 2 → Nat :=
  let c41_i32_922 : BitVec 32 := 41#32
  let v3981 : Index := Scalar.indexCast c41_i32_922
  let c0_i32_8 : BitVec 32 := 0#32
  let c1_i32_10 : BitVec 32 := 1#32
  let arg14 : BitVec 32 := Scf.iv c0_i32_8 c1_i32_10 k0_t2
  let c16_i32_28 : BitVec 32 := 16#32
  let v24 : BitVec 32 := Scalar.muli arg14 c16_i32_28
  let v3982 : Index := Scalar.indexCast v24
  ![41, v3982.toNat]
def k0_off103 (k0_t2 : Fin k0_t2_loop.trips) : Fin 2 → Nat :=
  let c42_i32_931 : BitVec 32 := 42#32
  let v4006 : Index := Scalar.indexCast c42_i32_931
  let c0_i32_8 : BitVec 32 := 0#32
  let c1_i32_10 : BitVec 32 := 1#32
  let arg14 : BitVec 32 := Scf.iv c0_i32_8 c1_i32_10 k0_t2
  let c16_i32_28 : BitVec 32 := 16#32
  let v24 : BitVec 32 := Scalar.muli arg14 c16_i32_28
  let v4007 : Index := Scalar.indexCast v24
  ![42, v4007.toNat]
def k0_off104 (k0_t2 : Fin k0_t2_loop.trips) : Fin 2 → Nat :=
  let c43_i32_940 : BitVec 32 := 43#32
  let v4031 : Index := Scalar.indexCast c43_i32_940
  let c0_i32_8 : BitVec 32 := 0#32
  let c1_i32_10 : BitVec 32 := 1#32
  let arg14 : BitVec 32 := Scf.iv c0_i32_8 c1_i32_10 k0_t2
  let c16_i32_28 : BitVec 32 := 16#32
  let v24 : BitVec 32 := Scalar.muli arg14 c16_i32_28
  let v4032 : Index := Scalar.indexCast v24
  ![43, v4032.toNat]
def k0_off105 (k0_t2 : Fin k0_t2_loop.trips) : Fin 2 → Nat :=
  let c44_i32_949 : BitVec 32 := 44#32
  let v4056 : Index := Scalar.indexCast c44_i32_949
  let c0_i32_8 : BitVec 32 := 0#32
  let c1_i32_10 : BitVec 32 := 1#32
  let arg14 : BitVec 32 := Scf.iv c0_i32_8 c1_i32_10 k0_t2
  let c16_i32_28 : BitVec 32 := 16#32
  let v24 : BitVec 32 := Scalar.muli arg14 c16_i32_28
  let v4057 : Index := Scalar.indexCast v24
  ![44, v4057.toNat]
def k0_off106 (k0_t2 : Fin k0_t2_loop.trips) : Fin 2 → Nat :=
  let c45_i32_958 : BitVec 32 := 45#32
  let v4081 : Index := Scalar.indexCast c45_i32_958
  let c0_i32_8 : BitVec 32 := 0#32
  let c1_i32_10 : BitVec 32 := 1#32
  let arg14 : BitVec 32 := Scf.iv c0_i32_8 c1_i32_10 k0_t2
  let c16_i32_28 : BitVec 32 := 16#32
  let v24 : BitVec 32 := Scalar.muli arg14 c16_i32_28
  let v4082 : Index := Scalar.indexCast v24
  ![45, v4082.toNat]
def k0_off107 (k0_t2 : Fin k0_t2_loop.trips) : Fin 2 → Nat :=
  let c46_i32_967 : BitVec 32 := 46#32
  let v4106 : Index := Scalar.indexCast c46_i32_967
  let c0_i32_8 : BitVec 32 := 0#32
  let c1_i32_10 : BitVec 32 := 1#32
  let arg14 : BitVec 32 := Scf.iv c0_i32_8 c1_i32_10 k0_t2
  let c16_i32_28 : BitVec 32 := 16#32
  let v24 : BitVec 32 := Scalar.muli arg14 c16_i32_28
  let v4107 : Index := Scalar.indexCast v24
  ![46, v4107.toNat]
def k0_off108 (k0_t2 : Fin k0_t2_loop.trips) : Fin 2 → Nat :=
  let c47_i32_976 : BitVec 32 := 47#32
  let v4131 : Index := Scalar.indexCast c47_i32_976
  let c0_i32_8 : BitVec 32 := 0#32
  let c1_i32_10 : BitVec 32 := 1#32
  let arg14 : BitVec 32 := Scf.iv c0_i32_8 c1_i32_10 k0_t2
  let c16_i32_28 : BitVec 32 := 16#32
  let v24 : BitVec 32 := Scalar.muli arg14 c16_i32_28
  let v4132 : Index := Scalar.indexCast v24
  ![47, v4132.toNat]
def k0_off109 (k0_t2 : Fin k0_t2_loop.trips) : Fin 2 → Nat :=
  let c48_i32_985 : BitVec 32 := 48#32
  let v4156 : Index := Scalar.indexCast c48_i32_985
  let c0_i32_8 : BitVec 32 := 0#32
  let c1_i32_10 : BitVec 32 := 1#32
  let arg14 : BitVec 32 := Scf.iv c0_i32_8 c1_i32_10 k0_t2
  let c16_i32_28 : BitVec 32 := 16#32
  let v24 : BitVec 32 := Scalar.muli arg14 c16_i32_28
  let v4157 : Index := Scalar.indexCast v24
  ![48, v4157.toNat]
def k0_off110 (k0_t2 : Fin k0_t2_loop.trips) : Fin 2 → Nat :=
  let c49_i32_994 : BitVec 32 := 49#32
  let v4181 : Index := Scalar.indexCast c49_i32_994
  let c0_i32_8 : BitVec 32 := 0#32
  let c1_i32_10 : BitVec 32 := 1#32
  let arg14 : BitVec 32 := Scf.iv c0_i32_8 c1_i32_10 k0_t2
  let c16_i32_28 : BitVec 32 := 16#32
  let v24 : BitVec 32 := Scalar.muli arg14 c16_i32_28
  let v4182 : Index := Scalar.indexCast v24
  ![49, v4182.toNat]
@[reducible] def k0_t3_loop : Scf.Loop 32 :=
  let c1_i32_17 : BitVec 32 := 1#32
  let c7_i32 : BitVec 32 := 7#32
  let v15 : BitVec 32 := Scalar.addi c1_i32_17 c7_i32
  let c1_i32_18 : BitVec 32 := 1#32
  ⟨c1_i32_17, v15, c1_i32_18⟩
def k0_off111 (i : grid0.Coords) (k0_t3 : Fin k0_t3_loop.trips) : Fin 2 → Nat :=
  let c0_i32_58_r3 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4096_i32 : BitVec 32 := 4096#32
  let v2 : BitVec 32 := Scalar.muli v1 c4096_i32
  let c1_i32_17 : BitVec 32 := 1#32
  let c1_i32_18 : BitVec 32 := 1#32
  let arg14 : BitVec 32 := Scf.iv c1_i32_17 c1_i32_18 k0_t3
  let c2_i32_28 : BitVec 32 := 2#32
  let v24 : BitVec 32 := Scalar.muli arg14 c2_i32_28
  let c256_i32_29 : BitVec 32 := 256#32
  let v25 : BitVec 32 := Scalar.muli v24 c256_i32_29
  let v26 : BitVec 32 := Scalar.addi v2 v25
  ![0, v26.toNat]
def k0_off112 (i : grid0.Coords) (k0_t3 : Fin k0_t3_loop.trips) : Fin 2 → Nat :=
  let c0_i32_30 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4096_i32 : BitVec 32 := 4096#32
  let v2 : BitVec 32 := Scalar.muli v1 c4096_i32
  let c1_i32_17 : BitVec 32 := 1#32
  let c1_i32_18 : BitVec 32 := 1#32
  let arg14 : BitVec 32 := Scf.iv c1_i32_17 c1_i32_18 k0_t3
  let c2_i32_28 : BitVec 32 := 2#32
  let v24 : BitVec 32 := Scalar.muli arg14 c2_i32_28
  let c256_i32_29 : BitVec 32 := 256#32
  let v25 : BitVec 32 := Scalar.muli v24 c256_i32_29
  let v26 : BitVec 32 := Scalar.addi v2 v25
  ![0, v26.toNat]
@[reducible] def k0_t4_loop : Scf.Loop 32 :=
  let c0_i32_35 : BitVec 32 := 0#32
  let c16_i32_36 : BitVec 32 := 16#32
  let v31 : BitVec 32 := Scalar.addi c0_i32_35 c16_i32_36
  let c1_i32_37 : BitVec 32 := 1#32
  ⟨c0_i32_35, v31, c1_i32_37⟩
def k0_off113 (k0_t4 : Fin k0_t4_loop.trips) : Fin 2 → Nat :=
  let c0_i32_59 : BitVec 32 := 0#32
  let v49 : Index := Scalar.indexCast c0_i32_59
  let c0_i32_35 : BitVec 32 := 0#32
  let c1_i32_37 : BitVec 32 := 1#32
  let arg15 : BitVec 32 := Scf.iv c0_i32_35 c1_i32_37 k0_t4
  let c16_i32_58 : BitVec 32 := 16#32
  let v48 : BitVec 32 := Scalar.muli arg15 c16_i32_58
  let v50 : Index := Scalar.indexCast v48
  ![0, v50.toNat]
def k0_off114 (k0_t4 : Fin k0_t4_loop.trips) : Fin 2 → Nat :=
  let c1_i32_60 : BitVec 32 := 1#32
  let v53 : Index := Scalar.indexCast c1_i32_60
  let c0_i32_35 : BitVec 32 := 0#32
  let c1_i32_37 : BitVec 32 := 1#32
  let arg15 : BitVec 32 := Scf.iv c0_i32_35 c1_i32_37 k0_t4
  let c16_i32_58 : BitVec 32 := 16#32
  let v48 : BitVec 32 := Scalar.muli arg15 c16_i32_58
  let v54 : Index := Scalar.indexCast v48
  ![1, v54.toNat]
def k0_off115 (k0_t4 : Fin k0_t4_loop.trips) : Fin 2 → Nat :=
  let c2_i32_61 : BitVec 32 := 2#32
  let v57 : Index := Scalar.indexCast c2_i32_61
  let c0_i32_35 : BitVec 32 := 0#32
  let c1_i32_37 : BitVec 32 := 1#32
  let arg15 : BitVec 32 := Scf.iv c0_i32_35 c1_i32_37 k0_t4
  let c16_i32_58 : BitVec 32 := 16#32
  let v48 : BitVec 32 := Scalar.muli arg15 c16_i32_58
  let v58 : Index := Scalar.indexCast v48
  ![2, v58.toNat]
def k0_off116 (k0_t4 : Fin k0_t4_loop.trips) : Fin 2 → Nat :=
  let c3_i32 : BitVec 32 := 3#32
  let v61 : Index := Scalar.indexCast c3_i32
  let c0_i32_35 : BitVec 32 := 0#32
  let c1_i32_37 : BitVec 32 := 1#32
  let arg15 : BitVec 32 := Scf.iv c0_i32_35 c1_i32_37 k0_t4
  let c16_i32_58 : BitVec 32 := 16#32
  let v48 : BitVec 32 := Scalar.muli arg15 c16_i32_58
  let v62 : Index := Scalar.indexCast v48
  ![3, v62.toNat]
def k0_off117 (k0_t4 : Fin k0_t4_loop.trips) : Fin 2 → Nat :=
  let c0_i32_583 : BitVec 32 := 0#32
  let v2980 : Index := Scalar.indexCast c0_i32_583
  let c0_i32_35 : BitVec 32 := 0#32
  let c1_i32_37 : BitVec 32 := 1#32
  let arg15 : BitVec 32 := Scf.iv c0_i32_35 c1_i32_37 k0_t4
  let c16_i32_58 : BitVec 32 := 16#32
  let v48 : BitVec 32 := Scalar.muli arg15 c16_i32_58
  let v2981 : Index := Scalar.indexCast v48
  ![0, v2981.toNat]
def k0_off118 (k0_t4 : Fin k0_t4_loop.trips) : Fin 2 → Nat :=
  let c1_i32_592 : BitVec 32 := 1#32
  let v3005 : Index := Scalar.indexCast c1_i32_592
  let c0_i32_35 : BitVec 32 := 0#32
  let c1_i32_37 : BitVec 32 := 1#32
  let arg15 : BitVec 32 := Scf.iv c0_i32_35 c1_i32_37 k0_t4
  let c16_i32_58 : BitVec 32 := 16#32
  let v48 : BitVec 32 := Scalar.muli arg15 c16_i32_58
  let v3006 : Index := Scalar.indexCast v48
  ![1, v3006.toNat]
def k0_off119 (k0_t4 : Fin k0_t4_loop.trips) : Fin 2 → Nat :=
  let c2_i32_601 : BitVec 32 := 2#32
  let v3030 : Index := Scalar.indexCast c2_i32_601
  let c0_i32_35 : BitVec 32 := 0#32
  let c1_i32_37 : BitVec 32 := 1#32
  let arg15 : BitVec 32 := Scf.iv c0_i32_35 c1_i32_37 k0_t4
  let c16_i32_58 : BitVec 32 := 16#32
  let v48 : BitVec 32 := Scalar.muli arg15 c16_i32_58
  let v3031 : Index := Scalar.indexCast v48
  ![2, v3031.toNat]
def k0_off120 (k0_t4 : Fin k0_t4_loop.trips) : Fin 2 → Nat :=
  let c3_i32_610 : BitVec 32 := 3#32
  let v3055 : Index := Scalar.indexCast c3_i32_610
  let c0_i32_35 : BitVec 32 := 0#32
  let c1_i32_37 : BitVec 32 := 1#32
  let arg15 : BitVec 32 := Scf.iv c0_i32_35 c1_i32_37 k0_t4
  let c16_i32_58 : BitVec 32 := 16#32
  let v48 : BitVec 32 := Scalar.muli arg15 c16_i32_58
  let v3056 : Index := Scalar.indexCast v48
  ![3, v3056.toNat]
def k0_off121 (k0_t4 : Fin k0_t4_loop.trips) : Fin 2 → Nat :=
  let c4_i32_619 : BitVec 32 := 4#32
  let v3080 : Index := Scalar.indexCast c4_i32_619
  let c0_i32_35 : BitVec 32 := 0#32
  let c1_i32_37 : BitVec 32 := 1#32
  let arg15 : BitVec 32 := Scf.iv c0_i32_35 c1_i32_37 k0_t4
  let c16_i32_58 : BitVec 32 := 16#32
  let v48 : BitVec 32 := Scalar.muli arg15 c16_i32_58
  let v3081 : Index := Scalar.indexCast v48
  ![4, v3081.toNat]
def k0_off122 (k0_t4 : Fin k0_t4_loop.trips) : Fin 2 → Nat :=
  let c5_i32_628 : BitVec 32 := 5#32
  let v3105 : Index := Scalar.indexCast c5_i32_628
  let c0_i32_35 : BitVec 32 := 0#32
  let c1_i32_37 : BitVec 32 := 1#32
  let arg15 : BitVec 32 := Scf.iv c0_i32_35 c1_i32_37 k0_t4
  let c16_i32_58 : BitVec 32 := 16#32
  let v48 : BitVec 32 := Scalar.muli arg15 c16_i32_58
  let v3106 : Index := Scalar.indexCast v48
  ![5, v3106.toNat]
def k0_off123 (k0_t4 : Fin k0_t4_loop.trips) : Fin 2 → Nat :=
  let c6_i32_637 : BitVec 32 := 6#32
  let v3130 : Index := Scalar.indexCast c6_i32_637
  let c0_i32_35 : BitVec 32 := 0#32
  let c1_i32_37 : BitVec 32 := 1#32
  let arg15 : BitVec 32 := Scf.iv c0_i32_35 c1_i32_37 k0_t4
  let c16_i32_58 : BitVec 32 := 16#32
  let v48 : BitVec 32 := Scalar.muli arg15 c16_i32_58
  let v3131 : Index := Scalar.indexCast v48
  ![6, v3131.toNat]
def k0_off124 (k0_t4 : Fin k0_t4_loop.trips) : Fin 2 → Nat :=
  let c7_i32_646 : BitVec 32 := 7#32
  let v3155 : Index := Scalar.indexCast c7_i32_646
  let c0_i32_35 : BitVec 32 := 0#32
  let c1_i32_37 : BitVec 32 := 1#32
  let arg15 : BitVec 32 := Scf.iv c0_i32_35 c1_i32_37 k0_t4
  let c16_i32_58 : BitVec 32 := 16#32
  let v48 : BitVec 32 := Scalar.muli arg15 c16_i32_58
  let v3156 : Index := Scalar.indexCast v48
  ![7, v3156.toNat]
def k0_off125 (k0_t4 : Fin k0_t4_loop.trips) : Fin 2 → Nat :=
  let c8_i32_655 : BitVec 32 := 8#32
  let v3180 : Index := Scalar.indexCast c8_i32_655
  let c0_i32_35 : BitVec 32 := 0#32
  let c1_i32_37 : BitVec 32 := 1#32
  let arg15 : BitVec 32 := Scf.iv c0_i32_35 c1_i32_37 k0_t4
  let c16_i32_58 : BitVec 32 := 16#32
  let v48 : BitVec 32 := Scalar.muli arg15 c16_i32_58
  let v3181 : Index := Scalar.indexCast v48
  ![8, v3181.toNat]
def k0_off126 (k0_t4 : Fin k0_t4_loop.trips) : Fin 2 → Nat :=
  let c9_i32_664 : BitVec 32 := 9#32
  let v3205 : Index := Scalar.indexCast c9_i32_664
  let c0_i32_35 : BitVec 32 := 0#32
  let c1_i32_37 : BitVec 32 := 1#32
  let arg15 : BitVec 32 := Scf.iv c0_i32_35 c1_i32_37 k0_t4
  let c16_i32_58 : BitVec 32 := 16#32
  let v48 : BitVec 32 := Scalar.muli arg15 c16_i32_58
  let v3206 : Index := Scalar.indexCast v48
  ![9, v3206.toNat]
def k0_off127 (k0_t4 : Fin k0_t4_loop.trips) : Fin 2 → Nat :=
  let c10_i32_673 : BitVec 32 := 10#32
  let v3230 : Index := Scalar.indexCast c10_i32_673
  let c0_i32_35 : BitVec 32 := 0#32
  let c1_i32_37 : BitVec 32 := 1#32
  let arg15 : BitVec 32 := Scf.iv c0_i32_35 c1_i32_37 k0_t4
  let c16_i32_58 : BitVec 32 := 16#32
  let v48 : BitVec 32 := Scalar.muli arg15 c16_i32_58
  let v3231 : Index := Scalar.indexCast v48
  ![10, v3231.toNat]
def k0_off128 (k0_t4 : Fin k0_t4_loop.trips) : Fin 2 → Nat :=
  let c11_i32_682 : BitVec 32 := 11#32
  let v3255 : Index := Scalar.indexCast c11_i32_682
  let c0_i32_35 : BitVec 32 := 0#32
  let c1_i32_37 : BitVec 32 := 1#32
  let arg15 : BitVec 32 := Scf.iv c0_i32_35 c1_i32_37 k0_t4
  let c16_i32_58 : BitVec 32 := 16#32
  let v48 : BitVec 32 := Scalar.muli arg15 c16_i32_58
  let v3256 : Index := Scalar.indexCast v48
  ![11, v3256.toNat]
def k0_off129 (k0_t4 : Fin k0_t4_loop.trips) : Fin 2 → Nat :=
  let c12_i32_691 : BitVec 32 := 12#32
  let v3280 : Index := Scalar.indexCast c12_i32_691
  let c0_i32_35 : BitVec 32 := 0#32
  let c1_i32_37 : BitVec 32 := 1#32
  let arg15 : BitVec 32 := Scf.iv c0_i32_35 c1_i32_37 k0_t4
  let c16_i32_58 : BitVec 32 := 16#32
  let v48 : BitVec 32 := Scalar.muli arg15 c16_i32_58
  let v3281 : Index := Scalar.indexCast v48
  ![12, v3281.toNat]
def k0_off130 (k0_t4 : Fin k0_t4_loop.trips) : Fin 2 → Nat :=
  let c13_i32_700 : BitVec 32 := 13#32
  let v3305 : Index := Scalar.indexCast c13_i32_700
  let c0_i32_35 : BitVec 32 := 0#32
  let c1_i32_37 : BitVec 32 := 1#32
  let arg15 : BitVec 32 := Scf.iv c0_i32_35 c1_i32_37 k0_t4
  let c16_i32_58 : BitVec 32 := 16#32
  let v48 : BitVec 32 := Scalar.muli arg15 c16_i32_58
  let v3306 : Index := Scalar.indexCast v48
  ![13, v3306.toNat]
def k0_off131 (k0_t4 : Fin k0_t4_loop.trips) : Fin 2 → Nat :=
  let c14_i32_709 : BitVec 32 := 14#32
  let v3330 : Index := Scalar.indexCast c14_i32_709
  let c0_i32_35 : BitVec 32 := 0#32
  let c1_i32_37 : BitVec 32 := 1#32
  let arg15 : BitVec 32 := Scf.iv c0_i32_35 c1_i32_37 k0_t4
  let c16_i32_58 : BitVec 32 := 16#32
  let v48 : BitVec 32 := Scalar.muli arg15 c16_i32_58
  let v3331 : Index := Scalar.indexCast v48
  ![14, v3331.toNat]
def k0_off132 (k0_t4 : Fin k0_t4_loop.trips) : Fin 2 → Nat :=
  let c15_i32_718 : BitVec 32 := 15#32
  let v3355 : Index := Scalar.indexCast c15_i32_718
  let c0_i32_35 : BitVec 32 := 0#32
  let c1_i32_37 : BitVec 32 := 1#32
  let arg15 : BitVec 32 := Scf.iv c0_i32_35 c1_i32_37 k0_t4
  let c16_i32_58 : BitVec 32 := 16#32
  let v48 : BitVec 32 := Scalar.muli arg15 c16_i32_58
  let v3356 : Index := Scalar.indexCast v48
  ![15, v3356.toNat]
def k0_off133 (k0_t4 : Fin k0_t4_loop.trips) : Fin 2 → Nat :=
  let c16_i32_727 : BitVec 32 := 16#32
  let v3380 : Index := Scalar.indexCast c16_i32_727
  let c0_i32_35 : BitVec 32 := 0#32
  let c1_i32_37 : BitVec 32 := 1#32
  let arg15 : BitVec 32 := Scf.iv c0_i32_35 c1_i32_37 k0_t4
  let c16_i32_58 : BitVec 32 := 16#32
  let v48 : BitVec 32 := Scalar.muli arg15 c16_i32_58
  let v3381 : Index := Scalar.indexCast v48
  ![16, v3381.toNat]
def k0_off134 (k0_t4 : Fin k0_t4_loop.trips) : Fin 2 → Nat :=
  let c17_i32_736 : BitVec 32 := 17#32
  let v3405 : Index := Scalar.indexCast c17_i32_736
  let c0_i32_35 : BitVec 32 := 0#32
  let c1_i32_37 : BitVec 32 := 1#32
  let arg15 : BitVec 32 := Scf.iv c0_i32_35 c1_i32_37 k0_t4
  let c16_i32_58 : BitVec 32 := 16#32
  let v48 : BitVec 32 := Scalar.muli arg15 c16_i32_58
  let v3406 : Index := Scalar.indexCast v48
  ![17, v3406.toNat]
def k0_off135 (k0_t4 : Fin k0_t4_loop.trips) : Fin 2 → Nat :=
  let c18_i32_745 : BitVec 32 := 18#32
  let v3430 : Index := Scalar.indexCast c18_i32_745
  let c0_i32_35 : BitVec 32 := 0#32
  let c1_i32_37 : BitVec 32 := 1#32
  let arg15 : BitVec 32 := Scf.iv c0_i32_35 c1_i32_37 k0_t4
  let c16_i32_58 : BitVec 32 := 16#32
  let v48 : BitVec 32 := Scalar.muli arg15 c16_i32_58
  let v3431 : Index := Scalar.indexCast v48
  ![18, v3431.toNat]
def k0_off136 (k0_t4 : Fin k0_t4_loop.trips) : Fin 2 → Nat :=
  let c19_i32_754 : BitVec 32 := 19#32
  let v3455 : Index := Scalar.indexCast c19_i32_754
  let c0_i32_35 : BitVec 32 := 0#32
  let c1_i32_37 : BitVec 32 := 1#32
  let arg15 : BitVec 32 := Scf.iv c0_i32_35 c1_i32_37 k0_t4
  let c16_i32_58 : BitVec 32 := 16#32
  let v48 : BitVec 32 := Scalar.muli arg15 c16_i32_58
  let v3456 : Index := Scalar.indexCast v48
  ![19, v3456.toNat]
def k0_off137 (k0_t4 : Fin k0_t4_loop.trips) : Fin 2 → Nat :=
  let c20_i32_763 : BitVec 32 := 20#32
  let v3480 : Index := Scalar.indexCast c20_i32_763
  let c0_i32_35 : BitVec 32 := 0#32
  let c1_i32_37 : BitVec 32 := 1#32
  let arg15 : BitVec 32 := Scf.iv c0_i32_35 c1_i32_37 k0_t4
  let c16_i32_58 : BitVec 32 := 16#32
  let v48 : BitVec 32 := Scalar.muli arg15 c16_i32_58
  let v3481 : Index := Scalar.indexCast v48
  ![20, v3481.toNat]
def k0_off138 (k0_t4 : Fin k0_t4_loop.trips) : Fin 2 → Nat :=
  let c21_i32_772 : BitVec 32 := 21#32
  let v3505 : Index := Scalar.indexCast c21_i32_772
  let c0_i32_35 : BitVec 32 := 0#32
  let c1_i32_37 : BitVec 32 := 1#32
  let arg15 : BitVec 32 := Scf.iv c0_i32_35 c1_i32_37 k0_t4
  let c16_i32_58 : BitVec 32 := 16#32
  let v48 : BitVec 32 := Scalar.muli arg15 c16_i32_58
  let v3506 : Index := Scalar.indexCast v48
  ![21, v3506.toNat]
def k0_off139 (k0_t4 : Fin k0_t4_loop.trips) : Fin 2 → Nat :=
  let c22_i32_781 : BitVec 32 := 22#32
  let v3530 : Index := Scalar.indexCast c22_i32_781
  let c0_i32_35 : BitVec 32 := 0#32
  let c1_i32_37 : BitVec 32 := 1#32
  let arg15 : BitVec 32 := Scf.iv c0_i32_35 c1_i32_37 k0_t4
  let c16_i32_58 : BitVec 32 := 16#32
  let v48 : BitVec 32 := Scalar.muli arg15 c16_i32_58
  let v3531 : Index := Scalar.indexCast v48
  ![22, v3531.toNat]
def k0_off140 (k0_t4 : Fin k0_t4_loop.trips) : Fin 2 → Nat :=
  let c23_i32_790 : BitVec 32 := 23#32
  let v3555 : Index := Scalar.indexCast c23_i32_790
  let c0_i32_35 : BitVec 32 := 0#32
  let c1_i32_37 : BitVec 32 := 1#32
  let arg15 : BitVec 32 := Scf.iv c0_i32_35 c1_i32_37 k0_t4
  let c16_i32_58 : BitVec 32 := 16#32
  let v48 : BitVec 32 := Scalar.muli arg15 c16_i32_58
  let v3556 : Index := Scalar.indexCast v48
  ![23, v3556.toNat]
def k0_off141 (k0_t4 : Fin k0_t4_loop.trips) : Fin 2 → Nat :=
  let c24_i32_799 : BitVec 32 := 24#32
  let v3580 : Index := Scalar.indexCast c24_i32_799
  let c0_i32_35 : BitVec 32 := 0#32
  let c1_i32_37 : BitVec 32 := 1#32
  let arg15 : BitVec 32 := Scf.iv c0_i32_35 c1_i32_37 k0_t4
  let c16_i32_58 : BitVec 32 := 16#32
  let v48 : BitVec 32 := Scalar.muli arg15 c16_i32_58
  let v3581 : Index := Scalar.indexCast v48
  ![24, v3581.toNat]
def k0_off142 (k0_t4 : Fin k0_t4_loop.trips) : Fin 2 → Nat :=
  let c25_i32_808 : BitVec 32 := 25#32
  let v3605 : Index := Scalar.indexCast c25_i32_808
  let c0_i32_35 : BitVec 32 := 0#32
  let c1_i32_37 : BitVec 32 := 1#32
  let arg15 : BitVec 32 := Scf.iv c0_i32_35 c1_i32_37 k0_t4
  let c16_i32_58 : BitVec 32 := 16#32
  let v48 : BitVec 32 := Scalar.muli arg15 c16_i32_58
  let v3606 : Index := Scalar.indexCast v48
  ![25, v3606.toNat]
def k0_off143 (k0_t4 : Fin k0_t4_loop.trips) : Fin 2 → Nat :=
  let c26_i32_817 : BitVec 32 := 26#32
  let v3630 : Index := Scalar.indexCast c26_i32_817
  let c0_i32_35 : BitVec 32 := 0#32
  let c1_i32_37 : BitVec 32 := 1#32
  let arg15 : BitVec 32 := Scf.iv c0_i32_35 c1_i32_37 k0_t4
  let c16_i32_58 : BitVec 32 := 16#32
  let v48 : BitVec 32 := Scalar.muli arg15 c16_i32_58
  let v3631 : Index := Scalar.indexCast v48
  ![26, v3631.toNat]
def k0_off144 (k0_t4 : Fin k0_t4_loop.trips) : Fin 2 → Nat :=
  let c27_i32_826 : BitVec 32 := 27#32
  let v3655 : Index := Scalar.indexCast c27_i32_826
  let c0_i32_35 : BitVec 32 := 0#32
  let c1_i32_37 : BitVec 32 := 1#32
  let arg15 : BitVec 32 := Scf.iv c0_i32_35 c1_i32_37 k0_t4
  let c16_i32_58 : BitVec 32 := 16#32
  let v48 : BitVec 32 := Scalar.muli arg15 c16_i32_58
  let v3656 : Index := Scalar.indexCast v48
  ![27, v3656.toNat]
def k0_off145 (k0_t4 : Fin k0_t4_loop.trips) : Fin 2 → Nat :=
  let c28_i32_835 : BitVec 32 := 28#32
  let v3680 : Index := Scalar.indexCast c28_i32_835
  let c0_i32_35 : BitVec 32 := 0#32
  let c1_i32_37 : BitVec 32 := 1#32
  let arg15 : BitVec 32 := Scf.iv c0_i32_35 c1_i32_37 k0_t4
  let c16_i32_58 : BitVec 32 := 16#32
  let v48 : BitVec 32 := Scalar.muli arg15 c16_i32_58
  let v3681 : Index := Scalar.indexCast v48
  ![28, v3681.toNat]
def k0_off146 (k0_t4 : Fin k0_t4_loop.trips) : Fin 2 → Nat :=
  let c29_i32_844 : BitVec 32 := 29#32
  let v3705 : Index := Scalar.indexCast c29_i32_844
  let c0_i32_35 : BitVec 32 := 0#32
  let c1_i32_37 : BitVec 32 := 1#32
  let arg15 : BitVec 32 := Scf.iv c0_i32_35 c1_i32_37 k0_t4
  let c16_i32_58 : BitVec 32 := 16#32
  let v48 : BitVec 32 := Scalar.muli arg15 c16_i32_58
  let v3706 : Index := Scalar.indexCast v48
  ![29, v3706.toNat]
def k0_off147 (k0_t4 : Fin k0_t4_loop.trips) : Fin 2 → Nat :=
  let c30_i32_853 : BitVec 32 := 30#32
  let v3730 : Index := Scalar.indexCast c30_i32_853
  let c0_i32_35 : BitVec 32 := 0#32
  let c1_i32_37 : BitVec 32 := 1#32
  let arg15 : BitVec 32 := Scf.iv c0_i32_35 c1_i32_37 k0_t4
  let c16_i32_58 : BitVec 32 := 16#32
  let v48 : BitVec 32 := Scalar.muli arg15 c16_i32_58
  let v3731 : Index := Scalar.indexCast v48
  ![30, v3731.toNat]
def k0_off148 (k0_t4 : Fin k0_t4_loop.trips) : Fin 2 → Nat :=
  let c31_i32_862 : BitVec 32 := 31#32
  let v3755 : Index := Scalar.indexCast c31_i32_862
  let c0_i32_35 : BitVec 32 := 0#32
  let c1_i32_37 : BitVec 32 := 1#32
  let arg15 : BitVec 32 := Scf.iv c0_i32_35 c1_i32_37 k0_t4
  let c16_i32_58 : BitVec 32 := 16#32
  let v48 : BitVec 32 := Scalar.muli arg15 c16_i32_58
  let v3756 : Index := Scalar.indexCast v48
  ![31, v3756.toNat]
def k0_off149 (k0_t4 : Fin k0_t4_loop.trips) : Fin 2 → Nat :=
  let c32_i32_871 : BitVec 32 := 32#32
  let v3780 : Index := Scalar.indexCast c32_i32_871
  let c0_i32_35 : BitVec 32 := 0#32
  let c1_i32_37 : BitVec 32 := 1#32
  let arg15 : BitVec 32 := Scf.iv c0_i32_35 c1_i32_37 k0_t4
  let c16_i32_58 : BitVec 32 := 16#32
  let v48 : BitVec 32 := Scalar.muli arg15 c16_i32_58
  let v3781 : Index := Scalar.indexCast v48
  ![32, v3781.toNat]
def k0_off150 (k0_t4 : Fin k0_t4_loop.trips) : Fin 2 → Nat :=
  let c33_i32_880 : BitVec 32 := 33#32
  let v3805 : Index := Scalar.indexCast c33_i32_880
  let c0_i32_35 : BitVec 32 := 0#32
  let c1_i32_37 : BitVec 32 := 1#32
  let arg15 : BitVec 32 := Scf.iv c0_i32_35 c1_i32_37 k0_t4
  let c16_i32_58 : BitVec 32 := 16#32
  let v48 : BitVec 32 := Scalar.muli arg15 c16_i32_58
  let v3806 : Index := Scalar.indexCast v48
  ![33, v3806.toNat]
def k0_off151 (k0_t4 : Fin k0_t4_loop.trips) : Fin 2 → Nat :=
  let c34_i32_889 : BitVec 32 := 34#32
  let v3830 : Index := Scalar.indexCast c34_i32_889
  let c0_i32_35 : BitVec 32 := 0#32
  let c1_i32_37 : BitVec 32 := 1#32
  let arg15 : BitVec 32 := Scf.iv c0_i32_35 c1_i32_37 k0_t4
  let c16_i32_58 : BitVec 32 := 16#32
  let v48 : BitVec 32 := Scalar.muli arg15 c16_i32_58
  let v3831 : Index := Scalar.indexCast v48
  ![34, v3831.toNat]
def k0_off152 (k0_t4 : Fin k0_t4_loop.trips) : Fin 2 → Nat :=
  let c35_i32_898 : BitVec 32 := 35#32
  let v3855 : Index := Scalar.indexCast c35_i32_898
  let c0_i32_35 : BitVec 32 := 0#32
  let c1_i32_37 : BitVec 32 := 1#32
  let arg15 : BitVec 32 := Scf.iv c0_i32_35 c1_i32_37 k0_t4
  let c16_i32_58 : BitVec 32 := 16#32
  let v48 : BitVec 32 := Scalar.muli arg15 c16_i32_58
  let v3856 : Index := Scalar.indexCast v48
  ![35, v3856.toNat]
def k0_off153 (k0_t4 : Fin k0_t4_loop.trips) : Fin 2 → Nat :=
  let c36_i32_907 : BitVec 32 := 36#32
  let v3880 : Index := Scalar.indexCast c36_i32_907
  let c0_i32_35 : BitVec 32 := 0#32
  let c1_i32_37 : BitVec 32 := 1#32
  let arg15 : BitVec 32 := Scf.iv c0_i32_35 c1_i32_37 k0_t4
  let c16_i32_58 : BitVec 32 := 16#32
  let v48 : BitVec 32 := Scalar.muli arg15 c16_i32_58
  let v3881 : Index := Scalar.indexCast v48
  ![36, v3881.toNat]
def k0_off154 (k0_t4 : Fin k0_t4_loop.trips) : Fin 2 → Nat :=
  let c37_i32_916 : BitVec 32 := 37#32
  let v3905 : Index := Scalar.indexCast c37_i32_916
  let c0_i32_35 : BitVec 32 := 0#32
  let c1_i32_37 : BitVec 32 := 1#32
  let arg15 : BitVec 32 := Scf.iv c0_i32_35 c1_i32_37 k0_t4
  let c16_i32_58 : BitVec 32 := 16#32
  let v48 : BitVec 32 := Scalar.muli arg15 c16_i32_58
  let v3906 : Index := Scalar.indexCast v48
  ![37, v3906.toNat]
def k0_off155 (k0_t4 : Fin k0_t4_loop.trips) : Fin 2 → Nat :=
  let c38_i32_925 : BitVec 32 := 38#32
  let v3930 : Index := Scalar.indexCast c38_i32_925
  let c0_i32_35 : BitVec 32 := 0#32
  let c1_i32_37 : BitVec 32 := 1#32
  let arg15 : BitVec 32 := Scf.iv c0_i32_35 c1_i32_37 k0_t4
  let c16_i32_58 : BitVec 32 := 16#32
  let v48 : BitVec 32 := Scalar.muli arg15 c16_i32_58
  let v3931 : Index := Scalar.indexCast v48
  ![38, v3931.toNat]
def k0_off156 (k0_t4 : Fin k0_t4_loop.trips) : Fin 2 → Nat :=
  let c39_i32_934 : BitVec 32 := 39#32
  let v3955 : Index := Scalar.indexCast c39_i32_934
  let c0_i32_35 : BitVec 32 := 0#32
  let c1_i32_37 : BitVec 32 := 1#32
  let arg15 : BitVec 32 := Scf.iv c0_i32_35 c1_i32_37 k0_t4
  let c16_i32_58 : BitVec 32 := 16#32
  let v48 : BitVec 32 := Scalar.muli arg15 c16_i32_58
  let v3956 : Index := Scalar.indexCast v48
  ![39, v3956.toNat]
def k0_off157 (k0_t4 : Fin k0_t4_loop.trips) : Fin 2 → Nat :=
  let c40_i32_943 : BitVec 32 := 40#32
  let v3980 : Index := Scalar.indexCast c40_i32_943
  let c0_i32_35 : BitVec 32 := 0#32
  let c1_i32_37 : BitVec 32 := 1#32
  let arg15 : BitVec 32 := Scf.iv c0_i32_35 c1_i32_37 k0_t4
  let c16_i32_58 : BitVec 32 := 16#32
  let v48 : BitVec 32 := Scalar.muli arg15 c16_i32_58
  let v3981 : Index := Scalar.indexCast v48
  ![40, v3981.toNat]
def k0_off158 (k0_t4 : Fin k0_t4_loop.trips) : Fin 2 → Nat :=
  let c41_i32_952 : BitVec 32 := 41#32
  let v4005 : Index := Scalar.indexCast c41_i32_952
  let c0_i32_35 : BitVec 32 := 0#32
  let c1_i32_37 : BitVec 32 := 1#32
  let arg15 : BitVec 32 := Scf.iv c0_i32_35 c1_i32_37 k0_t4
  let c16_i32_58 : BitVec 32 := 16#32
  let v48 : BitVec 32 := Scalar.muli arg15 c16_i32_58
  let v4006 : Index := Scalar.indexCast v48
  ![41, v4006.toNat]
def k0_off159 (k0_t4 : Fin k0_t4_loop.trips) : Fin 2 → Nat :=
  let c42_i32_961 : BitVec 32 := 42#32
  let v4030 : Index := Scalar.indexCast c42_i32_961
  let c0_i32_35 : BitVec 32 := 0#32
  let c1_i32_37 : BitVec 32 := 1#32
  let arg15 : BitVec 32 := Scf.iv c0_i32_35 c1_i32_37 k0_t4
  let c16_i32_58 : BitVec 32 := 16#32
  let v48 : BitVec 32 := Scalar.muli arg15 c16_i32_58
  let v4031 : Index := Scalar.indexCast v48
  ![42, v4031.toNat]
def k0_off160 (k0_t4 : Fin k0_t4_loop.trips) : Fin 2 → Nat :=
  let c43_i32_970 : BitVec 32 := 43#32
  let v4055 : Index := Scalar.indexCast c43_i32_970
  let c0_i32_35 : BitVec 32 := 0#32
  let c1_i32_37 : BitVec 32 := 1#32
  let arg15 : BitVec 32 := Scf.iv c0_i32_35 c1_i32_37 k0_t4
  let c16_i32_58 : BitVec 32 := 16#32
  let v48 : BitVec 32 := Scalar.muli arg15 c16_i32_58
  let v4056 : Index := Scalar.indexCast v48
  ![43, v4056.toNat]
def k0_off161 (k0_t4 : Fin k0_t4_loop.trips) : Fin 2 → Nat :=
  let c44_i32_979 : BitVec 32 := 44#32
  let v4080 : Index := Scalar.indexCast c44_i32_979
  let c0_i32_35 : BitVec 32 := 0#32
  let c1_i32_37 : BitVec 32 := 1#32
  let arg15 : BitVec 32 := Scf.iv c0_i32_35 c1_i32_37 k0_t4
  let c16_i32_58 : BitVec 32 := 16#32
  let v48 : BitVec 32 := Scalar.muli arg15 c16_i32_58
  let v4081 : Index := Scalar.indexCast v48
  ![44, v4081.toNat]
def k0_off162 (k0_t4 : Fin k0_t4_loop.trips) : Fin 2 → Nat :=
  let c45_i32_988 : BitVec 32 := 45#32
  let v4105 : Index := Scalar.indexCast c45_i32_988
  let c0_i32_35 : BitVec 32 := 0#32
  let c1_i32_37 : BitVec 32 := 1#32
  let arg15 : BitVec 32 := Scf.iv c0_i32_35 c1_i32_37 k0_t4
  let c16_i32_58 : BitVec 32 := 16#32
  let v48 : BitVec 32 := Scalar.muli arg15 c16_i32_58
  let v4106 : Index := Scalar.indexCast v48
  ![45, v4106.toNat]
def k0_off163 (k0_t4 : Fin k0_t4_loop.trips) : Fin 2 → Nat :=
  let c46_i32_997 : BitVec 32 := 46#32
  let v4130 : Index := Scalar.indexCast c46_i32_997
  let c0_i32_35 : BitVec 32 := 0#32
  let c1_i32_37 : BitVec 32 := 1#32
  let arg15 : BitVec 32 := Scf.iv c0_i32_35 c1_i32_37 k0_t4
  let c16_i32_58 : BitVec 32 := 16#32
  let v48 : BitVec 32 := Scalar.muli arg15 c16_i32_58
  let v4131 : Index := Scalar.indexCast v48
  ![46, v4131.toNat]
def k0_off164 (k0_t4 : Fin k0_t4_loop.trips) : Fin 2 → Nat :=
  let c47_i32_1006 : BitVec 32 := 47#32
  let v4155 : Index := Scalar.indexCast c47_i32_1006
  let c0_i32_35 : BitVec 32 := 0#32
  let c1_i32_37 : BitVec 32 := 1#32
  let arg15 : BitVec 32 := Scf.iv c0_i32_35 c1_i32_37 k0_t4
  let c16_i32_58 : BitVec 32 := 16#32
  let v48 : BitVec 32 := Scalar.muli arg15 c16_i32_58
  let v4156 : Index := Scalar.indexCast v48
  ![47, v4156.toNat]
def k0_off165 (k0_t4 : Fin k0_t4_loop.trips) : Fin 2 → Nat :=
  let c48_i32_1015 : BitVec 32 := 48#32
  let v4180 : Index := Scalar.indexCast c48_i32_1015
  let c0_i32_35 : BitVec 32 := 0#32
  let c1_i32_37 : BitVec 32 := 1#32
  let arg15 : BitVec 32 := Scf.iv c0_i32_35 c1_i32_37 k0_t4
  let c16_i32_58 : BitVec 32 := 16#32
  let v48 : BitVec 32 := Scalar.muli arg15 c16_i32_58
  let v4181 : Index := Scalar.indexCast v48
  ![48, v4181.toNat]
def k0_off166 (k0_t4 : Fin k0_t4_loop.trips) : Fin 2 → Nat :=
  let c49_i32_1024 : BitVec 32 := 49#32
  let v4205 : Index := Scalar.indexCast c49_i32_1024
  let c0_i32_35 : BitVec 32 := 0#32
  let c1_i32_37 : BitVec 32 := 1#32
  let arg15 : BitVec 32 := Scf.iv c0_i32_35 c1_i32_37 k0_t4
  let c16_i32_58 : BitVec 32 := 16#32
  let v48 : BitVec 32 := Scalar.muli arg15 c16_i32_58
  let v4206 : Index := Scalar.indexCast v48
  ![49, v4206.toNat]
def k0_off167 (i : grid0.Coords) (k0_t3 : Fin k0_t3_loop.trips) : Fin 2 → Nat :=
  let c0_i32_58_r4 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4096_i32 : BitVec 32 := 4096#32
  let v2 : BitVec 32 := Scalar.muli v1 c4096_i32
  let c1_i32_17 : BitVec 32 := 1#32
  let c1_i32_18 : BitVec 32 := 1#32
  let arg14 : BitVec 32 := Scf.iv c1_i32_17 c1_i32_18 k0_t3
  let c2_i32_28 : BitVec 32 := 2#32
  let v24 : BitVec 32 := Scalar.muli arg14 c2_i32_28
  let c1_i32_43 : BitVec 32 := 1#32
  let v36 : BitVec 32 := Scalar.addi v24 c1_i32_43
  let c256_i32_44 : BitVec 32 := 256#32
  let v37 : BitVec 32 := Scalar.muli v36 c256_i32_44
  let v38 : BitVec 32 := Scalar.addi v2 v37
  ![0, v38.toNat]
def k0_off168 (i : grid0.Coords) (k0_t3 : Fin k0_t3_loop.trips) : Fin 2 → Nat :=
  let c0_i32_45 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4096_i32 : BitVec 32 := 4096#32
  let v2 : BitVec 32 := Scalar.muli v1 c4096_i32
  let c1_i32_17 : BitVec 32 := 1#32
  let c1_i32_18 : BitVec 32 := 1#32
  let arg14 : BitVec 32 := Scf.iv c1_i32_17 c1_i32_18 k0_t3
  let c2_i32_28 : BitVec 32 := 2#32
  let v24 : BitVec 32 := Scalar.muli arg14 c2_i32_28
  let c1_i32_43 : BitVec 32 := 1#32
  let v36 : BitVec 32 := Scalar.addi v24 c1_i32_43
  let c256_i32_44 : BitVec 32 := 256#32
  let v37 : BitVec 32 := Scalar.muli v36 c256_i32_44
  let v38 : BitVec 32 := Scalar.addi v2 v37
  ![0, v38.toNat]
@[reducible] def k0_t5_loop : Scf.Loop 32 :=
  let c0_i32_50 : BitVec 32 := 0#32
  let c16_i32_51 : BitVec 32 := 16#32
  let v43 : BitVec 32 := Scalar.addi c0_i32_50 c16_i32_51
  let c1_i32_52 : BitVec 32 := 1#32
  ⟨c0_i32_50, v43, c1_i32_52⟩
def k0_off169 (k0_t5 : Fin k0_t5_loop.trips) : Fin 2 → Nat :=
  let c0_i32_59 : BitVec 32 := 0#32
  let v49 : Index := Scalar.indexCast c0_i32_59
  let c0_i32_50 : BitVec 32 := 0#32
  let c1_i32_52 : BitVec 32 := 1#32
  let arg15 : BitVec 32 := Scf.iv c0_i32_50 c1_i32_52 k0_t5
  let c16_i32_58 : BitVec 32 := 16#32
  let v48 : BitVec 32 := Scalar.muli arg15 c16_i32_58
  let v50 : Index := Scalar.indexCast v48
  ![0, v50.toNat]
def k0_off170 (k0_t5 : Fin k0_t5_loop.trips) : Fin 2 → Nat :=
  let c1_i32_60 : BitVec 32 := 1#32
  let v53 : Index := Scalar.indexCast c1_i32_60
  let c0_i32_50 : BitVec 32 := 0#32
  let c1_i32_52 : BitVec 32 := 1#32
  let arg15 : BitVec 32 := Scf.iv c0_i32_50 c1_i32_52 k0_t5
  let c16_i32_58 : BitVec 32 := 16#32
  let v48 : BitVec 32 := Scalar.muli arg15 c16_i32_58
  let v54 : Index := Scalar.indexCast v48
  ![1, v54.toNat]
def k0_off171 (k0_t5 : Fin k0_t5_loop.trips) : Fin 2 → Nat :=
  let c2_i32_61 : BitVec 32 := 2#32
  let v57 : Index := Scalar.indexCast c2_i32_61
  let c0_i32_50 : BitVec 32 := 0#32
  let c1_i32_52 : BitVec 32 := 1#32
  let arg15 : BitVec 32 := Scf.iv c0_i32_50 c1_i32_52 k0_t5
  let c16_i32_58 : BitVec 32 := 16#32
  let v48 : BitVec 32 := Scalar.muli arg15 c16_i32_58
  let v58 : Index := Scalar.indexCast v48
  ![2, v58.toNat]
def k0_off172 (k0_t5 : Fin k0_t5_loop.trips) : Fin 2 → Nat :=
  let c3_i32 : BitVec 32 := 3#32
  let v61 : Index := Scalar.indexCast c3_i32
  let c0_i32_50 : BitVec 32 := 0#32
  let c1_i32_52 : BitVec 32 := 1#32
  let arg15 : BitVec 32 := Scf.iv c0_i32_50 c1_i32_52 k0_t5
  let c16_i32_58 : BitVec 32 := 16#32
  let v48 : BitVec 32 := Scalar.muli arg15 c16_i32_58
  let v62 : Index := Scalar.indexCast v48
  ![3, v62.toNat]
def k0_off173 (k0_t5 : Fin k0_t5_loop.trips) : Fin 2 → Nat :=
  let c0_i32_583 : BitVec 32 := 0#32
  let v2980 : Index := Scalar.indexCast c0_i32_583
  let c0_i32_50 : BitVec 32 := 0#32
  let c1_i32_52 : BitVec 32 := 1#32
  let arg15 : BitVec 32 := Scf.iv c0_i32_50 c1_i32_52 k0_t5
  let c16_i32_58 : BitVec 32 := 16#32
  let v48 : BitVec 32 := Scalar.muli arg15 c16_i32_58
  let v2981 : Index := Scalar.indexCast v48
  ![0, v2981.toNat]
def k0_off174 (k0_t5 : Fin k0_t5_loop.trips) : Fin 2 → Nat :=
  let c1_i32_592 : BitVec 32 := 1#32
  let v3005 : Index := Scalar.indexCast c1_i32_592
  let c0_i32_50 : BitVec 32 := 0#32
  let c1_i32_52 : BitVec 32 := 1#32
  let arg15 : BitVec 32 := Scf.iv c0_i32_50 c1_i32_52 k0_t5
  let c16_i32_58 : BitVec 32 := 16#32
  let v48 : BitVec 32 := Scalar.muli arg15 c16_i32_58
  let v3006 : Index := Scalar.indexCast v48
  ![1, v3006.toNat]
def k0_off175 (k0_t5 : Fin k0_t5_loop.trips) : Fin 2 → Nat :=
  let c2_i32_601 : BitVec 32 := 2#32
  let v3030 : Index := Scalar.indexCast c2_i32_601
  let c0_i32_50 : BitVec 32 := 0#32
  let c1_i32_52 : BitVec 32 := 1#32
  let arg15 : BitVec 32 := Scf.iv c0_i32_50 c1_i32_52 k0_t5
  let c16_i32_58 : BitVec 32 := 16#32
  let v48 : BitVec 32 := Scalar.muli arg15 c16_i32_58
  let v3031 : Index := Scalar.indexCast v48
  ![2, v3031.toNat]
def k0_off176 (k0_t5 : Fin k0_t5_loop.trips) : Fin 2 → Nat :=
  let c3_i32_610 : BitVec 32 := 3#32
  let v3055 : Index := Scalar.indexCast c3_i32_610
  let c0_i32_50 : BitVec 32 := 0#32
  let c1_i32_52 : BitVec 32 := 1#32
  let arg15 : BitVec 32 := Scf.iv c0_i32_50 c1_i32_52 k0_t5
  let c16_i32_58 : BitVec 32 := 16#32
  let v48 : BitVec 32 := Scalar.muli arg15 c16_i32_58
  let v3056 : Index := Scalar.indexCast v48
  ![3, v3056.toNat]
def k0_off177 (k0_t5 : Fin k0_t5_loop.trips) : Fin 2 → Nat :=
  let c4_i32_619 : BitVec 32 := 4#32
  let v3080 : Index := Scalar.indexCast c4_i32_619
  let c0_i32_50 : BitVec 32 := 0#32
  let c1_i32_52 : BitVec 32 := 1#32
  let arg15 : BitVec 32 := Scf.iv c0_i32_50 c1_i32_52 k0_t5
  let c16_i32_58 : BitVec 32 := 16#32
  let v48 : BitVec 32 := Scalar.muli arg15 c16_i32_58
  let v3081 : Index := Scalar.indexCast v48
  ![4, v3081.toNat]
def k0_off178 (k0_t5 : Fin k0_t5_loop.trips) : Fin 2 → Nat :=
  let c5_i32_628 : BitVec 32 := 5#32
  let v3105 : Index := Scalar.indexCast c5_i32_628
  let c0_i32_50 : BitVec 32 := 0#32
  let c1_i32_52 : BitVec 32 := 1#32
  let arg15 : BitVec 32 := Scf.iv c0_i32_50 c1_i32_52 k0_t5
  let c16_i32_58 : BitVec 32 := 16#32
  let v48 : BitVec 32 := Scalar.muli arg15 c16_i32_58
  let v3106 : Index := Scalar.indexCast v48
  ![5, v3106.toNat]
def k0_off179 (k0_t5 : Fin k0_t5_loop.trips) : Fin 2 → Nat :=
  let c6_i32_637 : BitVec 32 := 6#32
  let v3130 : Index := Scalar.indexCast c6_i32_637
  let c0_i32_50 : BitVec 32 := 0#32
  let c1_i32_52 : BitVec 32 := 1#32
  let arg15 : BitVec 32 := Scf.iv c0_i32_50 c1_i32_52 k0_t5
  let c16_i32_58 : BitVec 32 := 16#32
  let v48 : BitVec 32 := Scalar.muli arg15 c16_i32_58
  let v3131 : Index := Scalar.indexCast v48
  ![6, v3131.toNat]
def k0_off180 (k0_t5 : Fin k0_t5_loop.trips) : Fin 2 → Nat :=
  let c7_i32_646 : BitVec 32 := 7#32
  let v3155 : Index := Scalar.indexCast c7_i32_646
  let c0_i32_50 : BitVec 32 := 0#32
  let c1_i32_52 : BitVec 32 := 1#32
  let arg15 : BitVec 32 := Scf.iv c0_i32_50 c1_i32_52 k0_t5
  let c16_i32_58 : BitVec 32 := 16#32
  let v48 : BitVec 32 := Scalar.muli arg15 c16_i32_58
  let v3156 : Index := Scalar.indexCast v48
  ![7, v3156.toNat]
def k0_off181 (k0_t5 : Fin k0_t5_loop.trips) : Fin 2 → Nat :=
  let c8_i32_655 : BitVec 32 := 8#32
  let v3180 : Index := Scalar.indexCast c8_i32_655
  let c0_i32_50 : BitVec 32 := 0#32
  let c1_i32_52 : BitVec 32 := 1#32
  let arg15 : BitVec 32 := Scf.iv c0_i32_50 c1_i32_52 k0_t5
  let c16_i32_58 : BitVec 32 := 16#32
  let v48 : BitVec 32 := Scalar.muli arg15 c16_i32_58
  let v3181 : Index := Scalar.indexCast v48
  ![8, v3181.toNat]
def k0_off182 (k0_t5 : Fin k0_t5_loop.trips) : Fin 2 → Nat :=
  let c9_i32_664 : BitVec 32 := 9#32
  let v3205 : Index := Scalar.indexCast c9_i32_664
  let c0_i32_50 : BitVec 32 := 0#32
  let c1_i32_52 : BitVec 32 := 1#32
  let arg15 : BitVec 32 := Scf.iv c0_i32_50 c1_i32_52 k0_t5
  let c16_i32_58 : BitVec 32 := 16#32
  let v48 : BitVec 32 := Scalar.muli arg15 c16_i32_58
  let v3206 : Index := Scalar.indexCast v48
  ![9, v3206.toNat]
def k0_off183 (k0_t5 : Fin k0_t5_loop.trips) : Fin 2 → Nat :=
  let c10_i32_673 : BitVec 32 := 10#32
  let v3230 : Index := Scalar.indexCast c10_i32_673
  let c0_i32_50 : BitVec 32 := 0#32
  let c1_i32_52 : BitVec 32 := 1#32
  let arg15 : BitVec 32 := Scf.iv c0_i32_50 c1_i32_52 k0_t5
  let c16_i32_58 : BitVec 32 := 16#32
  let v48 : BitVec 32 := Scalar.muli arg15 c16_i32_58
  let v3231 : Index := Scalar.indexCast v48
  ![10, v3231.toNat]
def k0_off184 (k0_t5 : Fin k0_t5_loop.trips) : Fin 2 → Nat :=
  let c11_i32_682 : BitVec 32 := 11#32
  let v3255 : Index := Scalar.indexCast c11_i32_682
  let c0_i32_50 : BitVec 32 := 0#32
  let c1_i32_52 : BitVec 32 := 1#32
  let arg15 : BitVec 32 := Scf.iv c0_i32_50 c1_i32_52 k0_t5
  let c16_i32_58 : BitVec 32 := 16#32
  let v48 : BitVec 32 := Scalar.muli arg15 c16_i32_58
  let v3256 : Index := Scalar.indexCast v48
  ![11, v3256.toNat]
def k0_off185 (k0_t5 : Fin k0_t5_loop.trips) : Fin 2 → Nat :=
  let c12_i32_691 : BitVec 32 := 12#32
  let v3280 : Index := Scalar.indexCast c12_i32_691
  let c0_i32_50 : BitVec 32 := 0#32
  let c1_i32_52 : BitVec 32 := 1#32
  let arg15 : BitVec 32 := Scf.iv c0_i32_50 c1_i32_52 k0_t5
  let c16_i32_58 : BitVec 32 := 16#32
  let v48 : BitVec 32 := Scalar.muli arg15 c16_i32_58
  let v3281 : Index := Scalar.indexCast v48
  ![12, v3281.toNat]
def k0_off186 (k0_t5 : Fin k0_t5_loop.trips) : Fin 2 → Nat :=
  let c13_i32_700 : BitVec 32 := 13#32
  let v3305 : Index := Scalar.indexCast c13_i32_700
  let c0_i32_50 : BitVec 32 := 0#32
  let c1_i32_52 : BitVec 32 := 1#32
  let arg15 : BitVec 32 := Scf.iv c0_i32_50 c1_i32_52 k0_t5
  let c16_i32_58 : BitVec 32 := 16#32
  let v48 : BitVec 32 := Scalar.muli arg15 c16_i32_58
  let v3306 : Index := Scalar.indexCast v48
  ![13, v3306.toNat]
def k0_off187 (k0_t5 : Fin k0_t5_loop.trips) : Fin 2 → Nat :=
  let c14_i32_709 : BitVec 32 := 14#32
  let v3330 : Index := Scalar.indexCast c14_i32_709
  let c0_i32_50 : BitVec 32 := 0#32
  let c1_i32_52 : BitVec 32 := 1#32
  let arg15 : BitVec 32 := Scf.iv c0_i32_50 c1_i32_52 k0_t5
  let c16_i32_58 : BitVec 32 := 16#32
  let v48 : BitVec 32 := Scalar.muli arg15 c16_i32_58
  let v3331 : Index := Scalar.indexCast v48
  ![14, v3331.toNat]
def k0_off188 (k0_t5 : Fin k0_t5_loop.trips) : Fin 2 → Nat :=
  let c15_i32_718 : BitVec 32 := 15#32
  let v3355 : Index := Scalar.indexCast c15_i32_718
  let c0_i32_50 : BitVec 32 := 0#32
  let c1_i32_52 : BitVec 32 := 1#32
  let arg15 : BitVec 32 := Scf.iv c0_i32_50 c1_i32_52 k0_t5
  let c16_i32_58 : BitVec 32 := 16#32
  let v48 : BitVec 32 := Scalar.muli arg15 c16_i32_58
  let v3356 : Index := Scalar.indexCast v48
  ![15, v3356.toNat]
def k0_off189 (k0_t5 : Fin k0_t5_loop.trips) : Fin 2 → Nat :=
  let c16_i32_727 : BitVec 32 := 16#32
  let v3380 : Index := Scalar.indexCast c16_i32_727
  let c0_i32_50 : BitVec 32 := 0#32
  let c1_i32_52 : BitVec 32 := 1#32
  let arg15 : BitVec 32 := Scf.iv c0_i32_50 c1_i32_52 k0_t5
  let c16_i32_58 : BitVec 32 := 16#32
  let v48 : BitVec 32 := Scalar.muli arg15 c16_i32_58
  let v3381 : Index := Scalar.indexCast v48
  ![16, v3381.toNat]
def k0_off190 (k0_t5 : Fin k0_t5_loop.trips) : Fin 2 → Nat :=
  let c17_i32_736 : BitVec 32 := 17#32
  let v3405 : Index := Scalar.indexCast c17_i32_736
  let c0_i32_50 : BitVec 32 := 0#32
  let c1_i32_52 : BitVec 32 := 1#32
  let arg15 : BitVec 32 := Scf.iv c0_i32_50 c1_i32_52 k0_t5
  let c16_i32_58 : BitVec 32 := 16#32
  let v48 : BitVec 32 := Scalar.muli arg15 c16_i32_58
  let v3406 : Index := Scalar.indexCast v48
  ![17, v3406.toNat]
def k0_off191 (k0_t5 : Fin k0_t5_loop.trips) : Fin 2 → Nat :=
  let c18_i32_745 : BitVec 32 := 18#32
  let v3430 : Index := Scalar.indexCast c18_i32_745
  let c0_i32_50 : BitVec 32 := 0#32
  let c1_i32_52 : BitVec 32 := 1#32
  let arg15 : BitVec 32 := Scf.iv c0_i32_50 c1_i32_52 k0_t5
  let c16_i32_58 : BitVec 32 := 16#32
  let v48 : BitVec 32 := Scalar.muli arg15 c16_i32_58
  let v3431 : Index := Scalar.indexCast v48
  ![18, v3431.toNat]
def k0_off192 (k0_t5 : Fin k0_t5_loop.trips) : Fin 2 → Nat :=
  let c19_i32_754 : BitVec 32 := 19#32
  let v3455 : Index := Scalar.indexCast c19_i32_754
  let c0_i32_50 : BitVec 32 := 0#32
  let c1_i32_52 : BitVec 32 := 1#32
  let arg15 : BitVec 32 := Scf.iv c0_i32_50 c1_i32_52 k0_t5
  let c16_i32_58 : BitVec 32 := 16#32
  let v48 : BitVec 32 := Scalar.muli arg15 c16_i32_58
  let v3456 : Index := Scalar.indexCast v48
  ![19, v3456.toNat]
def k0_off193 (k0_t5 : Fin k0_t5_loop.trips) : Fin 2 → Nat :=
  let c20_i32_763 : BitVec 32 := 20#32
  let v3480 : Index := Scalar.indexCast c20_i32_763
  let c0_i32_50 : BitVec 32 := 0#32
  let c1_i32_52 : BitVec 32 := 1#32
  let arg15 : BitVec 32 := Scf.iv c0_i32_50 c1_i32_52 k0_t5
  let c16_i32_58 : BitVec 32 := 16#32
  let v48 : BitVec 32 := Scalar.muli arg15 c16_i32_58
  let v3481 : Index := Scalar.indexCast v48
  ![20, v3481.toNat]
def k0_off194 (k0_t5 : Fin k0_t5_loop.trips) : Fin 2 → Nat :=
  let c21_i32_772 : BitVec 32 := 21#32
  let v3505 : Index := Scalar.indexCast c21_i32_772
  let c0_i32_50 : BitVec 32 := 0#32
  let c1_i32_52 : BitVec 32 := 1#32
  let arg15 : BitVec 32 := Scf.iv c0_i32_50 c1_i32_52 k0_t5
  let c16_i32_58 : BitVec 32 := 16#32
  let v48 : BitVec 32 := Scalar.muli arg15 c16_i32_58
  let v3506 : Index := Scalar.indexCast v48
  ![21, v3506.toNat]
def k0_off195 (k0_t5 : Fin k0_t5_loop.trips) : Fin 2 → Nat :=
  let c22_i32_781 : BitVec 32 := 22#32
  let v3530 : Index := Scalar.indexCast c22_i32_781
  let c0_i32_50 : BitVec 32 := 0#32
  let c1_i32_52 : BitVec 32 := 1#32
  let arg15 : BitVec 32 := Scf.iv c0_i32_50 c1_i32_52 k0_t5
  let c16_i32_58 : BitVec 32 := 16#32
  let v48 : BitVec 32 := Scalar.muli arg15 c16_i32_58
  let v3531 : Index := Scalar.indexCast v48
  ![22, v3531.toNat]
def k0_off196 (k0_t5 : Fin k0_t5_loop.trips) : Fin 2 → Nat :=
  let c23_i32_790 : BitVec 32 := 23#32
  let v3555 : Index := Scalar.indexCast c23_i32_790
  let c0_i32_50 : BitVec 32 := 0#32
  let c1_i32_52 : BitVec 32 := 1#32
  let arg15 : BitVec 32 := Scf.iv c0_i32_50 c1_i32_52 k0_t5
  let c16_i32_58 : BitVec 32 := 16#32
  let v48 : BitVec 32 := Scalar.muli arg15 c16_i32_58
  let v3556 : Index := Scalar.indexCast v48
  ![23, v3556.toNat]
def k0_off197 (k0_t5 : Fin k0_t5_loop.trips) : Fin 2 → Nat :=
  let c24_i32_799 : BitVec 32 := 24#32
  let v3580 : Index := Scalar.indexCast c24_i32_799
  let c0_i32_50 : BitVec 32 := 0#32
  let c1_i32_52 : BitVec 32 := 1#32
  let arg15 : BitVec 32 := Scf.iv c0_i32_50 c1_i32_52 k0_t5
  let c16_i32_58 : BitVec 32 := 16#32
  let v48 : BitVec 32 := Scalar.muli arg15 c16_i32_58
  let v3581 : Index := Scalar.indexCast v48
  ![24, v3581.toNat]
def k0_off198 (k0_t5 : Fin k0_t5_loop.trips) : Fin 2 → Nat :=
  let c25_i32_808 : BitVec 32 := 25#32
  let v3605 : Index := Scalar.indexCast c25_i32_808
  let c0_i32_50 : BitVec 32 := 0#32
  let c1_i32_52 : BitVec 32 := 1#32
  let arg15 : BitVec 32 := Scf.iv c0_i32_50 c1_i32_52 k0_t5
  let c16_i32_58 : BitVec 32 := 16#32
  let v48 : BitVec 32 := Scalar.muli arg15 c16_i32_58
  let v3606 : Index := Scalar.indexCast v48
  ![25, v3606.toNat]
def k0_off199 (k0_t5 : Fin k0_t5_loop.trips) : Fin 2 → Nat :=
  let c26_i32_817 : BitVec 32 := 26#32
  let v3630 : Index := Scalar.indexCast c26_i32_817
  let c0_i32_50 : BitVec 32 := 0#32
  let c1_i32_52 : BitVec 32 := 1#32
  let arg15 : BitVec 32 := Scf.iv c0_i32_50 c1_i32_52 k0_t5
  let c16_i32_58 : BitVec 32 := 16#32
  let v48 : BitVec 32 := Scalar.muli arg15 c16_i32_58
  let v3631 : Index := Scalar.indexCast v48
  ![26, v3631.toNat]
def k0_off200 (k0_t5 : Fin k0_t5_loop.trips) : Fin 2 → Nat :=
  let c27_i32_826 : BitVec 32 := 27#32
  let v3655 : Index := Scalar.indexCast c27_i32_826
  let c0_i32_50 : BitVec 32 := 0#32
  let c1_i32_52 : BitVec 32 := 1#32
  let arg15 : BitVec 32 := Scf.iv c0_i32_50 c1_i32_52 k0_t5
  let c16_i32_58 : BitVec 32 := 16#32
  let v48 : BitVec 32 := Scalar.muli arg15 c16_i32_58
  let v3656 : Index := Scalar.indexCast v48
  ![27, v3656.toNat]
def k0_off201 (k0_t5 : Fin k0_t5_loop.trips) : Fin 2 → Nat :=
  let c28_i32_835 : BitVec 32 := 28#32
  let v3680 : Index := Scalar.indexCast c28_i32_835
  let c0_i32_50 : BitVec 32 := 0#32
  let c1_i32_52 : BitVec 32 := 1#32
  let arg15 : BitVec 32 := Scf.iv c0_i32_50 c1_i32_52 k0_t5
  let c16_i32_58 : BitVec 32 := 16#32
  let v48 : BitVec 32 := Scalar.muli arg15 c16_i32_58
  let v3681 : Index := Scalar.indexCast v48
  ![28, v3681.toNat]
def k0_off202 (k0_t5 : Fin k0_t5_loop.trips) : Fin 2 → Nat :=
  let c29_i32_844 : BitVec 32 := 29#32
  let v3705 : Index := Scalar.indexCast c29_i32_844
  let c0_i32_50 : BitVec 32 := 0#32
  let c1_i32_52 : BitVec 32 := 1#32
  let arg15 : BitVec 32 := Scf.iv c0_i32_50 c1_i32_52 k0_t5
  let c16_i32_58 : BitVec 32 := 16#32
  let v48 : BitVec 32 := Scalar.muli arg15 c16_i32_58
  let v3706 : Index := Scalar.indexCast v48
  ![29, v3706.toNat]
def k0_off203 (k0_t5 : Fin k0_t5_loop.trips) : Fin 2 → Nat :=
  let c30_i32_853 : BitVec 32 := 30#32
  let v3730 : Index := Scalar.indexCast c30_i32_853
  let c0_i32_50 : BitVec 32 := 0#32
  let c1_i32_52 : BitVec 32 := 1#32
  let arg15 : BitVec 32 := Scf.iv c0_i32_50 c1_i32_52 k0_t5
  let c16_i32_58 : BitVec 32 := 16#32
  let v48 : BitVec 32 := Scalar.muli arg15 c16_i32_58
  let v3731 : Index := Scalar.indexCast v48
  ![30, v3731.toNat]
def k0_off204 (k0_t5 : Fin k0_t5_loop.trips) : Fin 2 → Nat :=
  let c31_i32_862 : BitVec 32 := 31#32
  let v3755 : Index := Scalar.indexCast c31_i32_862
  let c0_i32_50 : BitVec 32 := 0#32
  let c1_i32_52 : BitVec 32 := 1#32
  let arg15 : BitVec 32 := Scf.iv c0_i32_50 c1_i32_52 k0_t5
  let c16_i32_58 : BitVec 32 := 16#32
  let v48 : BitVec 32 := Scalar.muli arg15 c16_i32_58
  let v3756 : Index := Scalar.indexCast v48
  ![31, v3756.toNat]
def k0_off205 (k0_t5 : Fin k0_t5_loop.trips) : Fin 2 → Nat :=
  let c32_i32_871 : BitVec 32 := 32#32
  let v3780 : Index := Scalar.indexCast c32_i32_871
  let c0_i32_50 : BitVec 32 := 0#32
  let c1_i32_52 : BitVec 32 := 1#32
  let arg15 : BitVec 32 := Scf.iv c0_i32_50 c1_i32_52 k0_t5
  let c16_i32_58 : BitVec 32 := 16#32
  let v48 : BitVec 32 := Scalar.muli arg15 c16_i32_58
  let v3781 : Index := Scalar.indexCast v48
  ![32, v3781.toNat]
def k0_off206 (k0_t5 : Fin k0_t5_loop.trips) : Fin 2 → Nat :=
  let c33_i32_880 : BitVec 32 := 33#32
  let v3805 : Index := Scalar.indexCast c33_i32_880
  let c0_i32_50 : BitVec 32 := 0#32
  let c1_i32_52 : BitVec 32 := 1#32
  let arg15 : BitVec 32 := Scf.iv c0_i32_50 c1_i32_52 k0_t5
  let c16_i32_58 : BitVec 32 := 16#32
  let v48 : BitVec 32 := Scalar.muli arg15 c16_i32_58
  let v3806 : Index := Scalar.indexCast v48
  ![33, v3806.toNat]
def k0_off207 (k0_t5 : Fin k0_t5_loop.trips) : Fin 2 → Nat :=
  let c34_i32_889 : BitVec 32 := 34#32
  let v3830 : Index := Scalar.indexCast c34_i32_889
  let c0_i32_50 : BitVec 32 := 0#32
  let c1_i32_52 : BitVec 32 := 1#32
  let arg15 : BitVec 32 := Scf.iv c0_i32_50 c1_i32_52 k0_t5
  let c16_i32_58 : BitVec 32 := 16#32
  let v48 : BitVec 32 := Scalar.muli arg15 c16_i32_58
  let v3831 : Index := Scalar.indexCast v48
  ![34, v3831.toNat]
def k0_off208 (k0_t5 : Fin k0_t5_loop.trips) : Fin 2 → Nat :=
  let c35_i32_898 : BitVec 32 := 35#32
  let v3855 : Index := Scalar.indexCast c35_i32_898
  let c0_i32_50 : BitVec 32 := 0#32
  let c1_i32_52 : BitVec 32 := 1#32
  let arg15 : BitVec 32 := Scf.iv c0_i32_50 c1_i32_52 k0_t5
  let c16_i32_58 : BitVec 32 := 16#32
  let v48 : BitVec 32 := Scalar.muli arg15 c16_i32_58
  let v3856 : Index := Scalar.indexCast v48
  ![35, v3856.toNat]
def k0_off209 (k0_t5 : Fin k0_t5_loop.trips) : Fin 2 → Nat :=
  let c36_i32_907 : BitVec 32 := 36#32
  let v3880 : Index := Scalar.indexCast c36_i32_907
  let c0_i32_50 : BitVec 32 := 0#32
  let c1_i32_52 : BitVec 32 := 1#32
  let arg15 : BitVec 32 := Scf.iv c0_i32_50 c1_i32_52 k0_t5
  let c16_i32_58 : BitVec 32 := 16#32
  let v48 : BitVec 32 := Scalar.muli arg15 c16_i32_58
  let v3881 : Index := Scalar.indexCast v48
  ![36, v3881.toNat]
def k0_off210 (k0_t5 : Fin k0_t5_loop.trips) : Fin 2 → Nat :=
  let c37_i32_916 : BitVec 32 := 37#32
  let v3905 : Index := Scalar.indexCast c37_i32_916
  let c0_i32_50 : BitVec 32 := 0#32
  let c1_i32_52 : BitVec 32 := 1#32
  let arg15 : BitVec 32 := Scf.iv c0_i32_50 c1_i32_52 k0_t5
  let c16_i32_58 : BitVec 32 := 16#32
  let v48 : BitVec 32 := Scalar.muli arg15 c16_i32_58
  let v3906 : Index := Scalar.indexCast v48
  ![37, v3906.toNat]
def k0_off211 (k0_t5 : Fin k0_t5_loop.trips) : Fin 2 → Nat :=
  let c38_i32_925 : BitVec 32 := 38#32
  let v3930 : Index := Scalar.indexCast c38_i32_925
  let c0_i32_50 : BitVec 32 := 0#32
  let c1_i32_52 : BitVec 32 := 1#32
  let arg15 : BitVec 32 := Scf.iv c0_i32_50 c1_i32_52 k0_t5
  let c16_i32_58 : BitVec 32 := 16#32
  let v48 : BitVec 32 := Scalar.muli arg15 c16_i32_58
  let v3931 : Index := Scalar.indexCast v48
  ![38, v3931.toNat]
def k0_off212 (k0_t5 : Fin k0_t5_loop.trips) : Fin 2 → Nat :=
  let c39_i32_934 : BitVec 32 := 39#32
  let v3955 : Index := Scalar.indexCast c39_i32_934
  let c0_i32_50 : BitVec 32 := 0#32
  let c1_i32_52 : BitVec 32 := 1#32
  let arg15 : BitVec 32 := Scf.iv c0_i32_50 c1_i32_52 k0_t5
  let c16_i32_58 : BitVec 32 := 16#32
  let v48 : BitVec 32 := Scalar.muli arg15 c16_i32_58
  let v3956 : Index := Scalar.indexCast v48
  ![39, v3956.toNat]
def k0_off213 (k0_t5 : Fin k0_t5_loop.trips) : Fin 2 → Nat :=
  let c40_i32_943 : BitVec 32 := 40#32
  let v3980 : Index := Scalar.indexCast c40_i32_943
  let c0_i32_50 : BitVec 32 := 0#32
  let c1_i32_52 : BitVec 32 := 1#32
  let arg15 : BitVec 32 := Scf.iv c0_i32_50 c1_i32_52 k0_t5
  let c16_i32_58 : BitVec 32 := 16#32
  let v48 : BitVec 32 := Scalar.muli arg15 c16_i32_58
  let v3981 : Index := Scalar.indexCast v48
  ![40, v3981.toNat]
def k0_off214 (k0_t5 : Fin k0_t5_loop.trips) : Fin 2 → Nat :=
  let c41_i32_952 : BitVec 32 := 41#32
  let v4005 : Index := Scalar.indexCast c41_i32_952
  let c0_i32_50 : BitVec 32 := 0#32
  let c1_i32_52 : BitVec 32 := 1#32
  let arg15 : BitVec 32 := Scf.iv c0_i32_50 c1_i32_52 k0_t5
  let c16_i32_58 : BitVec 32 := 16#32
  let v48 : BitVec 32 := Scalar.muli arg15 c16_i32_58
  let v4006 : Index := Scalar.indexCast v48
  ![41, v4006.toNat]
def k0_off215 (k0_t5 : Fin k0_t5_loop.trips) : Fin 2 → Nat :=
  let c42_i32_961 : BitVec 32 := 42#32
  let v4030 : Index := Scalar.indexCast c42_i32_961
  let c0_i32_50 : BitVec 32 := 0#32
  let c1_i32_52 : BitVec 32 := 1#32
  let arg15 : BitVec 32 := Scf.iv c0_i32_50 c1_i32_52 k0_t5
  let c16_i32_58 : BitVec 32 := 16#32
  let v48 : BitVec 32 := Scalar.muli arg15 c16_i32_58
  let v4031 : Index := Scalar.indexCast v48
  ![42, v4031.toNat]
def k0_off216 (k0_t5 : Fin k0_t5_loop.trips) : Fin 2 → Nat :=
  let c43_i32_970 : BitVec 32 := 43#32
  let v4055 : Index := Scalar.indexCast c43_i32_970
  let c0_i32_50 : BitVec 32 := 0#32
  let c1_i32_52 : BitVec 32 := 1#32
  let arg15 : BitVec 32 := Scf.iv c0_i32_50 c1_i32_52 k0_t5
  let c16_i32_58 : BitVec 32 := 16#32
  let v48 : BitVec 32 := Scalar.muli arg15 c16_i32_58
  let v4056 : Index := Scalar.indexCast v48
  ![43, v4056.toNat]
def k0_off217 (k0_t5 : Fin k0_t5_loop.trips) : Fin 2 → Nat :=
  let c44_i32_979 : BitVec 32 := 44#32
  let v4080 : Index := Scalar.indexCast c44_i32_979
  let c0_i32_50 : BitVec 32 := 0#32
  let c1_i32_52 : BitVec 32 := 1#32
  let arg15 : BitVec 32 := Scf.iv c0_i32_50 c1_i32_52 k0_t5
  let c16_i32_58 : BitVec 32 := 16#32
  let v48 : BitVec 32 := Scalar.muli arg15 c16_i32_58
  let v4081 : Index := Scalar.indexCast v48
  ![44, v4081.toNat]
def k0_off218 (k0_t5 : Fin k0_t5_loop.trips) : Fin 2 → Nat :=
  let c45_i32_988 : BitVec 32 := 45#32
  let v4105 : Index := Scalar.indexCast c45_i32_988
  let c0_i32_50 : BitVec 32 := 0#32
  let c1_i32_52 : BitVec 32 := 1#32
  let arg15 : BitVec 32 := Scf.iv c0_i32_50 c1_i32_52 k0_t5
  let c16_i32_58 : BitVec 32 := 16#32
  let v48 : BitVec 32 := Scalar.muli arg15 c16_i32_58
  let v4106 : Index := Scalar.indexCast v48
  ![45, v4106.toNat]
def k0_off219 (k0_t5 : Fin k0_t5_loop.trips) : Fin 2 → Nat :=
  let c46_i32_997 : BitVec 32 := 46#32
  let v4130 : Index := Scalar.indexCast c46_i32_997
  let c0_i32_50 : BitVec 32 := 0#32
  let c1_i32_52 : BitVec 32 := 1#32
  let arg15 : BitVec 32 := Scf.iv c0_i32_50 c1_i32_52 k0_t5
  let c16_i32_58 : BitVec 32 := 16#32
  let v48 : BitVec 32 := Scalar.muli arg15 c16_i32_58
  let v4131 : Index := Scalar.indexCast v48
  ![46, v4131.toNat]
def k0_off220 (k0_t5 : Fin k0_t5_loop.trips) : Fin 2 → Nat :=
  let c47_i32_1006 : BitVec 32 := 47#32
  let v4155 : Index := Scalar.indexCast c47_i32_1006
  let c0_i32_50 : BitVec 32 := 0#32
  let c1_i32_52 : BitVec 32 := 1#32
  let arg15 : BitVec 32 := Scf.iv c0_i32_50 c1_i32_52 k0_t5
  let c16_i32_58 : BitVec 32 := 16#32
  let v48 : BitVec 32 := Scalar.muli arg15 c16_i32_58
  let v4156 : Index := Scalar.indexCast v48
  ![47, v4156.toNat]
def k0_off221 (k0_t5 : Fin k0_t5_loop.trips) : Fin 2 → Nat :=
  let c48_i32_1015 : BitVec 32 := 48#32
  let v4180 : Index := Scalar.indexCast c48_i32_1015
  let c0_i32_50 : BitVec 32 := 0#32
  let c1_i32_52 : BitVec 32 := 1#32
  let arg15 : BitVec 32 := Scf.iv c0_i32_50 c1_i32_52 k0_t5
  let c16_i32_58 : BitVec 32 := 16#32
  let v48 : BitVec 32 := Scalar.muli arg15 c16_i32_58
  let v4181 : Index := Scalar.indexCast v48
  ![48, v4181.toNat]
def k0_off222 (k0_t5 : Fin k0_t5_loop.trips) : Fin 2 → Nat :=
  let c49_i32_1024 : BitVec 32 := 49#32
  let v4205 : Index := Scalar.indexCast c49_i32_1024
  let c0_i32_50 : BitVec 32 := 0#32
  let c1_i32_52 : BitVec 32 := 1#32
  let arg15 : BitVec 32 := Scf.iv c0_i32_50 c1_i32_52 k0_t5
  let c16_i32_58 : BitVec 32 := 16#32
  let v48 : BitVec 32 := Scalar.muli arg15 c16_i32_58
  let v4206 : Index := Scalar.indexCast v48
  ![49, v4206.toNat]
def k0_off223 (i : grid0.Coords) : Fin 2 → Nat :=
  let c0_i32_20 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4096_i32 : BitVec 32 := 4096#32
  let v2 : BitVec 32 := Scalar.muli v1 c4096_i32
  ![0, v2.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S131072x4 : Shape := ⟨2, ![131072, 4]⟩
abbrev S64x4 : Shape := ⟨2, ![64, 4]⟩
abbrev S131072x1x4 : Shape := ⟨3, ![131072, 1, 4]⟩
abbrev S1x64x4 : Shape := ⟨3, ![1, 64, 4]⟩
abbrev S131072x64x4 : Shape := ⟨3, ![131072, 64, 4]⟩
abbrev S131072x64x1 : Shape := ⟨3, ![131072, 64, 1]⟩
abbrev S131072x64 : Shape := ⟨2, ![131072, 64]⟩
abbrev S_ : Shape := ⟨0, ![]⟩
abbrev S131072x50 : Shape := ⟨2, ![131072, 50]⟩

abbrev nBuf : Space → Nat
  | .hbm => 39
  | .vmem => 0
  | .smem => 0
  | _ => 0

abbrev bufTy : (tb : Table) → Fin (tcTables nBuf tb) → BufTy
  | .hbm, ⟨0, _⟩ => ⟨S131072x4, .f32⟩
  | .hbm, ⟨1, _⟩ => ⟨S64x4, .f32⟩
  | .hbm, ⟨2, _⟩ => ⟨S131072x4, .bf16⟩
  | .hbm, ⟨3, _⟩ => ⟨S131072x4, .f32⟩
  | .hbm, ⟨4, _⟩ => ⟨S64x4, .bf16⟩
  | .hbm, ⟨5, _⟩ => ⟨S64x4, .f32⟩
  | .hbm, ⟨6, _⟩ => ⟨S131072x1x4, .f32⟩
  | .hbm, ⟨7, _⟩ => ⟨S1x64x4, .f32⟩
  | .hbm, ⟨8, _⟩ => ⟨S131072x64x4, .f32⟩
  | .hbm, ⟨9, _⟩ => ⟨S131072x64x4, .f32⟩
  | .hbm, ⟨10, _⟩ => ⟨S131072x64x4, .f32⟩
  | .hbm, ⟨11, _⟩ => ⟨S131072x64x1, .f32⟩
  | .hbm, ⟨12, _⟩ => ⟨S131072x64, .f32⟩
  | .hbm, ⟨13, _⟩ => ⟨S131072x64x1, .f32⟩
  | .hbm, ⟨14, _⟩ => ⟨S131072x64, .f32⟩
  | .hbm, ⟨15, _⟩ => ⟨S131072x64, .f32⟩
  | .hbm, ⟨16, _⟩ => ⟨S131072x64x1, .f32⟩
  | .hbm, ⟨17, _⟩ => ⟨S131072x64, .f32⟩
  | .hbm, ⟨18, _⟩ => ⟨S131072x64x1, .f32⟩
  | .hbm, ⟨19, _⟩ => ⟨S131072x64, .f32⟩
  | .hbm, ⟨20, _⟩ => ⟨S131072x64, .f32⟩
  | .hbm, ⟨21, _⟩ => ⟨S131072x64, .f32⟩
  | .hbm, ⟨22, _⟩ => ⟨S131072x64, .i32⟩
  | .hbm, ⟨23, _⟩ => ⟨S_, .i32⟩
  | .hbm, ⟨24, _⟩ => ⟨S131072x64, .i32⟩
  | .hbm, ⟨25, _⟩ => ⟨S131072x64, .i32⟩
  | .hbm, ⟨26, _⟩ => ⟨S_, .i32⟩
  | .hbm, ⟨27, _⟩ => ⟨S131072x64, .i32⟩
  | .hbm, ⟨28, _⟩ => ⟨S131072x64, .i1⟩
  | .hbm, ⟨29, _⟩ => ⟨S_, .i32⟩
  | .hbm, ⟨30, _⟩ => ⟨S_, .i32⟩
  | .hbm, ⟨31, _⟩ => ⟨S131072x64, .i32⟩
  | .hbm, ⟨32, _⟩ => ⟨S131072x64, .i32⟩
  | .hbm, ⟨33, _⟩ => ⟨S131072x64, .i32⟩
  | .hbm, ⟨34, _⟩ => ⟨S131072x64, .i32⟩
  | .hbm, ⟨35, _⟩ => ⟨S131072x64, .i32⟩
  | .hbm, ⟨36, _⟩ => ⟨S131072x64, .f32⟩
  | .hbm, ⟨37, _⟩ => ⟨S131072x50, .f32⟩
  | .hbm, ⟨38, _⟩ => ⟨S131072x50, .i32⟩
  | _, _ => ⟨S131072x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_c : Ref sig .tc := ⟨.hbm, 23, rfl⟩
abbrev main_v21 : Ref sig .tc := ⟨.hbm, 24, rfl⟩
abbrev main_v22 : Ref sig .tc := ⟨.hbm, 25, rfl⟩
abbrev main_c_0 : Ref sig .tc := ⟨.hbm, 26, rfl⟩
abbrev main_v23 : Ref sig .tc := ⟨.hbm, 27, rfl⟩
abbrev main_v24 : Ref sig .tc := ⟨.hbm, 28, rfl⟩
abbrev main_c_1 : Ref sig .tc := ⟨.hbm, 29, rfl⟩
abbrev main_c_2 : Ref sig .tc := ⟨.hbm, 30, rfl⟩
abbrev main_call0_v0 : Ref sig .tc := ⟨.hbm, 31, rfl⟩
abbrev main_call0_v1 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_values : Ref sig .tc := ⟨.hbm, 37, rfl⟩
abbrev main_indices : Ref sig .tc := ⟨.hbm, 38, rfl⟩

abbrev nD : Nat := 1
abbrev τ : Topo := Topo.v7x

variable {F : FTy → Type} [BitOps F]
-- ==== Proof.Batch.lean ====
/-
  One batch of the kernel as a structured program. The printed region of a batch is one straight line of some five
  thousand operations, cut into windows; here it is four loads of the batch's rows of `x`, a recursion over the 64
  features (four loads of weights each, one key), the comparator list run over the keys, and a recursion over the fifty
  output rows (a load and a store into each of the two staging buffers). That the printed region is this program is by
  unfolding both (`BodyA.lean` … `BodyD.lean`).
-/
module

public import proofs.«01_k».proof.Kernel
public import proofs.«01_k».proof.Proof.Gen.Kernel

@[expose] public section

set_option maxRecDepth 16384

noncomputable section

namespace Cert.Proof

open Cert.Kernel
open Idealize.ShloMosaic Idealize.SL.Sem
open Cert.Kernel.Facts₀ Cert.Kernel.Facts

/-! ## The comparator list -/

/-- The wires, rewritten at one. -/
abbrev upd {α : Type} (e : Nat → α) (i : Nat) (v : α) : Nat → α := fun k => bif Nat.beq k i then v else e k

/-- One comparator on wires `i` and `j`: the larger to `i` when `ni`, the smaller to `j` when `nj`. -/
abbrev cstep {α : Type} (mx mn : α → α → α) (e : Nat → α) (c : Nat × Nat × Bool × Bool) : Nat → α :=
  match c with
  | (i, j, ni, nj) =>
    bif nj then (bif ni then upd (upd e i (mx (e i) (e j))) j (mn (e i) (e j)) else upd e j (mn (e i) (e j)))
    else (bif ni then upd e i (mx (e i) (e j)) else e)

/-- The comparators, one after another. -/
abbrev crun {α : Type} (mx mn : α → α → α) : List (Nat × Nat × Bool × Bool) → (Nat → α) → Nat → α
  | [], e => e
  | c :: cs, e => crun mx mn cs (cstep mx mn e c)

/-- The kernel's comparators in its order: Batcher's odd-even merge sort on 64 wires less what the first fifty
    outputs do not need. -/
def plan : List (Nat × Nat × Bool × Bool) := [
  (0, 1, true, true), (2, 3, true, true), (0, 2, true, true), (1, 3, true, true), (1, 2, true, true),
  (4, 5, true, true), (6, 7, true, true), (4, 6, true, true), (5, 7, true, true), (5, 6, true, true),
  (0, 4, true, true), (2, 6, true, true), (2, 4, true, true), (1, 5, true, true), (3, 7, true, true),
  (3, 5, true, true), (1, 2, true, true), (3, 4, true, true), (5, 6, true, true), (8, 9, true, true),
  (10, 11, true, true), (8, 10, true, true), (9, 11, true, true), (9, 10, true, true), (12, 13, true, true),
  (14, 15, true, true), (12, 14, true, true), (13, 15, true, true), (13, 14, true, true), (8, 12, true, true),
  (10, 14, true, true), (10, 12, true, true), (9, 13, true, true), (11, 15, true, true), (11, 13, true, true),
  (9, 10, true, true), (11, 12, true, true), (13, 14, true, true), (0, 8, true, true), (4, 12, true, true),
  (4, 8, true, true), (2, 10, true, true), (6, 14, true, true), (6, 10, true, true), (2, 4, true, true),
  (6, 8, true, true), (10, 12, true, true), (1, 9, true, true), (5, 13, true, true), (5, 9, true, true),
  (3, 11, true, true), (7, 15, true, true), (7, 11, true, true), (3, 5, true, true), (7, 9, true, true),
  (11, 13, true, true), (1, 2, true, true), (3, 4, true, true), (5, 6, true, true), (7, 8, true, true),
  (9, 10, true, true), (11, 12, true, true), (13, 14, true, true), (16, 17, true, true), (18, 19, true, true),
  (16, 18, true, true), (17, 19, true, true), (17, 18, true, true), (20, 21, true, true), (22, 23, true, true),
  (20, 22, true, true), (21, 23, true, true), (21, 22, true, true), (16, 20, true, true), (18, 22, true, true),
  (18, 20, true, true), (17, 21, true, true), (19, 23, true, true), (19, 21, true, true), (17, 18, true, true),
  (19, 20, true, true), (21, 22, true, true), (24, 25, true, true), (26, 27, true, true), (24, 26, true, true),
  (25, 27, true, true), (25, 26, true, true), (28, 29, true, true), (30, 31, true, true), (28, 30, true, true),
  (29, 31, true, true), (29, 30, true, true), (24, 28, true, true), (26, 30, true, true), (26, 28, true, true),
  (25, 29, true, true), (27, 31, true, true), (27, 29, true, true), (25, 26, true, true), (27, 28, true, true),
  (29, 30, true, true), (16, 24, true, true), (20, 28, true, true), (20, 24, true, true), (18, 26, true, true),
  (22, 30, true, true), (22, 26, true, true), (18, 20, true, true), (22, 24, true, true), (26, 28, true, true),
  (17, 25, true, true), (21, 29, true, true), (21, 25, true, true), (19, 27, true, true), (23, 31, true, true),
  (23, 27, true, true), (19, 21, true, true), (23, 25, true, true), (27, 29, true, true), (17, 18, true, true),
  (19, 20, true, true), (21, 22, true, true), (23, 24, true, true), (25, 26, true, true), (27, 28, true, true),
  (29, 30, true, true), (0, 16, true, true), (8, 24, true, true), (8, 16, true, true), (4, 20, true, true),
  (12, 28, true, true), (12, 20, true, true), (4, 8, true, true), (12, 16, true, true), (20, 24, true, true),
  (2, 18, true, true), (10, 26, true, true), (10, 18, true, true), (6, 22, true, true), (14, 30, true, true),
  (14, 22, true, true), (6, 10, true, true), (14, 18, true, true), (22, 26, true, true), (2, 4, true, true),
  (6, 8, true, true), (10, 12, true, true), (14, 16, true, true), (18, 20, true, true), (22, 24, true, true),
  (26, 28, true, true), (1, 17, true, true), (9, 25, true, true), (9, 17, true, true), (5, 21, true, true),
  (13, 29, true, true), (13, 21, true, true), (5, 9, true, true), (13, 17, true, true), (21, 25, true, true),
  (3, 19, true, true), (11, 27, true, true), (11, 19, true, true), (7, 23, true, true), (15, 31, true, true),
  (15, 23, true, true), (7, 11, true, true), (15, 19, true, true), (23, 27, true, true), (3, 5, true, true),
  (7, 9, true, true), (11, 13, true, true), (15, 17, true, true), (19, 21, true, true), (23, 25, true, true),
  (27, 29, true, true), (1, 2, true, true), (3, 4, true, true), (5, 6, true, true), (7, 8, true, true),
  (9, 10, true, true), (11, 12, true, true), (13, 14, true, true), (15, 16, true, true), (17, 18, true, true),
  (19, 20, true, true), (21, 22, true, true), (23, 24, true, true), (25, 26, true, true), (27, 28, true, true),
  (29, 30, true, true), (32, 33, true, true), (34, 35, true, true), (32, 34, true, true), (33, 35, true, true),
  (33, 34, true, true), (36, 37, true, true), (38, 39, true, true), (36, 38, true, true), (37, 39, true, true),
  (37, 38, true, true), (32, 36, true, true), (34, 38, true, true), (34, 36, true, true), (33, 37, true, true),
  (35, 39, true, true), (35, 37, true, true), (33, 34, true, true), (35, 36, true, true), (37, 38, true, true),
  (40, 41, true, true), (42, 43, true, true), (40, 42, true, true), (41, 43, true, true), (41, 42, true, true),
  (44, 45, true, true), (46, 47, true, true), (44, 46, true, true), (45, 47, true, true), (45, 46, true, true),
  (40, 44, true, true), (42, 46, true, true), (42, 44, true, true), (41, 45, true, true), (43, 47, true, true),
  (43, 45, true, true), (41, 42, true, true), (43, 44, true, true), (45, 46, true, true), (32, 40, true, true),
  (36, 44, true, true), (36, 40, true, true), (34, 42, true, true), (38, 46, true, true), (38, 42, true, true),
  (34, 36, true, true), (38, 40, true, true), (42, 44, true, true), (33, 41, true, true), (37, 45, true, true),
  (37, 41, true, true), (35, 43, true, true), (39, 47, true, true), (39, 43, true, true), (35, 37, true, true),
  (39, 41, true, true), (43, 45, true, true), (33, 34, true, true), (35, 36, true, true), (37, 38, true, true),
  (39, 40, true, true), (41, 42, true, true), (43, 44, true, true), (45, 46, true, true), (48, 49, true, true),
  (50, 51, true, true), (48, 50, true, true), (49, 51, true, true), (49, 50, true, true), (52, 53, true, true),
  (54, 55, true, true), (52, 54, true, true), (53, 55, true, true), (53, 54, true, true), (48, 52, true, true),
  (50, 54, true, true), (50, 52, true, true), (49, 53, true, true), (51, 55, true, true), (51, 53, true, true),
  (49, 50, true, true), (51, 52, true, true), (53, 54, true, true), (56, 57, true, true), (58, 59, true, true),
  (56, 58, true, true), (57, 59, true, true), (57, 58, true, true), (60, 61, true, true), (62, 63, true, true),
  (60, 62, true, true), (61, 63, true, true), (61, 62, true, true), (56, 60, true, true), (58, 62, true, true),
  (58, 60, true, true), (57, 61, true, true), (59, 63, true, true), (59, 61, true, true), (57, 58, true, true),
  (59, 60, true, true), (61, 62, true, true), (48, 56, true, true), (52, 60, true, true), (52, 56, true, true),
  (50, 58, true, true), (54, 62, true, true), (54, 58, true, true), (50, 52, true, true), (54, 56, true, true),
  (58, 60, true, true), (49, 57, true, true), (53, 61, true, true), (53, 57, true, true), (51, 59, true, true),
  (55, 63, true, true), (55, 59, true, true), (51, 53, true, true), (55, 57, true, true), (59, 61, true, true),
  (49, 50, true, true), (51, 52, true, true), (53, 54, true, true), (55, 56, true, true), (57, 58, true, true),
  (59, 60, true, true), (61, 62, true, true), (32, 48, true, true), (40, 56, true, true), (40, 48, true, true),
  (36, 52, true, true), (44, 60, true, true), (44, 52, true, true), (36, 40, true, true), (44, 48, true, true),
  (52, 56, true, true), (34, 50, true, true), (42, 58, true, true), (42, 50, true, true), (38, 54, true, true),
  (46, 62, true, true), (46, 54, true, true), (38, 42, true, true), (46, 50, true, true), (54, 58, true, true),
  (34, 36, true, true), (38, 40, true, true), (42, 44, true, true), (46, 48, true, true), (50, 52, true, true),
  (54, 56, true, true), (58, 60, true, true), (33, 49, true, true), (41, 57, true, true), (41, 49, true, true),
  (37, 53, true, true), (45, 61, true, true), (45, 53, true, true), (37, 41, true, true), (45, 49, true, true),
  (53, 57, true, true), (35, 51, true, true), (43, 59, true, true), (43, 51, true, true), (39, 55, true, true),
  (47, 63, true, true), (47, 55, true, true), (39, 43, true, true), (47, 51, true, true), (55, 59, true, true),
  (35, 37, true, true), (39, 41, true, true), (43, 45, true, true), (47, 49, true, true), (51, 53, true, true),
  (55, 57, true, true), (59, 61, true, true), (33, 34, true, true), (35, 36, true, true), (37, 38, true, true),
  (39, 40, true, true), (41, 42, true, true), (43, 44, true, true), (45, 46, true, true), (47, 48, true, true),
  (49, 50, true, true), (51, 52, true, true), (53, 54, true, true), (55, 56, true, true), (57, 58, true, true),
  (59, 60, true, true), (61, 62, true, true), (0, 32, true, true), (16, 48, true, true), (16, 32, true, true),
  (8, 40, true, true), (24, 56, true, true), (24, 40, true, true), (8, 16, true, true), (24, 32, true, true),
  (40, 48, true, true), (4, 36, true, true), (20, 52, true, true), (20, 36, true, true), (12, 44, true, true),
  (28, 60, true, false), (28, 44, true, true), (12, 20, true, true), (28, 36, true, true), (44, 52, true, true),
  (4, 8, true, true), (12, 16, true, true), (20, 24, true, true), (28, 32, true, true), (36, 40, true, true),
  (44, 48, true, true), (52, 56, true, false), (2, 34, true, true), (18, 50, true, true), (18, 34, true, true),
  (10, 42, true, true), (26, 58, true, false), (26, 42, true, true), (10, 18, true, true), (26, 34, true, true),
  (42, 50, true, true), (6, 38, true, true), (22, 54, true, true), (22, 38, true, true), (14, 46, true, true),
  (30, 62, true, false), (30, 46, true, true), (14, 22, true, true), (30, 38, true, true), (46, 54, true, false),
  (6, 10, true, true), (14, 18, true, true), (22, 26, true, true), (30, 34, true, true), (38, 42, true, true),
  (46, 50, true, true), (2, 4, true, true), (6, 8, true, true), (10, 12, true, true), (14, 16, true, true),
  (18, 20, true, true), (22, 24, true, true), (26, 28, true, true), (30, 32, true, true), (34, 36, true, true),
  (38, 40, true, true), (42, 44, true, true), (46, 48, true, true), (50, 52, true, false), (1, 33, true, true),
  (17, 49, true, true), (17, 33, true, true), (9, 41, true, true), (25, 57, true, false), (25, 41, true, true),
  (9, 17, true, true), (25, 33, true, true), (41, 49, true, true), (5, 37, true, true), (21, 53, true, true),
  (21, 37, true, true), (13, 45, true, true), (29, 61, true, false), (29, 45, true, true), (13, 21, true, true),
  (29, 37, true, true), (45, 53, true, false), (5, 9, true, true), (13, 17, true, true), (21, 25, true, true),
  (29, 33, true, true), (37, 41, true, true), (45, 49, true, true), (3, 35, true, true), (19, 51, true, true),
  (19, 35, true, true), (11, 43, true, true), (27, 59, true, false), (27, 43, true, true), (11, 19, true, true),
  (27, 35, true, true), (43, 51, true, true), (7, 39, true, true), (23, 55, true, true), (23, 39, true, true),
  (15, 47, true, true), (31, 63, true, false), (31, 47, true, true), (15, 23, true, true), (31, 39, true, true),
  (47, 55, true, false), (7, 11, true, true), (15, 19, true, true), (23, 27, true, true), (31, 35, true, true),
  (39, 43, true, true), (47, 51, true, false), (3, 5, true, true), (7, 9, true, true), (11, 13, true, true),
  (15, 17, true, true), (19, 21, true, true), (23, 25, true, true), (27, 29, true, true), (31, 33, true, true),
  (35, 37, true, true), (39, 41, true, true), (43, 45, true, true), (47, 49, true, true), (1, 2, true, true),
  (3, 4, true, true), (5, 6, true, true), (7, 8, true, true), (9, 10, true, true), (11, 12, true, true),
  (13, 14, true, true), (15, 16, true, true), (17, 18, true, true), (19, 20, true, true), (21, 22, true, true),
  (23, 24, true, true), (25, 26, true, true), (27, 28, true, true), (29, 30, true, true), (31, 32, true, true),
  (33, 34, true, true), (35, 36, true, true), (37, 38, true, true), (39, 40, true, true), (41, 42, true, true),
  (43, 44, true, true), (45, 46, true, true), (47, 48, true, true), (49, 50, true, false)]

/-- A feature number, its bound checked where it is written. -/
abbrev ix {n : Nat} (k : Nat) (h : k < n := by decide) : Fin n := ⟨k, h⟩

/-- The 64 features in the order the kernel computes their keys. -/
def feats : List (Fin 64) := [
  ix 0, ix 1, ix 2, ix 3, ix 4, ix 5, ix 6, ix 7, ix 8, ix 9, ix 10, ix 11, ix 12, ix 13, ix 14, ix 15, ix 16, ix 17,
  ix 18, ix 19, ix 20, ix 21, ix 22, ix 23, ix 24, ix 25, ix 26, ix 27, ix 28, ix 29, ix 30, ix 31, ix 32, ix 33,
  ix 34, ix 35, ix 36, ix 37, ix 38, ix 39, ix 40, ix 41, ix 42, ix 43, ix 44, ix 45, ix 46, ix 47, ix 48, ix 49,
  ix 50, ix 51, ix 52, ix 53, ix 54, ix 55, ix 56, ix 57, ix 58, ix 59, ix 60, ix 61, ix 62, ix 63]

/-- The fifty output rows in the order the kernel stores them. -/
def outs : List (Fin 50) := [
  ix 0, ix 1, ix 2, ix 3, ix 4, ix 5, ix 6, ix 7, ix 8, ix 9, ix 10, ix 11, ix 12, ix 13, ix 14, ix 15, ix 16, ix 17,
  ix 18, ix 19, ix 20, ix 21, ix 22, ix 23, ix 24, ix 25, ix 26, ix 27, ix 28, ix 29, ix 30, ix 31, ix 32, ix 33,
  ix 34, ix 35, ix 36, ix 37, ix 38, ix 39, ix 40, ix 41, ix 42, ix 43, ix 44, ix 45, ix 46, ix 47, ix 48, ix 49]

/-! ## The kernel's words -/

section Words
variable {F : FTy → Type} [BitOps F]

/-- The key of one feature's sum for sixteen columns: the sum's bits made an unsigned word that orders as the float
    does, its low six bits replaced by `r`. -/
abbrev mkKey (x0 x1 x2 x3 w0 w1 w2 w3 : FVec F S16 .f32) (r : BitVec 32) : IVec S16 32 :=
  ori (andi (xori (bitcastToInt (addf (addf (mulf x0 w0) (mulf x1 w1)) (addf (mulf x2 w2) (mulf x3 w3))))
      (ori (shrsi (bitcastToInt (addf (addf (mulf x0 w0) (mulf x1 w1)) (addf (mulf x2 w2) (mulf x3 w3)))) (broadcast S16 31#32))
        (broadcast S16 2147483648#32))) (broadcast S16 4294967232#32)) (broadcast S16 r)

/-- The index a key carries. -/
abbrev keyIdx (k : IVec S16 32) : IVec S16 32 := subi (broadcast S16 63#32) (andi k (broadcast S16 63#32))

/-- The float a key carries, its low six bits those of 32. -/
abbrev keyVal (k : IVec S16 32) : FVec F S16 .f32 :=
  bitcastToFloat .f32 (xori (ori (andi k (broadcast S16 4294967232#32)) (broadcast S16 32#32))
    (ori (xori (shrsi (ori (andi k (broadcast S16 4294967232#32)) (broadcast S16 32#32)) (broadcast S16 31#32)) (constantI S16 32 4294967295#32))
      (broadcast S16 2147483648#32)))

end Words

/-! ## The program -/

theorem inb_x {p off : Nat} (hp : p < 4) (h : off + 16 ≤ 256) : ∀ a, (![p, off] : Fin 2 → Nat) a + S1x16.size a ≤ S4x256.size a
  | ⟨0, _⟩ => hp
  | ⟨1, _⟩ => h
theorem inb_w {k : Nat} (hk : k < 256) : ∀ a, (![k, 0] : Fin 2 → Nat) a + S1x16.size a ≤ S256x16.size a
  | ⟨0, _⟩ => hk
  | ⟨1, _⟩ => (by decide : 0 + 16 ≤ 16)
theorem inb_o {p off : Nat} (hp : p < 50) (h : off + 16 ≤ 256) : ∀ a, (![p, off] : Fin 2 → Nat) a + S1x16.size a ≤ S50x256.size a
  | ⟨0, _⟩ => hp
  | ⟨1, _⟩ => h

section Program
variable {F : FTy → Type} [BitOps F]

/-- A vector subcore's programs. -/
abbrev TP (F : FTy → Type) [BitOps F] (i : grid0.Coords) : Type → Type 1 :=
  Prog (TpuEff nD τ sig (Elt F) Λ₀ (.scVector ((i 0).castLE hcore0) ((i 1).castLE hsub0)))

variable (i : grid0.Coords)
variable (xv : Memref sig .scVector .vmem S4x256 .f32) (wv : Memref sig .scVector .vmem S256x16 .f32)
variable (vs : Memref sig .scVector .vmem S50x256 .f32) (is : Memref sig .scVector .vmem S50x256 .i32)

/-- Sixteen lanes of row `p` of `xv` from column `off`. -/
abbrev xRect (p off : Nat) (hp : p < 4) (h : off + 16 ≤ 256) : Rect S4x256 := Rect.unit (s := S4x256) ![p, off] S1x16.size (inb_x hp h)
/-- Row `k` of the weights. -/
abbrev wRect (k : Nat) (hk : k < 256) : Rect S256x16 := Rect.unit (s := S256x16) ![k, 0] S1x16.size (inb_w hk)
/-- Sixteen lanes of row `p` of a staging buffer from column `off`. -/
abbrev oRect (p off : Nat) (hp : p < 50) (h : off + 16 ≤ 256) : Rect S50x256 := Rect.unit (s := S50x256) ![p, off] S1x16.size (inb_o hp h)

/-- The keys of the listed features, each from four rows of weights; the program goes on with all of them. -/
def loadKeys (x0 x1 x2 x3 : FVec F S16 .f32) : List (Fin 64) → (Nat → IVec S16 32) → ((Nat → IVec S16 32) → TP F i PUnit) → TP F i PUnit
  | [], e, k => k e
  | f :: fs, e, k =>
    .op (.load wv (wRect (4 * f.val) (by omega)).toLoadRect (View.loadsAt_vmem h_S1x16)) fun w0 =>
    .op (.load wv (wRect (4 * f.val + 1) (by omega)).toLoadRect (View.loadsAt_vmem h_S1x16)) fun w1 =>
    .op (.load wv (wRect (4 * f.val + 2) (by omega)).toLoadRect (View.loadsAt_vmem h_S1x16)) fun w2 =>
    .op (.load wv (wRect (4 * f.val + 3) (by omega)).toLoadRect (View.loadsAt_vmem h_S1x16)) fun w3 =>
    loadKeys x0 x1 x2 x3 fs (upd e f.val (mkKey x0 x1 x2 x3 (shapeCast S16 w0 shapeCasts_S1x16_S16) (shapeCast S16 w1 shapeCasts_S1x16_S16)
      (shapeCast S16 w2 shapeCasts_S1x16_S16) (shapeCast S16 w3 shapeCasts_S1x16_S16) (BitVec.ofNat 32 (63 - f.val)))) k

/-- The listed output rows stored, decoded from the sorted keys. -/
def emit (e : Nat → IVec S16 32) (off : Nat) (h : off + 16 ≤ 256) : List (Fin 50) → TP F i PUnit
  | [] => .ret ⟨⟩
  | p :: ps =>
    .op (.load vs (oRect p.val off p.isLt h).toLoadRect (View.loadsAt_vmem h_S1x16)) fun _ =>
    .op (.store vs (oRect p.val off p.isLt h) (shapeCast S1x16 (keyVal (F := F) (e p.val)) shapeCasts_S16_S1x16) Finset.univ
      (View.stores_vmem_bits_univ h_S1x16 rfl) (.inl rfl)) fun _ =>
    .op (.load is (oRect p.val off p.isLt h).toLoadRect (View.loadsAt_vmem h_S1x16)) fun _ =>
    .op (.store is (oRect p.val off p.isLt h) (shapeCast S1x16 (keyIdx (e p.val)) shapeCasts_S16_S1x16) Finset.univ
      (View.stores_vmem_bits_univ h_S1x16 rfl) (.inl rfl)) fun _ =>
    emit e off h ps

/-- A batch of sixteen columns: its keys, sorted, its fifty rows of values and indices stored. -/
def batch (off : Nat) (h : off + 16 ≤ 256) : TP F i PUnit :=
  .op (.load xv (xRect 0 off (by decide) h).toLoadRect (View.loadsAt_vmem h_S1x16)) fun x0 =>
  .op (.load xv (xRect 1 off (by decide) h).toLoadRect (View.loadsAt_vmem h_S1x16)) fun x1 =>
  .op (.load xv (xRect 2 off (by decide) h).toLoadRect (View.loadsAt_vmem h_S1x16)) fun x2 =>
  .op (.load xv (xRect 3 off (by decide) h).toLoadRect (View.loadsAt_vmem h_S1x16)) fun x3 =>
  loadKeys i wv (shapeCast S16 x0 shapeCasts_S1x16_S16) (shapeCast S16 x1 shapeCasts_S1x16_S16)
    (shapeCast S16 x2 shapeCasts_S1x16_S16) (shapeCast S16 x3 shapeCasts_S1x16_S16) feats (fun _ _ => 0#32) fun e =>
  emit i vs is (crun maxui minui plan e) off h outs

end Program

/-- The column a batch starts at, as the kernel computes it from the batch's number. -/
def offT (t : Nat) : Nat := (Scalar.indexCast (Scalar.muli (Scf.iv 0#32 1#32 t) 16#32)).toNat

theorem offT_eq (t : Fin 16) : offT t.val = 16 * t.val := by
  revert t; decide +kernel
theorem offT_le (t : Nat) (ht : t < 16) : offT t + 16 ≤ 256 := by
  rw [offT_eq ⟨t, ht⟩]; show 16 * t + 16 ≤ 256; omega

end Cert.Proof

end
-- ==== Proof.Vals.lean ====
/-
  The words of one lane. The kernel's vectors are pointwise, so a lane of a sorted key, of a decoded value or of a decoded
  index is the same computation on single words; the column's result is stated over those.
-/
module

public import proofs.«01_k».proof.Proof.Batch
public import Idealize.ShloMosaic.Lib.ValueIdxCore

@[expose] public section

noncomputable section

namespace Cert.Proof

open Cert.Kernel
open Idealize.ShloMosaic Idealize.SL.Sem
open Cert.Kernel.Facts₀ Cert.Kernel.Facts

/-! ## A comparator list through a map -/

/-- A rewritten wire, seen through a map of the values. -/
theorem upd_map {α β : Type} (g : α → β) (e : Nat → α) (i : Nat) (v : α) (k : Nat) :
    g (upd e i v k) = upd (fun n => g (e n)) i (g v) k := by
  unfold upd; cases Nat.beq k i <;> rfl

/-- One comparator, seen through a map that carries the two operations. -/
theorem cstep_map {α β : Type} (g : α → β) (mx mn : α → α → α) (mx' mn' : β → β → β) (hx : ∀ a b, g (mx a b) = mx' (g a) (g b))
    (hn : ∀ a b, g (mn a b) = mn' (g a) (g b)) (e : Nat → α) (c : Nat × Nat × Bool × Bool) (k : Nat) :
    g (cstep mx mn e c k) = cstep mx' mn' (fun n => g (e n)) c k := by
  obtain ⟨i, j, ni, nj⟩ := c
  have hup : ∀ (e : Nat → α) (i : Nat) (v : α), (fun n => g (upd e i v n)) = upd (fun n => g (e n)) i (g v) :=
    fun e i v => funext fun n => upd_map g e i v n
  match ni, nj with
  | true, true =>
    show g (upd (upd e i (mx (e i) (e j))) j (mn (e i) (e j)) k)
      = upd (upd (fun n => g (e n)) i (mx' (g (e i)) (g (e j)))) j (mn' (g (e i)) (g (e j))) k
    exact (upd_map g _ j _ k).trans (by rw [hup e i, hx, hn])
  | false, true =>
    show g (upd e j (mn (e i) (e j)) k) = upd (fun n => g (e n)) j (mn' (g (e i)) (g (e j))) k
    exact (upd_map g _ j _ k).trans (by rw [hn])
  | true, false =>
    show g (upd e i (mx (e i) (e j)) k) = upd (fun n => g (e n)) i (mx' (g (e i)) (g (e j))) k
    exact (upd_map g _ i _ k).trans (by rw [hx])
  | false, false => rfl

/-- A comparator list, seen through a map that carries the two operations. -/
theorem crun_map {α β : Type} (g : α → β) (mx mn : α → α → α) (mx' mn' : β → β → β) (hx : ∀ a b, g (mx a b) = mx' (g a) (g b))
    (hn : ∀ a b, g (mn a b) = mn' (g a) (g b)) :
    ∀ (cs : List (Nat × Nat × Bool × Bool)) (e : Nat → α) (k : Nat), g (crun mx mn cs e k) = crun mx' mn' cs (fun n => g (e n)) k
  | [], e, k => rfl
  | c :: cs, e, k => by
    show g (crun mx mn cs (cstep mx mn e c) k) = crun mx' mn' cs (cstep mx' mn' (fun n => g (e n)) c) k
    rw [crun_map g mx mn mx' mn' hx hn cs]
    exact congrArg (fun e' => crun mx' mn' cs e' k) (funext fun n => cstep_map g mx mn mx' mn' hx hn e c n)

/-! ## One lane's words -/

section Lane
variable {F : FTy → Type} [BitOps F]

/-- The sum of four products, in the kernel's order. -/
def sumS (x w : Fin 4 → F .f32) : F .f32 :=
  FloatOps.addf (FloatOps.addf (FloatOps.mulf (x 0) (w 0)) (FloatOps.mulf (x 1) (w 1)))
    (FloatOps.addf (FloatOps.mulf (x 2) (w 2)) (FloatOps.mulf (x 3) (w 3)))

/-- A float's bits as an unsigned word in the float's order, the low six bits `r`. -/
def keyW (b r : BitVec 32) : BitVec 32 :=
  IntOp.ori (IntOp.andi (IntOp.xori b (IntOp.ori (IntOp.shrsi .vector b 31#32) 2147483648#32)) 4294967232#32) r

/-- The index a key carries. -/
def idxW (k : BitVec 32) : BitVec 32 := IntOp.subi 63#32 (IntOp.andi k 63#32)

/-- The bits of the value a key carries. -/
def valW (k : BitVec 32) : BitVec 32 :=
  IntOp.xori (IntOp.ori (IntOp.andi k 4294967232#32) 32#32)
    (IntOp.ori (IntOp.xori (IntOp.shrsi .vector (IntOp.ori (IntOp.andi k 4294967232#32) 32#32) 31#32) 4294967295#32) 2147483648#32)

/-- The key of feature `f` for a column `x` and the weights `wt`. -/
def colKey (x : Fin 4 → F .f32) (wt : Nat → F .f32) (f : Nat) : BitVec 32 :=
  keyW (BitOps.toBits (sumS x fun b => wt (4 * f + b.val))) (BitVec.ofNat 32 (63 - f))

/-- The keys of a column after the comparators. -/
def colSort (x : Fin 4 → F .f32) (wt : Nat → F .f32) : Nat → BitVec 32 :=
  crun IntOp.maxui IntOp.minui plan fun f => if f < 64 then colKey x wt f else 0#32

theorem mkKey_apply (x0 x1 x2 x3 w0 w1 w2 w3 : FVec F S16 .f32) (r : BitVec 32) (l : S16.Idx) (x w : Fin 4 → F .f32)
    (h0 : x0 l = x 0) (h1 : x1 l = x 1) (h2 : x2 l = x 2) (h3 : x3 l = x 3)
    (g0 : w0 l = w 0) (g1 : w1 l = w 1) (g2 : w2 l = w 2) (g3 : w3 l = w 3) :
    mkKey x0 x1 x2 x3 w0 w1 w2 w3 r l = keyW (BitOps.toBits (sumS x w)) r := by
  unfold sumS; rw [← h0, ← h1, ← h2, ← h3, ← g0, ← g1, ← g2, ← g3]; rfl

theorem keyIdx_apply (k : IVec S16 32) (l : S16.Idx) : keyIdx k l = idxW (k l) := rfl
theorem keyVal_apply (k : IVec S16 32) (l : S16.Idx) : keyVal (F := F) k l = FloatOps.ofBits .f32 (valW (k l)) := rfl

end Lane

end Cert.Proof

end
-- ==== Proof.Setup.lean ====
/-
  The launch's set-up: the labels, the SparseCores' configuration, the ghost state and the threads of the vector subcores.
-/
module

public import proofs.«01_k».proof.Defs
public import proofs.«01_k».proof.Proof.Vals
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.Kernel

@[expose] public section

noncomputable section

namespace Cert.Proof

open Cert.Kernel
open Idealize.ShloMosaic
open Idealize.ShloMosaic.SparseCore (S V T)
open Idealize.SL Idealize.SL.RA Idealize.SL.BI
open Idealize.SL.BI.BIBase Idealize.SL.BI.Laws Idealize.SL.ProofMode Idealize.SL.Sem
open Idealize.ShloMosaic.Rounds
open Idealize.ShloMosaic.SparseCore.Cfg (HIx)
open Cert.Kernel.Facts₀ Cert.Kernel.Facts

variable {F : FTy → Type}

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [BitOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

abbrev EH : Emb UH (MT nD τ sig (HIx 1) (Elt F) ℕ UU ℕ) := embL

/-- The propositions of this proof. -/
abbrev PR (F : FTy → Type) : Type := sProp (MT nD τ sig (HIx 1) (Elt F) ℕ UU ℕ)

abbrev cV (i : grid0.Coords) : Fin τ.nSC := (i 0).castLE hcore0
abbrev jV (i : grid0.Coords) : Fin τ.nSub := (i 1).castLE hsub0
/-- The vector subcore at coordinates `i` of device `d`. -/
abbrev VT (d : Dev nD) (i : grid0.Coords) : Thread nD τ := V d (cV i) (jV i)

end Cert.Proof

end
-- ==== Proof.BatchWp.lean ====
/-
  A batch's run: from the chunk's columns of `x`, the weights (the same word in every lane) and the two staging buffers,
  the sixteen columns of the batch come to hold the fifty values and indices of each column's sorted keys, every other
  column as it was.
-/
module

public import proofs.«01_k».proof.Proof.Setup
public import Idealize.ShloMosaic.Lib.WritesUnit
public import Idealize.ShloMosaic.Lib.Pipeline.Value

@[expose] public section

noncomputable section

namespace Cert.Proof

open Cert.Kernel
open Idealize.ShloMosaic Idealize.ShloMosaic.ValueIdx
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx)
open Cert.Kernel.Facts₀ Cert.Kernel.Facts

variable {F : FTy → Type} [BitOps F]
variable (d : Dev nD) (i : grid0.Coords)

/-- Lane `l`. -/
abbrev lane (l : Fin 16) : S16.Idx := fun a => match a with | ⟨0, _⟩ => l

omit [BitOps F] in
theorem idx16_eq (j : S16.Idx) : j = lane (j 0) := by
  funext a; match a with | ⟨0, _⟩ => rfl

/-- A row of sixteen loaded words read at a lane. -/
theorem row_lane {α : Type} (v : S1x16.Idx → α) (l : Fin 16) : shapeCast S16 v shapeCasts_S1x16_S16 (lane l) = v (ix2 (0 : Fin 1) l) := by
  refine (shapeCast_dropUnit_apply (n := 1) ![16] v shapeCasts_S1x16_S16 (lane l)).trans (congrArg v ?_)
  funext a; match a with | ⟨0, _⟩ => rfl | ⟨1, _⟩ => rfl

/-- Sixteen lanes stored as a row read at a column. -/
theorem lane_row {α : Type} (v : S16.Idx → α) (j : S1x16.Idx) : shapeCast S1x16 v shapeCasts_S16_S1x16 j = v (lane (j 1)) := by
  refine (shapeCast_addUnit_apply (n := 1) ![16] v shapeCasts_S16_S1x16 j).trans (congrArg v ?_)
  funext a; match a with | ⟨0, _⟩ => rfl

section Loads
variable {r c : Nat} {e : EltTy} (m : Memref sig .scVector .vmem ⟨2, ![r, c]⟩ e)

/-- A load of sixteen lanes of row `p` from column `off`, read at a lane. -/
theorem load_lane (p off : Nat) (inb : ∀ a, (![p, off] : Fin 2 → Nat) a + S1x16.size a ≤ (⟨2, ![r, c]⟩ : Shape).size a)
    (f : m.view.ty.Contents (Elt F)) (l : Fin 16) (hp : p < r) (hl : off + l.val < c) :
    shapeCast S16 ((m.access (Rect.unit (s := ⟨2, ![r, c]⟩) ![p, off] S1x16.size inb)).read (Elt F) f) shapeCasts_S1x16_S16 (lane l)
      = m.view.read (Elt F) f (ix2 (⟨p, hp⟩ : Fin r) (⟨off + l.val, hl⟩ : Fin c)) := by
  rw [row_lane]
  show m.view.read (Elt F) f ((Rect.unit (s := ⟨2, ![r, c]⟩) ![p, off] S1x16.size inb).emb (ix2 (0 : Fin 1) l)) = _
  congr 1
  funext a; refine Fin.ext ?_
  match a with
  | ⟨0, _⟩ => show p + 1 * 0 = p; omega
  | ⟨1, _⟩ => show off + 1 * l.val = off + l.val; omega

end Loads

variable (xv : Memref sig .scVector .vmem S4x256 .f32) (wv : Memref sig .scVector .vmem S256x16 .f32)
variable (vs : Memref sig .scVector .vmem S50x256 .f32) (is : Memref sig .scVector .vmem S50x256 .i32)

/-- A buffer of the subcore, its view's elements held whole at `f`. -/
abbrev held {s : Shape} {e : EltTy} (m : Memref sig .scVector .vmem s e) (f : Buf (Elt F) (m.view.loc (VT d i))) : PR F :=
  m.view.loc (VT d i) ↦[m.view.set]{fullShare} f

/-- The weights buffer holds `wt k` in every lane of row `k`. -/
def IsWt (fw : Buf (Elt F) (wv.view.loc (VT d i))) (wt : Nat → F .f32) : Prop :=
  ∀ (k : Fin 256) (l : Fin 16), wv.view.read (Elt F) fw (ix2 k l) = wt k.val

variable {Q : PUnit → PR F}

/-- One load with the rest framed. -/
theorem step_load {s : Shape} {e : EltTy} {m : Memref sig .scVector .vmem s e} {r : Rect s} {hl : m.view.LoadsAt r.toLoadRect}
    {k : (r.shape.Idx → Elt F e) → TP F i PUnit} {f : Buf (Elt F) (m.view.loc (VT d i))} {R : PR F}
    (h : iprop(held d i m f ∗ R) ⊢ wp frame (wpE (defs₀ (F := F)) 𝒱₀ (VT d i) none) Set.univ (k ((m.access r).read (Elt F) f)) Q) :
    iprop(held d i m f ∗ R) ⊢ wp frame (wpE (defs₀ (F := F)) 𝒱₀ (VT d i) none) Set.univ (.op (.load m r.toLoadRect hl) k) Q := by
  iintro ⟨H, HR⟩
  iapply (wp_load_rect (defs := defs₀ (F := F)) 𝒱₀ (VT d i) none Set.univ (m := m) (r := r) (hl := hl) (k := k) (q := fullShare) (f := f)
    (S := m.view.set) (View.set_slice_subset _ _)) $$ H
  iintro H
  iapply h
  isplitl [H]; · iexact H
  iexact HR

/-- One unmasked store with the rest framed. -/
theorem step_store {s : Shape} {e : EltTy} {m : Memref sig .scVector .vmem s e} {r : Rect s} {w : r.shape.Idx → Elt F e}
    {hx : (m.access r).Stores Finset.univ} {hm : Finset.univ = Finset.univ ∨ ∀ a, r.stride a = 1}
    {k : PUnit → TP F i PUnit} {f : Buf (Elt F) (m.view.loc (VT d i))} {R : PR F}
    (h : iprop(held d i m (m.view.writes (Elt F) f [⟨r, w⟩]) ∗ R) ⊢ wp frame (wpE (defs₀ (F := F)) 𝒱₀ (VT d i) none) Set.univ (k ⟨⟩) Q) :
    iprop(held d i m f ∗ R) ⊢ wp frame (wpE (defs₀ (F := F)) 𝒱₀ (VT d i) none) Set.univ (.op (.store m r w Finset.univ hx hm) k) Q := by
  iintro ⟨H, HR⟩
  iapply (wp_store (defs := defs₀ (F := F)) 𝒱₀ (VT d i) none Set.univ (m := m) (r := r) (w := w) (Mk := Finset.univ) (hx := hx) (hm := hm) (k := k) (f := f)
    (S := m.view.set) (by rw [View.setOn_univ]; exact View.set_slice_subset _ _)) $$ H
  iintro H
  iapply h
  isplitl [H]; · iexact H
  iexact HR

/-- The loads of the listed features' weights: the program goes on with any wires that hold the listed features' keys and
    elsewhere what they held. -/
theorem wp_loadKeys (x0 x1 x2 x3 : FVec F S16 .f32) (xc : Fin 16 → Fin 4 → F .f32)
    (h0 : ∀ l, x0 (lane l) = xc l 0) (h1 : ∀ l, x1 (lane l) = xc l 1) (h2 : ∀ l, x2 (lane l) = xc l 2) (h3 : ∀ l, x3 (lane l) = xc l 3)
    (fw : Buf (Elt F) (wv.view.loc (VT d i))) (wt : Nat → F .f32) (hw : IsWt d i wv fw wt) (k : (Nat → IVec S16 32) → TP F i PUnit) (R : PR F) :
    ∀ (fs : List (Fin 64)) (e : Nat → IVec S16 32),
      (∀ e' : Nat → IVec S16 32, (∀ n l, (∀ f ∈ fs, f.val ≠ n) → e' n (lane l) = e n (lane l)) →
        (∀ n l, (∃ f ∈ fs, f.val = n) → e' n (lane l) = colKey (xc l) wt n) →
        iprop(held d i wv fw ∗ R) ⊢ wp frame (wpE (defs₀ (F := F)) 𝒱₀ (VT d i) none) Set.univ (k e') Q) →
      iprop(held d i wv fw ∗ R) ⊢ wp frame (wpE (defs₀ (F := F)) 𝒱₀ (VT d i) none) Set.univ (loadKeys i wv x0 x1 x2 x3 fs e k) Q
  | [], e, hk => hk e (fun _ _ _ => rfl) fun _ _ ⟨_, h, _⟩ => absurd h (List.not_mem_nil)
  | f :: fs, e, hk => by
    unfold loadKeys
    refine step_load d i (step_load d i (step_load d i (step_load d i ?_)))
    refine wp_loadKeys x0 x1 x2 x3 xc h0 h1 h2 h3 fw wt hw k R fs _ fun e' hne heq => hk e' ?_ ?_
    · intro n l hn
      rw [hne n l fun g hg => hn g (List.mem_cons_of_mem _ hg)]
      have hb : Nat.beq n f.val = false := by
        cases hc : Nat.beq n f.val
        · rfl
        · exact absurd (Nat.eq_of_beq_eq_true hc).symm (hn f List.mem_cons_self)
      show (bif Nat.beq n f.val then _ else e n) (lane l) = _
      rw [hb]; rfl
    · intro n l hn
      by_cases hn' : ∃ g ∈ fs, g.val = n
      · exact heq n l hn'
      · obtain ⟨g, hg, rfl⟩ := hn
        have hgf : g = f := by
          rcases List.mem_cons.mp hg with h | h
          · exact h
          · exact absurd ⟨g, h, rfl⟩ hn'
        subst hgf
        rw [hne g.val l fun g' hg' h => hn' ⟨g', hg', h⟩]
        show (bif Nat.beq g.val g.val then _ else e g.val) (lane l) = _
        rw [Nat.beq_refl]
        have hb := g.isLt
        refine mkKey_apply (F := F) _ _ _ _ _ _ _ _ _ (lane l) (xc l) (fun b => wt (4 * g.val + b.val)) (h0 l) (h1 l) (h2 l) (h3 l) ?_ ?_ ?_ ?_
        · exact (load_lane wv (4 * g.val) 0 _ fw l (by omega) (by have := l.isLt; omega)).trans
            ((congrArg _ (congrArg₂ ix2 rfl (Fin.ext (Nat.zero_add _)))).trans (hw ⟨4 * g.val, by omega⟩ l))
        · exact (load_lane wv (4 * g.val + 1) 0 _ fw l (by omega) (by have := l.isLt; omega)).trans
            ((congrArg _ (congrArg₂ ix2 rfl (Fin.ext (Nat.zero_add _)))).trans (hw ⟨4 * g.val + 1, by omega⟩ l))
        · exact (load_lane wv (4 * g.val + 2) 0 _ fw l (by omega) (by have := l.isLt; omega)).trans
            ((congrArg _ (congrArg₂ ix2 rfl (Fin.ext (Nat.zero_add _)))).trans (hw ⟨4 * g.val + 2, by omega⟩ l))
        · exact (load_lane wv (4 * g.val + 3) 0 _ fw l (by omega) (by have := l.isLt; omega)).trans
            ((congrArg _ (congrArg₂ ix2 rfl (Fin.ext (Nat.zero_add _)))).trans (hw ⟨4 * g.val + 3, by omega⟩ l))

/-- The value and the index a word of a column's sorted keys stands for. -/
abbrev outV (k : BitVec 32) : F .f32 := FloatOps.ofBits .f32 (valW k)

/-- A store of one row's sixteen lanes, read back. -/
theorem read_rowStore {e : EltTy} (m : Memref sig .scVector .vmem S50x256 e) (f : Buf (Elt F) (m.view.loc (VT d i))) (p : Fin 50) (off : Nat)
    (h : off + 16 ≤ 256) (w : S16.Idx → Elt F e) (y : S50x256.Idx) :
    m.view.read (Elt F) (m.view.writes (Elt F) f [⟨oRect p.val off p.isLt h, shapeCast S1x16 w shapeCasts_S16_S1x16⟩]) y
      = if hy : (y 0).val = p.val ∧ off ≤ (y 1).val ∧ (y 1).val < off + 16 then w (lane ⟨(y 1).val - off, by omega⟩)
        else m.view.read (Elt F) f y := by
  split
  · rename_i hy
    refine (View.read_writes_cons_unit_of_mem m.view f (off := ![p.val, off]) (size := S1x16.size) (inb_o p.isLt h) _ [] y
      (ix2 (0 : Fin 1) (⟨(y 1).val - off, by omega⟩ : Fin 16)) rfl fun a => ?_).trans ?_
    · match a with
      | ⟨0, _⟩ => exact hy.1
      | ⟨1, _⟩ => show (y 1).val = off + ((y 1).val - off); omega
    · rw [lane_row]
  · rename_i hy
    by_cases h0 : (y 0).val = p.val
    · exact View.read_writes_cons_unit_of_not_mem m.view f (off := ![p.val, off]) (size := S1x16.size) (inb_o p.isLt h) _ [] y rfl 1
        (by show (y 1).val < off ∨ off + 16 ≤ (y 1).val; omega)
    · exact View.read_writes_cons_unit_of_not_mem m.view f (off := ![p.val, off]) (size := S1x16.size) (inb_o p.isLt h) _ [] y rfl 0
        (by show (y 0).val < p.val ∨ p.val + 1 ≤ (y 0).val; omega)

/-- What the stores of the listed rows leave in the two staging buffers, `E c p` the sorted key of column `c`, row `p`. -/
structure Stored (E : Nat → Nat → BitVec 32) (off : Nat) (ps : List (Fin 50)) (f f' : S50x256.Idx → F .f32) (g g' : S50x256.Idx → BitVec 32) : Prop where
  inV : ∀ y : S50x256.Idx, off ≤ (y 1).val → (y 1).val < off + 16 → (∃ p ∈ ps, p.val = (y 0).val) → f' y = outV (E (y 1).val (y 0).val)
  inI : ∀ y : S50x256.Idx, off ≤ (y 1).val → (y 1).val < off + 16 → (∃ p ∈ ps, p.val = (y 0).val) → g' y = idxW (E (y 1).val (y 0).val)
  outV : ∀ y : S50x256.Idx, ((y 1).val < off ∨ off + 16 ≤ (y 1).val ∨ ∀ p ∈ ps, p.val ≠ (y 0).val) → f' y = f y
  outI : ∀ y : S50x256.Idx, ((y 1).val < off ∨ off + 16 ≤ (y 1).val ∨ ∀ p ∈ ps, p.val ≠ (y 0).val) → g' y = g y

/-- The stores of the listed rows. -/
theorem wp_emit (e : Nat → IVec S16 32) (off : Nat) (h : off + 16 ≤ 256) (E : Nat → Nat → BitVec 32)
    (he : ∀ (p : Fin 50) (l : Fin 16), e p.val (lane l) = E (off + l.val) p.val) (R : PR F) :
    ∀ (ps : List (Fin 50)) (f : Buf (Elt F) (vs.view.loc (VT d i))) (g : Buf (Elt F) (is.view.loc (VT d i))),
      (∀ f' g', Stored E off ps (vs.view.read (Elt F) f) (vs.view.read (Elt F) f') (is.view.read (Elt F) g) (is.view.read (Elt F) g') →
        iprop(held d i vs f' ∗ held d i is g' ∗ R) ⊢ Q ⟨⟩) →
      iprop(held d i vs f ∗ held d i is g ∗ R) ⊢ wp frame (wpE (defs₀ (F := F)) 𝒱₀ (VT d i) none) Set.univ (emit i vs is e off h ps) Q
  | [], f, g, hQ => by
    unfold emit; rw [wp_ret]
    refine (hQ f g ⟨?_, ?_, fun _ _ => rfl, fun _ _ => rfl⟩).trans fupd_intro
    · exact fun _ _ _ ⟨_, h, _⟩ => absurd h List.not_mem_nil
    · exact fun _ _ _ ⟨_, h, _⟩ => absurd h List.not_mem_nil
  | p :: ps, f, g, hQ => by
    unfold emit
    refine step_load d i (step_store d i ?_)
    refine (show iprop(_ ∗ held d i is g ∗ R) ⊢ iprop(held d i is g ∗ held d i vs (vs.view.writes (Elt F) f
      [⟨oRect p.val off p.isLt h, shapeCast S1x16 (keyVal (F := F) (e p.val)) shapeCasts_S16_S1x16⟩]) ∗ R) from by
        iintro ⟨H1, H2, H3⟩
        isplitl [H2]; · iexact H2
        isplitl [H1]; · iexact H1
        iexact H3).trans ?_
    refine step_load d i (step_store d i ?_)
    refine (show _ ⊢ iprop(held d i vs (vs.view.writes (Elt F) f
      [⟨oRect p.val off p.isLt h, shapeCast S1x16 (keyVal (F := F) (e p.val)) shapeCasts_S16_S1x16⟩]) ∗ held d i is (is.view.writes (Elt F) g
      [⟨oRect p.val off p.isLt h, shapeCast S1x16 (keyIdx (e p.val)) shapeCasts_S16_S1x16⟩]) ∗ R) from by
        iintro ⟨H1, H2, H3⟩
        isplitl [H2]; · iexact H2
        isplitl [H1]; · iexact H1
        iexact H3).trans ?_
    refine wp_emit e off h E he R ps _ _ fun f' g' hS => hQ f' g' ?_
    have hE : ∀ y : S50x256.Idx, (hy : off ≤ (y 1).val ∧ (y 1).val < off + 16) → (y 0).val = p.val →
        e p.val (lane ⟨(y 1).val - off, by omega⟩) = E (y 1).val (y 0).val := fun y hy h0 => by
      rw [he p, h0]; congr 1; show off + ((y 1).val - off) = _; omega
    refine ⟨?_, ?_, ?_, ?_⟩
    · intro y h1 h2 hp
      by_cases hm : ∃ q ∈ ps, q.val = (y 0).val
      · exact hS.inV y h1 h2 hm
      · have h0 : (y 0).val = p.val := by
          obtain ⟨q, hq, hqe⟩ := hp
          rcases List.mem_cons.mp hq with rfl | hq
          · exact hqe.symm
          · exact absurd ⟨q, hq, hqe⟩ hm
        rw [hS.outV y (.inr (.inr fun q hq hqe => hm ⟨q, hq, hqe⟩)), read_rowStore, dif_pos ⟨h0, h1, h2⟩, keyVal_apply, hE y ⟨h1, h2⟩ h0]
    · intro y h1 h2 hp
      by_cases hm : ∃ q ∈ ps, q.val = (y 0).val
      · exact hS.inI y h1 h2 hm
      · have h0 : (y 0).val = p.val := by
          obtain ⟨q, hq, hqe⟩ := hp
          rcases List.mem_cons.mp hq with rfl | hq
          · exact hqe.symm
          · exact absurd ⟨q, hq, hqe⟩ hm
        rw [hS.outI y (.inr (.inr fun q hq hqe => hm ⟨q, hq, hqe⟩))]
        refine (read_rowStore (F := F) d i is g p off h (keyIdx (e p.val)) y).trans ?_
        rw [dif_pos ⟨h0, h1, h2⟩, keyIdx_apply, hE y ⟨h1, h2⟩ h0]
    · intro y hy
      rw [hS.outV y (hy.imp id (Or.imp id fun h q hq => h q (List.mem_cons_of_mem _ hq))), read_rowStore, dif_neg]
      rintro ⟨h0, h1, h2⟩
      rcases hy with hy | hy | hy
      · omega
      · omega
      · exact hy p List.mem_cons_self h0.symm
    · intro y hy
      rw [hS.outI y (hy.imp id (Or.imp id fun h q hq => h q (List.mem_cons_of_mem _ hq)))]
      refine (read_rowStore (F := F) d i is g p off h (keyIdx (e p.val)) y).trans (dif_neg ?_)
      rintro ⟨h0, h1, h2⟩
      rcases hy with hy | hy | hy
      · omega
      · omega
      · exact hy p List.mem_cons_self h0.symm

/-- Column `c` of the chunk's rows of `x`. -/
def xCol (X : S4x256.Idx → F .f32) (c : Nat) : Fin 4 → F .f32 := fun a => X (ix2 a (Fin.ofNat 256 c))

theorem mem_feats (f : Fin 64) : f ∈ feats := by revert f; decide +kernel
theorem mem_outs (p : Fin 50) : p ∈ outs := by revert p; decide +kernel

attribute [local irreducible] plan feats outs

/-- A batch: the sixteen columns from `off` hold the decoded rows, the rest what they held. -/
theorem wp_batch (off : Nat) (h : off + 16 ≤ 256) (fx : Buf (Elt F) (xv.view.loc (VT d i))) (fw : Buf (Elt F) (wv.view.loc (VT d i)))
    (wt : Nat → F .f32) (hw : IsWt d i wv fw wt) (f : Buf (Elt F) (vs.view.loc (VT d i))) (g : Buf (Elt F) (is.view.loc (VT d i))) (R : PR F)
    (hQ : ∀ f' g', Stored (fun c => colSort (xCol (xv.view.read (Elt F) fx) c) wt) off outs (vs.view.read (Elt F) f) (vs.view.read (Elt F) f')
        (is.view.read (Elt F) g) (is.view.read (Elt F) g') →
      iprop(held d i vs f' ∗ held d i is g' ∗ held d i xv fx ∗ held d i wv fw ∗ R) ⊢ Q ⟨⟩) :
    iprop(held d i vs f ∗ held d i is g ∗ held d i xv fx ∗ held d i wv fw ∗ R)
      ⊢ wp frame (wpE (defs₀ (F := F)) 𝒱₀ (VT d i) none) Set.univ (batch i xv wv vs is off h) Q := by
  unfold batch
  refine (show _ ⊢ iprop(held d i xv fx ∗ held d i wv fw ∗ held d i vs f ∗ held d i is g ∗ R) from by
    iintro ⟨H1, H2, H3, H4, H5⟩
    isplitl [H3]; · iexact H3
    isplitl [H4]; · iexact H4
    isplitl [H1]; · iexact H1
    isplitl [H2]; · iexact H2
    iexact H5).trans ?_
  refine step_load d i (step_load d i (step_load d i (step_load d i ?_)))
  refine (show _ ⊢ iprop(held d i wv fw ∗ held d i vs f ∗ held d i is g ∗ held d i xv fx ∗ R) from by
    iintro ⟨H3, H4, H1, H2, H5⟩
    isplitl [H4]; · iexact H4
    isplitl [H1]; · iexact H1
    isplitl [H2]; · iexact H2
    isplitl [H3]; · iexact H3
    iexact H5).trans ?_
  have hx : ∀ (p : Fin 4) (l : Fin 16), shapeCast S16 ((xv.access (xRect p.val off p.isLt h)).read (Elt F) fx) shapeCasts_S1x16_S16 (lane l)
      = xCol (xv.view.read (Elt F) fx) (off + l.val) p := fun p l => by
    have hl := l.isLt
    refine (load_lane xv p.val off (inb_x p.isLt h) fx l p.isLt (by omega)).trans ?_
    unfold xCol
    congr 2
    exact Fin.ext (Nat.mod_eq_of_lt (by omega)).symm
  refine wp_loadKeys d i wv _ _ _ _ (fun l => xCol (xv.view.read (Elt F) fx) (off + l.val)) (hx 0) (hx 1) (hx 2) (hx 3) fw wt hw _ _ feats _ ?_
  intro e' hne heq
  refine (show _ ⊢ iprop(held d i vs f ∗ held d i is g ∗ (held d i wv fw ∗ held d i xv fx ∗ R)) from by
    iintro ⟨H4, H1, H2, H3, H5⟩
    isplitl [H1]; · iexact H1
    isplitl [H2]; · iexact H2
    isplitl [H4]; · iexact H4
    isplitl [H3]; · iexact H3
    iexact H5).trans ?_
  refine wp_emit d i vs is _ off h (fun c => colSort (xCol (xv.view.read (Elt F) fx) c) wt) ?_ _ outs f g ?_
  · intro p l
    refine (crun_map (fun v : IVec S16 32 => v (lane l)) maxui minui IntOp.maxui IntOp.minui (fun _ _ => rfl) (fun _ _ => rfl) plan e' p.val).trans ?_
    unfold colSort
    refine congrArg (fun e => crun IntOp.maxui IntOp.minui plan e p.val) (funext fun n => ?_)
    by_cases hn : n < 64
    · rw [if_pos hn]; exact heq n l ⟨⟨n, hn⟩, mem_feats _, rfl⟩
    · rw [if_neg hn]; exact hne n l fun q _ hq => hn (hq ▸ q.isLt)
  · intro f' g' hS
    refine .trans ?_ (hQ f' g' hS)
    iintro ⟨H1, H2, H4, H3, H5⟩
    isplitl [H1]; · iexact H1
    isplitl [H2]; · iexact H2
    isplitl [H3]; · iexact H3
    isplitl [H4]; · iexact H4
    iexact H5

end Cert.Proof

end
-- ==== Proof.Chunk.lean ====
/-
  A chunk of 256 columns: sixteen batches fill the two staging buffers; the copies that fetch the chunk's columns of `x` and
  carry the two staging buffers out.
-/
module

public import proofs.«01_k».proof.Proof.BatchWp
public import Idealize.ShloMosaic.Lib.Batch

@[expose] public section

noncomputable section

namespace Cert.Proof

open Cert.Kernel
open Idealize.ShloMosaic Idealize.ShloMosaic.ValueIdx
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx)
open Cert.Kernel.Facts₀ Cert.Kernel.Facts

attribute [local irreducible] plan feats outs

variable {F : FTy → Type} [BitOps F]
variable (d : Dev nD) (i : grid0.Coords)
variable (xv : Memref sig .scVector .vmem S4x256 .f32) (wv : Memref sig .scVector .vmem S256x16 .f32)
variable (vs : Memref sig .scVector .vmem S50x256 .f32) (is : Memref sig .scVector .vmem S50x256 .i32)
variable {Q : PUnit → PR F}

/-- Both staging buffers hold their rows at the columns below `n`. -/
structure Filled (E : Nat → Nat → BitVec 32) (n : Nat) (f : S50x256.Idx → F .f32) (g : S50x256.Idx → BitVec 32) : Prop where
  val : ∀ y : S50x256.Idx, (y 1).val < n → f y = outV (E (y 1).val (y 0).val)
  idx : ∀ y : S50x256.Idx, (y 1).val < n → g y = idxW (E (y 1).val (y 0).val)

/-- The sixteen batches of a chunk, as the kernel's counted loop. -/
theorem wp_batches (lp : Scf.Loop 32) (ok : lp.OK) (htr : lp.trips = 16) (body : Fin lp.trips → Unit → TP F i Unit)
    (hbody : ∀ (t : Fin lp.trips) (u : Unit) (h : offT t.val + 16 ≤ 256), body t u = batch i xv wv vs is (offT t.val) h)
    (fx : Buf (Elt F) (xv.view.loc (VT d i))) (fw : Buf (Elt F) (wv.view.loc (VT d i)))
    (wt : Nat → F .f32) (hw : IsWt d i wv fw wt) (f : Buf (Elt F) (vs.view.loc (VT d i))) (g : Buf (Elt F) (is.view.loc (VT d i))) (R : PR F)
    (hQ : ∀ f' g', Filled (fun c => colSort (xCol (xv.view.read (Elt F) fx) c) wt) 256 (vs.view.read (Elt F) f') (is.view.read (Elt F) g') →
      iprop(held d i vs f' ∗ held d i is g' ∗ held d i xv fx ∗ held d i wv fw ∗ R) ⊢ Q ⟨⟩) :
    iprop(held d i vs f ∗ held d i is g ∗ held d i xv fx ∗ held d i wv fw ∗ R)
      ⊢ wp frame (wpE (defs₀ (F := F)) 𝒱₀ (VT d i) none) Set.univ (Scf.Loop.for lp ok ⟨⟩ body) Q := by
  let I : Nat → Unit → PR F := fun n _ => iprop(∃ f' g',
    ⌜Filled (fun c => colSort (xCol (xv.view.read (Elt F) fx) c) wt) (16 * n) (vs.view.read (Elt F) f') (is.view.read (Elt F) g')⌝
      ∗ held d i vs f' ∗ held d i is g' ∗ held d i xv fx ∗ held d i wv fw ∗ R)
  refine BIBase.Entails.trans ?_ (Scf.wp_for frame (wpE (defs₀ (F := F)) 𝒱₀ (VT d i) none) Set.univ lp.lb lp.ub lp.st ok ⟨⟩ body I ?_)
  · iintro H
    isplitl [H]
    · iexists f, g
      isplitr
      · ipureintro; exact ⟨fun y h => absurd h (by omega), fun y h => absurd h (by omega)⟩
      iexact H
    · iintro %_ ⟨%f', %g', %hF, H⟩
      iapply (hQ f' g' (by rw [show Scf.trips lp.lb lp.ub lp.st = 16 from htr] at hF; exact hF))
      iexact H
  · intro k acc
    have hk : k.val < 16 := htr ▸ k.isLt
    have hoff : offT k.val = 16 * k.val := offT_eq ⟨k.val, hk⟩
    have hle : offT k.val + 16 ≤ 256 := by omega
    rw [hbody k acc hle]
    iintro ⟨%f', %g', %hF, H⟩
    iapply (wp_batch d i xv wv vs is (offT k.val) hle fx fw wt hw f' g' R ?_) $$ H
    intro f'' g'' hS
    have hF' : Filled (fun c => colSort (xCol (xv.view.read (Elt F) fx) c) wt) (16 * (k.val + 1)) (vs.view.read (Elt F) f'') (is.view.read (Elt F) g'') := by
      refine ⟨fun y hy => ?_, fun y hy => ?_⟩
      · by_cases hlt : (y 1).val < 16 * k.val
        · rw [hS.outV y (.inl (by omega)), hF.val y hlt]
        · exact hS.inV y (by omega) (by omega) ⟨⟨(y 0).val, (y 0).isLt⟩, mem_outs _, rfl⟩
      · by_cases hlt : (y 1).val < 16 * k.val
        · rw [hS.outI y (.inl (by omega)), hF.idx y hlt]
        · exact hS.inI y (by omega) (by omega) ⟨⟨(y 0).val, (y 0).isLt⟩, mem_outs _, rfl⟩
    iintro H
    iexists f'', g''
    isplitr
    · ipureintro; exact hF'
    iexact H

/-! ## The copies -/

/-- What the subcore still owes, with waits recorded since `W` at the kernel's own index. -/
def Owe (O : CellTallies nD τ sig (HIx 1)) (W : Waits sig (HIx 1)) : PR F :=
  iprop(∃ W', ⌜∀ p ∈ W', p ∈ W ∨ p.2 = none⌝ ∗ owes (VT d i) O W')

theorem owe_intro {O : CellTallies nD τ sig (HIx 1)} {W W' : Waits sig (HIx 1)} (h : ∀ p ∈ W', p ∈ W ∨ p.2 = none) :
    (owes (VT d i) O W' : PR F) ⊢ Owe d i O W := by
  unfold Owe
  iintro H
  iexists W'
  isplitr
  · ipureintro; exact h
  iexact H

/-- A copy started and waited for at once, from a part of a buffer read at a share. -/
theorem wp_fetch {s : Shape} (src : Memref sig .scVector .hbm s .f32) (dst : Memref sig .scVector .vmem s .f32) (sem : DmaSem sig)
    (hs : src.view.WordExact) (hd : dst.view.WordExact) (ht : (DmaTarget.here dst : DmaTarget nD τ sig (.scVector (cV i) (jV i)) .vmem s .f32).Typed .hbm (.dma sem))
    (hs' : src.view.WordExact) (hd' : dst.view.WordExact) (N : Nat) (hN : dst.view.amount (.dma sem) = N) (hN' : dst.view.dmaCredit = N) (hN0 : 0 < N)
    (A : Finset (Idx (src.view.loc (VT d i)))) (hA : src.view.set ⊆ A) (q : PosShare TreeShare)
    (fs : Buf (Elt F) (src.view.loc (VT d i))) (fd : Buf (Elt F) (dst.view.loc (VT d i)))
    (O : CellTallies nD τ sig (HIx 1)) (W : Waits sig (HIx 1)) (k : PUnit → TP F i PUnit) (R : PR F)
    (h : ∀ fd', dst.view.read (Elt F) fd' = src.view.read (Elt F) fs →
      iprop(Transfers.MayWaits (VT d i) none O ∗ Owe d i O W ∗ semVal (VT d i, SemLoc.dma sem) 0 ∗ held d i dst fd' ∗ (src.view.loc (VT d i) ↦[A]{q} fs) ∗ R)
        ⊢ wp frame (wpE (defs₀ (F := F)) 𝒱₀ (VT d i) none) Set.univ (k ⟨⟩) Q) :
    iprop(Transfers.MayWaits (VT d i) none O ∗ Owe d i O W ∗ semVal (VT d i, SemLoc.dma sem) 0 ∗ held d i dst fd ∗ (src.view.loc (VT d i) ↦[A]{q} fs) ∗ R)
      ⊢ wp frame (wpE (defs₀ (F := F)) 𝒱₀ (VT d i) none) Set.univ
        (.op (.enqueueDma src (.here dst) (.dma sem) hs hd ht) fun _ => .op (.waitDma2 sem src dst hs' hd') k) Q := by
  unfold Owe
  iintro ⟨#Hmw, ⟨%W', %hW, HO⟩, Hsem, Hd, Hs, HR⟩
  ihave Hs' := (pointsTo_split_subset (Name := ℕ) (Lvl := ℕ) (U := UU) (q := q) (f := fs) hA).1 $$ Hs
  icases Hs' with ⟨Hs, Hrest⟩
  iapply (Transfers.wp_dmaLocal (countersEmb (U := UU) (Lvl := ℕ)) 𝒱₀ (VT d i) none (src := src) (dst := dst) (fs := fs) (fd := fd) (q := q) none N hN hN0 (Finset.Subset.refl _)) $$ [Hs Hd Hsem]
  · isplitl [Hs]; · iexact Hs
    isplitl [Hd]; · iexact Hd
    iexact Hsem
  iintro Hf
  iapply (Transfers.wp_waitLocalO (countersEmb (U := UU) (Lvl := ℕ)) 𝒱₀ (VT d i) none none hN') $$ [Hf HO]
  · isplitl [Hf]; · iexact Hf
    isplitl [HO]; · iexact HO
    iapply (Transfers.MayWaits.elim (SemLoc.dma sem)) $$ Hmw
  iintro ⟨⟨Hd, Hs⟩, Hsem, HO⟩
  iapply (h _ (View.read_write_univ _ _))
  isplitr; · iexact Hmw
  isplitl [HO]
  · iapply (owe_intro (F := F) d i (fun p hp => ?_)) $$ HO
    rcases Finset.mem_insert.mp hp with rfl | hp
    · exact .inr rfl
    · exact hW p hp
  isplitl [Hsem]; · iexact Hsem
  isplitl [Hd]; · iexact Hd
  isplitr [HR]
  · iapply (pointsTo_split_subset (Name := ℕ) (Lvl := ℕ) (U := UU) (q := q) (f := fs) hA).2
    isplitl [Hs]; · iexact Hs
    iexact Hrest
  iexact HR

/-- The two results in the device's memory, as a subcore names them, and the columns of `x`. -/
abbrev oV : Memref sig .scVector .hbm S50x131072 .f32 := Memref.whole main_v9_0_scv
abbrev oI : Memref sig .scVector .hbm S50x131072 .i32 := Memref.whole main_v9_1_scv
abbrev xT : Memref sig .scVector .hbm S4x131072 .f32 := Memref.whole main_v5_scv

/-- The 256 columns from `b` of a result. -/
def cols (b : Nat) : Finset S50x131072.Idx := Finset.univ.filter fun y => b ≤ (y 1).val ∧ (y 1).val < b + 256

theorem mem_cols {b : Nat} {y : S50x131072.Idx} : y ∈ cols b ↔ b ≤ (y 1).val ∧ (y 1).val < b + 256 := by
  unfold cols; rw [Finset.mem_filter]; exact and_iff_right (Finset.mem_univ _)

section Windows
variable {off : Fin 2 → Nat} {b : Nat} (inb : ∀ a, off a + S50x256.size a ≤ S50x131072.size a)

/-- The element of the window of 256 columns from `b`. -/
theorem win_emb (hoff : off = ![0, b]) (x : S50x256.Idx) :
    (∀ a, ((Rect.unit (s := S50x131072) off S50x256.size inb).emb x a).val = (![0, b] : Fin 2 → Nat) a + (x a).val) := by
  intro a; subst hoff
  show (![0, b] : Fin 2 → Nat) a + 1 * (x a).val = _
  omega

/-- Where a column of the window is in the window. -/
theorem win_mem (hoff : off = ![0, b]) (y : S50x131072.Idx) (hy : y ∈ cols b) :
    ∃ x : S50x256.Idx, (Rect.unit (s := S50x131072) off S50x256.size inb).emb x = y ∧ (x 0).val = (y 0).val ∧ (x 1).val = (y 1).val - b := by
  have h := mem_cols.mp hy
  refine ⟨ix2 (⟨(y 0).val, (y 0).isLt⟩ : Fin 50) (⟨(y 1).val - b, by omega⟩ : Fin 256), ?_, rfl, rfl⟩
  have h0 : ∀ a : Fin 2, (![0, b] : Fin 2 → Nat) a + (ix2 (⟨(y 0).val, (y 0).isLt⟩ : Fin 50) (⟨(y 1).val - b, by omega⟩ : Fin 256) a).val = (y a).val :=
    Fin.forall_fin_two.mpr ⟨Nat.zero_add _, Nat.add_sub_cancel' h.1⟩
  exact funext fun a => Fin.ext ((win_emb inb hoff _ a).trans (h0 a))

theorem win_setV (hoff : off = ![0, b]) : ((oV).slice (Rect.unit off S50x256.size inb) (fun _ => rfl)).view.set = cols b := by
  ext y
  constructor
  · intro hy
    obtain ⟨x, -, rfl⟩ := Finset.mem_map.mp hy
    refine mem_cols.mpr ?_
    have := win_emb inb hoff x 1
    have hx := (x 1).isLt
    constructor
    · show b ≤ ((Rect.unit (s := S50x131072) off S50x256.size inb).emb x 1).val
      rw [this]; exact Nat.le_add_right _ _
    · show ((Rect.unit (s := S50x131072) off S50x256.size inb).emb x 1).val < b + 256
      rw [this]; exact Nat.add_lt_add_left hx _
  · intro hy
    obtain ⟨x, rfl, -⟩ := win_mem inb hoff y hy
    exact Finset.mem_map.mpr ⟨x, Finset.mem_univ _, rfl⟩

theorem win_setI (hoff : off = ![0, b]) : ((oI).slice (Rect.unit off S50x256.size inb) (fun _ => rfl)).view.set = cols b :=
  (win_setV inb hoff : _)

/-- What a copy into the window leaves at one of its columns. -/
theorem win_writeV (hoff : off = ![0, b]) (V0 : S50x131072.Idx → F .f32) (w : S50x256.Idx → F .f32) (VV : S50x131072.Idx → F .f32)
    (h : ∀ (x : S50x256.Idx) (y : S50x131072.Idx), y ∈ cols b → (x 0).val = (y 0).val → (x 1).val = (y 1).val - b → w x = VV y)
    (y : S50x131072.Idx) (hy : y ∈ cols b) :
    ((oV).slice (Rect.unit off S50x256.size inb) (fun _ => rfl)).view.write (Elt F) V0 w Finset.univ y = VV y := by
  obtain ⟨x, hx, hx0, hx1⟩ := win_mem inb hoff y hy
  have hr := congrFun (View.read_write_univ (v := ((oV).slice (Rect.unit off S50x256.size inb) (fun _ => rfl)).view) (Val := Elt F) V0 w) x
  have he : ((oV).slice (Rect.unit off S50x256.size inb) (fun _ => rfl)).view.emb x = y := hx
  rw [← h x y hy hx0 hx1, ← hr, ← he]
  rfl

theorem win_writeI (hoff : off = ![0, b]) (V0 : S50x131072.Idx → BitVec 32) (w : S50x256.Idx → BitVec 32) (VV : S50x131072.Idx → BitVec 32)
    (h : ∀ (x : S50x256.Idx) (y : S50x131072.Idx), y ∈ cols b → (x 0).val = (y 0).val → (x 1).val = (y 1).val - b → w x = VV y)
    (y : S50x131072.Idx) (hy : y ∈ cols b) :
    ((oI).slice (Rect.unit off S50x256.size inb) (fun _ => rfl)).view.write (Elt F) V0 w Finset.univ y = VV y := by
  obtain ⟨x, hx, hx0, hx1⟩ := win_mem inb hoff y hy
  have hr := congrFun (View.read_write_univ (v := ((oI).slice (Rect.unit off S50x256.size inb) (fun _ => rfl)).view) (Val := Elt F) V0 w) x
  have he : ((oI).slice (Rect.unit off S50x256.size inb) (fun _ => rfl)).view.emb x = y := hx
  rw [← h x y hy hx0 hx1, ← hr, ← he]
  rfl

end Windows

/-- What a copy of the two staging buffers to the columns from `b` delivers. -/
def deliv (VV : Buf (Elt F) ((oV).view.loc (VT d i))) (II : Buf (Elt F) ((oI).view.loc (VT d i))) (b : Nat) : Fin 2 → PR F := fun t =>
  match t with
  | 0 => iprop(((oV).view.loc (VT d i) ↦[cols b]{fullShare} VV) ∗ ∃ f, held d i vs f)
  | 1 => iprop(((oI).view.loc (VT d i) ↦[cols b]{fullShare} II) ∗ ∃ g, held d i is g)

instance deliv_storable (VV : Buf (Elt F) ((oV).view.loc (VT d i))) (II : Buf (Elt F) ((oI).view.loc (VT d i))) (b : Nat) (t : Fin 2) :
    BI.Storable (upEmb : UEmb _ (MT nD τ sig (HIx 1) (Elt F) ℕ UU ℕ)) (deliv d i vs is VV II b t) := by
  unfold deliv
  match t with
  | 0 => dsimp only; infer_instance
  | 1 => dsimp only; infer_instance

/-- The two copies in flight. -/
abbrev Flying (sem : DmaSem sig) (N : Nat) (VV : Buf (Elt F) ((oV).view.loc (VT d i))) (II : Buf (Elt F) ((oI).view.loc (VT d i))) (b : Nat) : PR F :=
  Transfers.Batch (countersEmb (U := UU) (Lvl := ℕ)) (VT d i) (.dma sem) none N (deliv d i vs is VV II b) 2 0

/-- The staging buffers' copies to the columns from `b`, both started. -/
theorem wp_issue (sem : DmaSem sig) {off : Fin 2 → Nat} {b : Nat} (inb : ∀ a, off a + S50x256.size a ≤ S50x131072.size a) (hoff : off = ![0, b])
    {hs1 hd1 ht1 hs2 hd2 ht2} (N : Nat)
    (hN1 : ((oV).slice (Rect.unit off S50x256.size inb) (fun _ => rfl)).view.amount (.dma sem) = N)
    (hN2 : ((oI).slice (Rect.unit off S50x256.size inb) (fun _ => rfl)).view.amount (.dma sem) = N)
    (VV : Buf (Elt F) ((oV).view.loc (VT d i))) (II : Buf (Elt F) ((oI).view.loc (VT d i))) (E : Nat → Nat → BitVec 32)
    (hV : ∀ y : S50x131072.Idx, y ∈ cols b → VV y = outV (E ((y 1).val - b) (y 0).val))
    (hI : ∀ y : S50x131072.Idx, y ∈ cols b → II y = idxW (E ((y 1).val - b) (y 0).val))
    (f : Buf (Elt F) (vs.view.loc (VT d i))) (g : Buf (Elt F) (is.view.loc (VT d i)))
    (hF : Filled E 256 (vs.view.read (Elt F) f) (is.view.read (Elt F) g))
    (V0 : Buf (Elt F) ((oV).view.loc (VT d i))) (I0 : Buf (Elt F) ((oI).view.loc (VT d i))) (k : PUnit → TP F i PUnit) (R : PR F)
    (h : iprop(Flying d i vs is sem N VV II b ∗ R) ⊢ wp frame (wpE (defs₀ (F := F)) 𝒱₀ (VT d i) none) Set.univ (k ⟨⟩) Q) :
    iprop(semVal (VT d i, SemLoc.dma sem) 0 ∗ held d i vs f ∗ held d i is g ∗ ((oV).view.loc (VT d i) ↦[cols b]{fullShare} V0)
        ∗ ((oI).view.loc (VT d i) ↦[cols b]{fullShare} I0) ∗ R)
      ⊢ wp frame (wpE (defs₀ (F := F)) 𝒱₀ (VT d i) none) Set.univ
        (.op (.enqueueDma vs (.here ((oV).slice (Rect.unit off S50x256.size inb) (fun _ => rfl))) (.dma sem) hs1 hd1 ht1) fun _ =>
          .op (.enqueueDma is (.here ((oI).slice (Rect.unit off S50x256.size inb) (fun _ => rfl))) (.dma sem) hs2 hd2 ht2) k) Q := by
  iintro ⟨Hsem, Hv, Hi, HV, HI, HR⟩
  have hHV := win_writeV inb hoff V0 (ReadAs.same.apply (vs.view.read (Elt F) f)) VV fun x y hy hx0 hx1 => by
    rw [hV y hy, ← hx0, ← hx1]; exact hF.val x (x 1).isLt
  have hHI := win_writeI (F := F) inb hoff I0 (ReadAs.same.apply (is.view.read (Elt F) g)) II fun x y hy hx0 hx1 => by
    rw [hI y hy, ← hx0, ← hx1]; exact hF.idx x (x 1).isLt
  imod (Transfers.batch_alloc' (Lvl := ℕ) (countersEmb (U := UU)) (VT d i) none N (deliv d i vs is VV II b) (sm := .dma sem) (E := Set.univ)) $$ Hsem with HB
  iapply (Transfers.wp_dmaBatch (countersEmb (U := UU) (Lvl := ℕ)) 𝒱₀ (VT d i) none (src := vs)
    (dst := (oV).slice (Rect.unit off S50x256.size inb) (fun _ => rfl)) (fs := f) (q := fullShare) (Sd := cols b) (fd := V0)
    (D := deliv d i vs is VV II b) (j := 0) (u := 0) none N hN1 (win_setV inb hoff).subset (by decide) (by omega) ?_) $$ [Hv HV HB]
  · show _ ⊢ iprop(((oV).view.loc (VT d i) ↦[cols b]{fullShare} VV) ∗ ∃ f, held d i vs f)
    iintro ⟨HV, Hv⟩
    isplitl [HV]
    · iapply (Entails.of_eq (pointsTo_congr (Name := ℕ) (Lvl := ℕ) (U := UU) (Ix := HIx 1) (q := fullShare) hHV)) $$ HV
    · iexists f; iexact Hv
  · isplitl [Hv]; · iexact Hv
    isplitl [HV]; · iexact HV
    iexact HB
  iintro HB
  iapply (Transfers.wp_dmaBatch (countersEmb (U := UU) (Lvl := ℕ)) 𝒱₀ (VT d i) none (src := is)
    (dst := (oI).slice (Rect.unit off S50x256.size inb) (fun _ => rfl)) (fs := g) (q := fullShare) (Sd := cols b) (fd := I0)
    (D := deliv d i vs is VV II b) (j := 1) (u := 0) none N hN2 (win_setI inb hoff).subset (by decide) (by omega) ?_) $$ [Hi HI HB]
  · show _ ⊢ iprop(((oI).view.loc (VT d i) ↦[cols b]{fullShare} II) ∗ ∃ f, held d i is f)
    iintro ⟨HI, Hi⟩
    isplitl [HI]
    · iapply (Entails.of_eq (pointsTo_congr (Name := ℕ) (Lvl := ℕ) (U := UU) (Ix := HIx 1) (q := fullShare) hHI)) $$ HI
    · iexists g; iexact Hi
  · isplitl [Hi]; · iexact Hi
    isplitl [HI]; · iexact HI
    iexact HB
  iintro HB
  iapply h
  isplitl [HB]; · iexact HB
  iexact HR

/-- The waits for the two copies: both staging buffers back, both results' columns written. -/
theorem wp_collect (sem : DmaSem sig) {off : Fin 2 → Nat} {b : Nat} (inb : ∀ a, off a + S50x256.size a ≤ S50x131072.size a)
    {hs1 hd1 hs2 hd2} (N : Nat) (hN0 : 0 < N)
    (hN1 : ((oV).slice (Rect.unit off S50x256.size inb) (fun _ => rfl)).view.dmaCredit = N)
    (hN2 : ((oI).slice (Rect.unit off S50x256.size inb) (fun _ => rfl)).view.dmaCredit = N)
    (VV : Buf (Elt F) ((oV).view.loc (VT d i))) (II : Buf (Elt F) ((oI).view.loc (VT d i)))
    (O : CellTallies nD τ sig (HIx 1)) (W : Waits sig (HIx 1)) (k : PUnit → TP F i PUnit) (R : PR F)
    (h : iprop(Transfers.MayWaits (VT d i) none O ∗ Owe d i O W ∗ semVal (VT d i, SemLoc.dma sem) 0 ∗ (∃ f, held d i vs f) ∗ (∃ g, held d i is g)
        ∗ ((oV).view.loc (VT d i) ↦[cols b]{fullShare} VV) ∗ ((oI).view.loc (VT d i) ↦[cols b]{fullShare} II) ∗ R)
      ⊢ wp frame (wpE (defs₀ (F := F)) 𝒱₀ (VT d i) none) Set.univ (k ⟨⟩) Q) :
    iprop(Transfers.MayWaits (VT d i) none O ∗ Owe d i O W ∗ Flying d i vs is sem N VV II b ∗ R)
      ⊢ wp frame (wpE (defs₀ (F := F)) 𝒱₀ (VT d i) none) Set.univ
        (.op (.waitDma2 sem vs ((oV).slice (Rect.unit off S50x256.size inb) (fun _ => rfl)) hs1 hd1) fun _ =>
          .op (.waitDma2 sem is ((oI).slice (Rect.unit off S50x256.size inb) (fun _ => rfl)) hs2 hd2) k) Q := by
  unfold Owe
  iintro ⟨#Hmw, ⟨%W', %hW, HO⟩, HB, HR⟩
  iapply (Transfers.wp_waitBatchO (countersEmb (U := UU) (Lvl := ℕ)) 𝒱₀ (VT d i) none none hN1 (D := deliv d i vs is VV II b) (u := 0) (by omega)) $$ [HB HO]
  · isplitl [HB]; · iexact HB
    isplitl [HO]; · iexact HO
    iapply (Transfers.MayWaits.elim (SemLoc.dma sem)) $$ Hmw
  iintro ⟨HB, HO⟩
  iapply (Transfers.wp_waitBatchLastO (countersEmb (U := UU) (Lvl := ℕ)) 𝒱₀ (VT d i) none none hN2 hN0 (D := deliv d i vs is VV II b) (u := 0 + N) (by omega)) $$ [HB HO]
  · isplitl [HB]; · iexact HB
    isplitl [HO]; · iexact HO
    iapply (Transfers.MayWaits.elim (SemLoc.dma sem)) $$ Hmw
  iintro ⟨HD, Hsem, HO⟩
  ihave HD' := (show bigSep Finset.univ (deliv d i vs is VV II b) ⊢ iprop((((oV).view.loc (VT d i) ↦[cols b]{fullShare} VV) ∗ ∃ f, held d i vs f)
      ∗ (((oI).view.loc (VT d i) ↦[cols b]{fullShare} II) ∗ ∃ f, held d i is f)) from Entails.of_eq (by
        rw [show (Finset.univ : Finset (Fin 2)) = {0, 1} by decide, SparseCore.bigSep_insert' (by decide), bigSep_singleton]; rfl)) $$ HD
  icases HD' with ⟨⟨HV, Hv⟩, HI, Hi⟩
  iapply h
  isplitr; · iexact Hmw
  isplitl [HO]
  · iapply (owe_intro (F := F) d i (fun p hp => ?_)) $$ HO
    rcases Finset.mem_insert.mp hp with rfl | hp
    · exact .inr rfl
    rcases Finset.mem_insert.mp hp with rfl | hp
    · exact .inr rfl
    · exact hW p hp
  isplitl [Hsem]; · iexact Hsem
  isplitl [Hv]; · iexact Hv
  isplitl [Hi]; · iexact Hi
  isplitl [HV]; · iexact HV
  isplitl [HI]; · iexact HI
  iexact HR

end Cert.Proof

end
-- ==== Proof.Tile.lean ====
/-
  A vector subcore's task: sixteen chunks of 256 columns, two in flight, from the columns of `x`, the weights and its
  4096 columns of the two results.
-/
module

public import proofs.«01_k».proof.Proof.Chunk
public import proofs.«01_k».proof.Proof.Gen.Kernel.Skeleton

@[expose] public section

noncomputable section

namespace Cert.Proof

open Cert.Kernel
open Idealize.ShloMosaic Idealize.ShloMosaic.ValueIdx
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx)
open Cert.Kernel.Facts₀ Cert.Kernel.Facts

attribute [local irreducible] plan feats outs

variable {F : FTy → Type} [BitOps F]
variable (d : Dev nD) (i : grid0.Coords)
variable {Q : PUnit → PR F}

/-! ## The values -/

/-- Column `n` of `x`. -/
def xAt (X : S4x131072.Idx → F .f32) (n : Nat) : Fin 4 → F .f32 := fun a => X (ix2 a (Fin.ofNat 131072 n))
/-- The values and the indices the kernel leaves. -/
def resV (X : S4x131072.Idx → F .f32) (wt : Nat → F .f32) : S50x131072.Idx → F .f32 :=
  fun y => outV (colSort (xAt X (y 1).val) wt (y 0).val)
def resI (X : S4x131072.Idx → F .f32) (wt : Nat → F .f32) : S50x131072.Idx → BitVec 32 :=
  fun y => idxW (colSort (xAt X (y 1).val) wt (y 0).val)

abbrev wT : Memref sig .scVector .hbm S256x16 .f32 := Memref.whole main_v8_scv

/-- The units a copy of fifty rows of 256 words credits. -/
abbrev NO : Nat := (Memref.slice oV (Rect.unit (s := S50x131072) ![0, 0] S50x256.size (by decide)) (fun _ => rfl)).view.dmaCredit
/-- The units a fetch of four rows of 256 words credits, and the weights' fetch's. -/
theorem NO_pos : 0 < NO := View.dmaCredit_pos _ (by decide)

section Round
variable (xv : Memref sig .scVector .vmem S4x256 .f32) (wv : Memref sig .scVector .vmem S256x16 .f32)
variable (vs : Memref sig .scVector .vmem S50x256 .f32) (is : Memref sig .scVector .vmem S50x256 .i32)

/-- A chunk fetched reads as the columns of `x` from `b`. -/
theorem xCol_fetch {off : Fin 2 → Nat} {b : Nat} (inb : ∀ a, off a + S4x256.size a ≤ S4x131072.size a) (hoff : off = ![0, b]) (hb : b + 256 ≤ 131072)
    (X : S4x131072.Idx → F .f32) (c : Nat) (hc : c < 256) :
    xCol ((Memref.slice xT (Rect.unit (s := S4x131072) off S4x256.size inb) (fun _ => rfl)).view.read (Elt F) X) c = xAt X (b + c) := by
  subst hoff
  funext a
  show X ((Rect.unit (s := S4x131072) ![0, b] S4x256.size inb).emb (ix2 a (Fin.ofNat 256 c))) = X (ix2 a (Fin.ofNat 131072 (b + c)))
  congr 1
  have h0 : ∀ a' : Fin 2, ((Rect.unit (s := S4x131072) ![0, b] S4x256.size inb).emb (ix2 a (Fin.ofNat 256 c)) a').val = (ix2 a (Fin.ofNat 131072 (b + c)) a').val :=
    Fin.forall_fin_two.mpr ⟨by show 0 + 1 * a.val = a.val; omega, by
      show b + 1 * (c % 256) = (b + c) % 131072
      rw [Nat.mod_eq_of_lt hc, Nat.mod_eq_of_lt (by omega)]; omega⟩
  exact funext fun a' => Fin.ext (h0 a')

/-- A chunk: its columns fetched, the sixteen batches, the two copies out started. What happens between the fetch and the
    batches is a step the caller gives. -/
theorem wp_fill (lp : Scf.Loop 32) (ok : lp.OK) (htr : lp.trips = 16) (body : Fin lp.trips → Unit → TP F i Unit)
    (hbody : ∀ (t : Fin lp.trips) (u : Unit) (h : offT t.val + 16 ≤ 256), body t u = batch i xv wv vs is (offT t.val) h)
    (X : S4x131072.Idx → F .f32) (wt : Nat → F .f32) (b : Nat)
    (fx : Buf (Elt F) (xv.view.loc (VT d i))) (hx : ∀ c, c < 256 → xCol (xv.view.read (Elt F) fx) c = xAt X (b + c))
    (fw : Buf (Elt F) (wv.view.loc (VT d i))) (hw : IsWt d i wv fw wt)
    (sem : DmaSem sig) {off : Fin 2 → Nat} (inb : ∀ a, off a + S50x256.size a ≤ S50x131072.size a) (hoff : off = ![0, b])
    {hs1 hd1 ht1 hs2 hd2 ht2}
    (V0 : S50x131072.Idx → F .f32) (I0 : S50x131072.Idx → BitVec 32) (k : PUnit → TP F i PUnit) (R : PR F)
    (h : iprop(Flying d i vs is sem NO (resV X wt) (resI X wt) b ∗ (∃ fx, held d i xv fx) ∗ held d i wv fw ∗ R)
      ⊢ wp frame (wpE (defs₀ (F := F)) 𝒱₀ (VT d i) none) Set.univ (k ⟨⟩) Q) :
    iprop((∃ f, held d i vs f) ∗ (∃ g, held d i is g) ∗ held d i xv fx ∗ held d i wv fw ∗ semVal (VT d i, SemLoc.dma sem) 0
        ∗ ((oV).view.loc (VT d i) ↦[cols b]{fullShare} V0) ∗ ((oI).view.loc (VT d i) ↦[cols b]{fullShare} I0) ∗ R)
      ⊢ wp frame (wpE (defs₀ (F := F)) 𝒱₀ (VT d i) none) Set.univ
        (Scf.Loop.for lp ok ⟨⟩ body >>= fun _ =>
          .op (.enqueueDma vs (.here ((oV).slice (Rect.unit off S50x256.size inb) (fun _ => rfl))) (.dma sem) hs1 hd1 ht1) fun _ =>
            .op (.enqueueDma is (.here ((oI).slice (Rect.unit off S50x256.size inb) (fun _ => rfl))) (.dma sem) hs2 hd2 ht2) k) Q := by
  rw [wp_bind]
  iintro ⟨⟨%f, Hv⟩, ⟨%g, Hi⟩, Hx, Hw, Hsem, HV, HI, HR⟩
  iapply (wp_batches d i xv wv vs is lp ok htr body hbody fx fw wt hw f g
    iprop(semVal (VT d i, SemLoc.dma sem) 0 ∗ ((oV).view.loc (VT d i) ↦[cols b]{fullShare} V0) ∗ ((oI).view.loc (VT d i) ↦[cols b]{fullShare} I0) ∗ R) ?_) $$ [Hv Hi Hx Hw Hsem HV HI HR]
  · intro f' g' hF
    iintro ⟨Hv, Hi, Hx, Hw, Hsem, HV, HI, HR⟩
    have hF' : Filled (fun c => colSort (xAt X (b + c)) wt) 256 (vs.view.read (Elt F) f') (is.view.read (Elt F) g') :=
      ⟨fun y hy => (hF.val y hy).trans (by rw [hx _ hy]), fun y hy => (hF.idx y hy).trans (by rw [hx _ hy])⟩
    iapply (wp_issue d i vs is sem inb hoff NO rfl rfl (resV X wt) (resI X wt) (fun c => colSort (xAt X (b + c)) wt)
      (fun y hy => by unfold resV; rw [Nat.add_sub_cancel' (mem_cols.mp hy).1])
      (fun y hy => by unfold resI; rw [Nat.add_sub_cancel' (mem_cols.mp hy).1]) f' g' hF' V0 I0 k
      iprop((∃ fx, held d i xv fx) ∗ held d i wv fw ∗ R) h)
    isplitl [Hsem]; · iexact Hsem
    isplitl [Hv]; · iexact Hv
    isplitl [Hi]; · iexact Hi
    isplitl [HV]; · iexact HV
    isplitl [HI]; · iexact HI
    isplitl [Hx]; · iexists fx; iexact Hx
    isplitl [Hw]; · iexact Hw
    iexact HR
  · isplitl [Hv]; · iexact Hv
    isplitl [Hi]; · iexact Hi
    isplitl [Hx]; · iexact Hx
    isplitl [Hw]; · iexact Hw
    isplitl [Hsem]; · iexact Hsem
    isplitl [HV]; · iexact HV
    isplitl [HI]; · iexact HI
    iexact HR

/-- The chunk's fetch. -/
theorem wp_fetchX (sem : DmaSem sig) {off : Fin 2 → Nat} {b : Nat} (inb : ∀ a, off a + S4x256.size a ≤ S4x131072.size a) (hoff : off = ![0, b]) (hb : b + 256 ≤ 131072)
    {hs hd ht hs' hd'} (q : PosShare TreeShare) (X : S4x131072.Idx → F .f32)
    (O : CellTallies nD τ sig (HIx 1)) (W : Waits sig (HIx 1)) (k : PUnit → TP F i PUnit) (R : PR F)
    (h : ∀ fx, (∀ c, c < 256 → xCol (xv.view.read (Elt F) fx) c = xAt X (b + c)) →
      iprop(Transfers.MayWaits (VT d i) none O ∗ Owe d i O W ∗ semVal (VT d i, SemLoc.dma sem) 0 ∗ held d i xv fx
          ∗ ((xT).view.loc (VT d i) ↦[Finset.univ]{q} X) ∗ R)
        ⊢ wp frame (wpE (defs₀ (F := F)) 𝒱₀ (VT d i) none) Set.univ (k ⟨⟩) Q) :
    iprop(Transfers.MayWaits (VT d i) none O ∗ Owe d i O W ∗ semVal (VT d i, SemLoc.dma sem) 0 ∗ (∃ fx, held d i xv fx)
        ∗ ((xT).view.loc (VT d i) ↦[Finset.univ]{q} X) ∗ R)
      ⊢ wp frame (wpE (defs₀ (F := F)) 𝒱₀ (VT d i) none) Set.univ
        (.op (.enqueueDma ((xT).slice (Rect.unit off S4x256.size inb) (fun _ => rfl)) (.here xv) (.dma sem) hs hd ht) fun _ =>
          .op (.waitDma2 sem ((xT).slice (Rect.unit off S4x256.size inb) (fun _ => rfl)) xv hs' hd') k) Q := by
  iintro ⟨Hmw, HO, Hsem, ⟨%fx, Hx⟩, HX, HR⟩
  iapply (wp_fetch d i ((xT).slice (Rect.unit off S4x256.size inb) (fun _ => rfl)) xv sem hs hd ht hs' hd' xv.view.dmaCredit rfl rfl
    (View.dmaCredit_pos _ (by decide)) Finset.univ (Finset.subset_univ _) q X fx O W k R fun fd' hr => ?_)
  · exact h fd' fun c hc => by rw [hr]; exact xCol_fetch inb hoff hb X c hc
  isplitl [Hmw]; · iexact Hmw
  isplitl [HO]; · iexact HO
  isplitl [Hsem]; · iexact Hsem
  isplitl [Hx]; · iexact Hx
  isplitl [HX]; · iexact HX
  iexact HR

/-- One half of the loop's trip: the chunk at `b` fetched, the copies of the chunk at `b₀` waited for, the batches, the copies
    to `b` started. -/
theorem wp_round (lp : Scf.Loop 32) (ok : lp.OK) (htr : lp.trips = 16) (body : Fin lp.trips → Unit → TP F i Unit)
    (hbody : ∀ (t : Fin lp.trips) (u : Unit) (h : offT t.val + 16 ≤ 256), body t u = batch i xv wv vs is (offT t.val) h)
    (semx sem : DmaSem sig) {offx offw offo : Fin 2 → Nat} (b₀ b : Nat) (hb : b + 256 ≤ 131072)
    (inbx : ∀ a, offx a + S4x256.size a ≤ S4x131072.size a) (hoffx : offx = ![0, b])
    (inbw : ∀ a, offw a + S50x256.size a ≤ S50x131072.size a)
    (inbo : ∀ a, offo a + S50x256.size a ≤ S50x131072.size a) (hoffo : offo = ![0, b])
    {hs hd ht hs' hd'} {gs1 gd1 gs2 gd2} {js1 jd1 jt1 js2 jd2 jt2}
    (q : PosShare TreeShare) (X : S4x131072.Idx → F .f32) (wt : Nat → F .f32)
    (fw : Buf (Elt F) (wv.view.loc (VT d i))) (hw : IsWt d i wv fw wt)
    (V0 : S50x131072.Idx → F .f32) (I0 : S50x131072.Idx → BitVec 32)
    (O : CellTallies nD τ sig (HIx 1)) (W : Waits sig (HIx 1)) (k : PUnit → TP F i PUnit) (R : PR F)
    (h : iprop(Transfers.MayWaits (VT d i) none O ∗ Owe d i O W ∗ semVal (VT d i, SemLoc.dma semx) 0 ∗ (∃ fx, held d i xv fx)
          ∗ ((xT).view.loc (VT d i) ↦[Finset.univ]{q} X) ∗ held d i wv fw ∗ Flying d i vs is sem NO (resV X wt) (resI X wt) b
          ∗ (((oV).view.loc (VT d i) ↦[cols b₀]{fullShare} resV X wt) ∗ ((oI).view.loc (VT d i) ↦[cols b₀]{fullShare} resI X wt)) ∗ R)
        ⊢ wp frame (wpE (defs₀ (F := F)) 𝒱₀ (VT d i) none) Set.univ (k ⟨⟩) Q) :
    iprop(Transfers.MayWaits (VT d i) none O ∗ Owe d i O W ∗ semVal (VT d i, SemLoc.dma semx) 0 ∗ (∃ fx, held d i xv fx)
        ∗ ((xT).view.loc (VT d i) ↦[Finset.univ]{q} X) ∗ held d i wv fw ∗ Flying d i vs is sem NO (resV X wt) (resI X wt) b₀
        ∗ (((oV).view.loc (VT d i) ↦[cols b]{fullShare} V0) ∗ ((oI).view.loc (VT d i) ↦[cols b]{fullShare} I0)) ∗ R)
      ⊢ wp frame (wpE (defs₀ (F := F)) 𝒱₀ (VT d i) none) Set.univ
        (.op (.enqueueDma ((xT).slice (Rect.unit offx S4x256.size inbx) (fun _ => rfl)) (.here xv) (.dma semx) hs hd ht) fun _ =>
          .op (.waitDma2 semx ((xT).slice (Rect.unit offx S4x256.size inbx) (fun _ => rfl)) xv hs' hd') fun _ =>
          .op (.waitDma2 sem vs ((oV).slice (Rect.unit offw S50x256.size inbw) (fun _ => rfl)) gs1 gd1) fun _ =>
          .op (.waitDma2 sem is ((oI).slice (Rect.unit offw S50x256.size inbw) (fun _ => rfl)) gs2 gd2) fun _ =>
          Scf.Loop.for lp ok ⟨⟩ body >>= fun _ =>
          .op (.enqueueDma vs (.here ((oV).slice (Rect.unit offo S50x256.size inbo) (fun _ => rfl))) (.dma sem) js1 jd1 jt1) fun _ =>
            .op (.enqueueDma is (.here ((oI).slice (Rect.unit offo S50x256.size inbo) (fun _ => rfl))) (.dma sem) js2 jd2 jt2) k) Q := by
  iintro ⟨Hmw, HO, Hsx, Hx, HX, Hw, HB, ⟨HV, HI⟩, HR⟩
  iapply (wp_fetchX d i xv semx inbx hoffx hb q X O W _ iprop(held d i wv fw ∗ Flying d i vs is sem NO (resV X wt) (resI X wt) b₀
      ∗ ((oV).view.loc (VT d i) ↦[cols b]{fullShare} V0) ∗ ((oI).view.loc (VT d i) ↦[cols b]{fullShare} I0) ∗ R) fun fx hx => ?_)
  · iintro ⟨Hmw, HO, Hsx, Hx, HX, Hw, HB, HV, HI, HR⟩
    iapply (wp_collect d i vs is sem inbw NO NO_pos rfl rfl (resV X wt) (resI X wt) (b := b₀) O W _
      iprop(semVal (VT d i, SemLoc.dma semx) 0 ∗ held d i xv fx ∗ ((xT).view.loc (VT d i) ↦[Finset.univ]{q} X) ∗ held d i wv fw
        ∗ ((oV).view.loc (VT d i) ↦[cols b]{fullShare} V0) ∗ ((oI).view.loc (VT d i) ↦[cols b]{fullShare} I0) ∗ R) ?_)
    · iintro ⟨Hmw, HO, Hsem, Hv, Hi, HV0, HI0, Hsx, Hx, HX, Hw, HV, HI, HR⟩
      iapply (wp_fill d i xv wv vs is lp ok htr body hbody X wt b fx hx fw hw sem inbo hoffo V0 I0 k
        iprop(Transfers.MayWaits (VT d i) none O ∗ Owe d i O W ∗ semVal (VT d i, SemLoc.dma semx) 0 ∗ ((xT).view.loc (VT d i) ↦[Finset.univ]{q} X)
          ∗ (((oV).view.loc (VT d i) ↦[cols b₀]{fullShare} resV X wt) ∗ ((oI).view.loc (VT d i) ↦[cols b₀]{fullShare} resI X wt)) ∗ R) ?_)
      · iintro ⟨HB, Hx, Hw, Hmw, HO, Hsx, HX, HD, HR⟩
        iapply h
        isplitl [Hmw]; · iexact Hmw
        isplitl [HO]; · iexact HO
        isplitl [Hsx]; · iexact Hsx
        isplitl [Hx]; · iexact Hx
        isplitl [HX]; · iexact HX
        isplitl [Hw]; · iexact Hw
        isplitl [HB]; · iexact HB
        isplitl [HD]; · iexact HD
        iexact HR
      isplitl [Hv]; · iexact Hv
      isplitl [Hi]; · iexact Hi
      isplitl [Hx]; · iexact Hx
      isplitl [Hw]; · iexact Hw
      isplitl [Hsem]; · iexact Hsem
      isplitl [HV]; · iexact HV
      isplitl [HI]; · iexact HI
      isplitl [Hmw]; · iexact Hmw
      isplitl [HO]; · iexact HO
      isplitl [Hsx]; · iexact Hsx
      isplitl [HX]; · iexact HX
      isplitl [HV0 HI0]
      · isplitl [HV0]; · iexact HV0
        iexact HI0
      iexact HR
    isplitl [Hmw]; · iexact Hmw
    isplitl [HO]; · iexact HO
    isplitl [HB]; · iexact HB
    isplitl [Hsx]; · iexact Hsx
    isplitl [Hx]; · iexact Hx
    isplitl [HX]; · iexact HX
    isplitl [Hw]; · iexact Hw
    isplitl [HV]; · iexact HV
    isplitl [HI]; · iexact HI
    iexact HR
  isplitl [Hmw]; · iexact Hmw
  isplitl [HO]; · iexact HO
  isplitl [Hsx]; · iexact Hsx
  isplitl [Hx]; · iexact Hx
  isplitl [HX]; · iexact HX
  isplitl [Hw]; · iexact Hw
  isplitl [HB]; · iexact HB
  isplitl [HV]; · iexact HV
  isplitl [HI]; · iexact HI
  iexact HR

/-- A first chunk: fetched, the batches, its copies started. -/
theorem wp_first (lp : Scf.Loop 32) (ok : lp.OK) (htr : lp.trips = 16) (body : Fin lp.trips → Unit → TP F i Unit)
    (hbody : ∀ (t : Fin lp.trips) (u : Unit) (h : offT t.val + 16 ≤ 256), body t u = batch i xv wv vs is (offT t.val) h)
    (semx sem : DmaSem sig) {offx offo : Fin 2 → Nat} (b : Nat) (hb : b + 256 ≤ 131072)
    (inbx : ∀ a, offx a + S4x256.size a ≤ S4x131072.size a) (hoffx : offx = ![0, b])
    (inbo : ∀ a, offo a + S50x256.size a ≤ S50x131072.size a) (hoffo : offo = ![0, b])
    {hs hd ht hs' hd'} {js1 jd1 jt1 js2 jd2 jt2}
    (q : PosShare TreeShare) (X : S4x131072.Idx → F .f32) (wt : Nat → F .f32)
    (fw : Buf (Elt F) (wv.view.loc (VT d i))) (hw : IsWt d i wv fw wt)
    (V0 : S50x131072.Idx → F .f32) (I0 : S50x131072.Idx → BitVec 32)
    (O : CellTallies nD τ sig (HIx 1)) (W : Waits sig (HIx 1)) (k : PUnit → TP F i PUnit) (R : PR F)
    (h : iprop(Transfers.MayWaits (VT d i) none O ∗ Owe d i O W ∗ semVal (VT d i, SemLoc.dma semx) 0 ∗ (∃ fx, held d i xv fx)
          ∗ ((xT).view.loc (VT d i) ↦[Finset.univ]{q} X) ∗ held d i wv fw ∗ Flying d i vs is sem NO (resV X wt) (resI X wt) b ∗ R)
        ⊢ wp frame (wpE (defs₀ (F := F)) 𝒱₀ (VT d i) none) Set.univ (k ⟨⟩) Q) :
    iprop(Transfers.MayWaits (VT d i) none O ∗ Owe d i O W ∗ semVal (VT d i, SemLoc.dma semx) 0 ∗ (∃ fx, held d i xv fx)
        ∗ ((xT).view.loc (VT d i) ↦[Finset.univ]{q} X) ∗ held d i wv fw ∗ (∃ f, held d i vs f) ∗ (∃ g, held d i is g)
        ∗ semVal (VT d i, SemLoc.dma sem) 0
        ∗ (((oV).view.loc (VT d i) ↦[cols b]{fullShare} V0) ∗ ((oI).view.loc (VT d i) ↦[cols b]{fullShare} I0)) ∗ R)
      ⊢ wp frame (wpE (defs₀ (F := F)) 𝒱₀ (VT d i) none) Set.univ
        (.op (.enqueueDma ((xT).slice (Rect.unit offx S4x256.size inbx) (fun _ => rfl)) (.here xv) (.dma semx) hs hd ht) fun _ =>
          .op (.waitDma2 semx ((xT).slice (Rect.unit offx S4x256.size inbx) (fun _ => rfl)) xv hs' hd') fun _ =>
          Scf.Loop.for lp ok ⟨⟩ body >>= fun _ =>
          .op (.enqueueDma vs (.here ((oV).slice (Rect.unit offo S50x256.size inbo) (fun _ => rfl))) (.dma sem) js1 jd1 jt1) fun _ =>
            .op (.enqueueDma is (.here ((oI).slice (Rect.unit offo S50x256.size inbo) (fun _ => rfl))) (.dma sem) js2 jd2 jt2) k) Q := by
  iintro ⟨Hmw, HO, Hsx, Hx, HX, Hw, Hv, Hi, Hsem, ⟨HV, HI⟩, HR⟩
  iapply (wp_fetchX d i xv semx inbx hoffx hb q X O W _ iprop(held d i wv fw ∗ (∃ f, held d i vs f) ∗ (∃ g, held d i is g)
      ∗ semVal (VT d i, SemLoc.dma sem) 0
      ∗ ((oV).view.loc (VT d i) ↦[cols b]{fullShare} V0) ∗ ((oI).view.loc (VT d i) ↦[cols b]{fullShare} I0) ∗ R) fun fx hx => ?_)
  · iintro ⟨Hmw, HO, Hsx, Hx, HX, Hw, Hv, Hi, Hsem, HV, HI, HR⟩
    iapply (wp_fill d i xv wv vs is lp ok htr body hbody X wt b fx hx fw hw sem inbo hoffo V0 I0 k
      iprop(Transfers.MayWaits (VT d i) none O ∗ Owe d i O W ∗ semVal (VT d i, SemLoc.dma semx) 0 ∗ ((xT).view.loc (VT d i) ↦[Finset.univ]{q} X)
        ∗ R) ?_)
    · iintro ⟨HB, Hx, Hw, Hmw, HO, Hsx, HX, HR⟩
      iapply h
      isplitl [Hmw]; · iexact Hmw
      isplitl [HO]; · iexact HO
      isplitl [Hsx]; · iexact Hsx
      isplitl [Hx]; · iexact Hx
      isplitl [HX]; · iexact HX
      isplitl [Hw]; · iexact Hw
      isplitl [HB]; · iexact HB
      iexact HR
    isplitl [Hv]; · iexact Hv
    isplitl [Hi]; · iexact Hi
    isplitl [Hx]; · iexact Hx
    isplitl [Hw]; · iexact Hw
    isplitl [Hsem]; · iexact Hsem
    isplitl [HV]; · iexact HV
    isplitl [HI]; · iexact HI
    isplitl [Hmw]; · iexact Hmw
    isplitl [HO]; · iexact HO
    isplitl [Hsx]; · iexact Hsx
    isplitl [HX]; · iexact HX
    iexact HR
  isplitl [Hmw]; · iexact Hmw
  isplitl [HO]; · iexact HO
  isplitl [Hsx]; · iexact Hsx
  isplitl [Hx]; · iexact Hx
  isplitl [HX]; · iexact HX
  isplitl [Hw]; · iexact Hw
  isplitl [Hv]; · iexact Hv
  isplitl [Hi]; · iexact Hi
  isplitl [Hsem]; · iexact Hsem
  isplitl [HV]; · iexact HV
  isplitl [HI]; · iexact HI
  iexact HR

/-- The weights' fetch. -/
theorem wp_weights (sem : DmaSem sig) {hs hd ht hs' hd'} (q : PosShare TreeShare) (Wb : S256x16.Idx → F .f32) (wt : Nat → F .f32)
    (hWb : ∀ (k : Fin 256) (l : Fin 16), Wb (ix2 k l) = wt k.val)
    (O : CellTallies nD τ sig (HIx 1)) (W : Waits sig (HIx 1)) (k : PUnit → TP F i PUnit) (R : PR F)
    (h : ∀ fw, IsWt d i wv fw wt →
      iprop(Transfers.MayWaits (VT d i) none O ∗ Owe d i O W ∗ semVal (VT d i, SemLoc.dma sem) 0 ∗ held d i wv fw
          ∗ ((wT).view.loc (VT d i) ↦[Finset.univ]{q} Wb) ∗ R)
        ⊢ wp frame (wpE (defs₀ (F := F)) 𝒱₀ (VT d i) none) Set.univ (k ⟨⟩) Q) :
    iprop(Transfers.MayWaits (VT d i) none O ∗ Owe d i O W ∗ semVal (VT d i, SemLoc.dma sem) 0 ∗ (∃ fw, held d i wv fw)
        ∗ ((wT).view.loc (VT d i) ↦[Finset.univ]{q} Wb) ∗ R)
      ⊢ wp frame (wpE (defs₀ (F := F)) 𝒱₀ (VT d i) none) Set.univ
        (.op (.enqueueDma wT (.here wv) (.dma sem) hs hd ht) fun _ => .op (.waitDma2 sem wT wv hs' hd') k) Q := by
  iintro ⟨Hmw, HO, Hsem, ⟨%fw, Hw⟩, HW, HR⟩
  iapply (wp_fetch d i wT wv sem hs hd ht hs' hd' wv.view.dmaCredit rfl rfl (View.dmaCredit_pos _ (by decide)) Finset.univ (Finset.subset_univ _)
    q Wb fw O W k R fun fw' hr => h fw' fun k l => by rw [hr]; exact hWb k l)
  isplitl [Hmw]; · iexact Hmw
  isplitl [HO]; · iexact HO
  isplitl [Hsem]; · iexact Hsem
  isplitl [Hw]; · iexact Hw
  isplitl [HW]; · iexact HW
  iexact HR

end Round

/-! ## The subcore's columns, chunk by chunk -/

/-- The subcore's first column. -/
abbrev base : Nat := 8192 * (i 1).val + 4096 * (i 0).val

theorem base_le : base i + 4096 ≤ 131072 := by
  have h0 : (i 0).val < 2 := (i 0).isLt
  have h1 : (i 1).val < 16 := (i 1).isLt
  unfold base; omega

/-- Chunk `r` of the two results. -/
def chunkP (V : S50x131072.Idx → F .f32) (I : S50x131072.Idx → BitVec 32) (r : Nat) : PR F :=
  iprop(((oV).view.loc (VT d i) ↦[cols (base i + 256 * r)]{fullShare} V) ∗ ((oI).view.loc (VT d i) ↦[cols (base i + 256 * r)]{fullShare} I))

/-- The chunks from `n` on, and those below `n`. -/
def chunksFrom (V : S50x131072.Idx → F .f32) (I : S50x131072.Idx → BitVec 32) (n : Nat) : PR F :=
  bigSep (Finset.univ.filter fun r : Fin 16 => n ≤ r.val) fun r => chunkP d i V I r.val
def chunksTo (V : S50x131072.Idx → F .f32) (I : S50x131072.Idx → BitVec 32) (n : Nat) : PR F :=
  bigSep (Finset.univ.filter fun r : Fin 16 => r.val < n) fun r => chunkP d i V I r.val

theorem chunksFrom_succ (V : S50x131072.Idx → F .f32) (I : S50x131072.Idx → BitVec 32) (n : Nat) (hn : n < 16) :
    chunksFrom d i V I n = iprop(chunkP d i V I n ∗ chunksFrom d i V I (n + 1)) := by
  unfold chunksFrom
  rw [show (Finset.univ.filter fun r : Fin 16 => n ≤ r.val) = insert ⟨n, hn⟩ (Finset.univ.filter fun r : Fin 16 => n + 1 ≤ r.val) by
      ext r; simp only [Finset.mem_filter, Finset.mem_univ, true_and, Finset.mem_insert, Fin.ext_iff]; omega,
    SparseCore.bigSep_insert' (by simp)]

theorem chunksTo_succ (V : S50x131072.Idx → F .f32) (I : S50x131072.Idx → BitVec 32) (n : Nat) (hn : n < 16) :
    chunksTo d i V I (n + 1) = iprop(chunkP d i V I n ∗ chunksTo d i V I n) := by
  unfold chunksTo
  rw [show (Finset.univ.filter fun r : Fin 16 => r.val < n + 1) = insert ⟨n, hn⟩ (Finset.univ.filter fun r : Fin 16 => r.val < n) by
      ext r; simp only [Finset.mem_filter, Finset.mem_univ, true_and, Finset.mem_insert, Fin.ext_iff]; omega,
    SparseCore.bigSep_insert' (by simp)]

theorem chunksTo_zero (V : S50x131072.Idx → F .f32) (I : S50x131072.Idx → BitVec 32) : chunksTo d i V I 0 = iprop(emp) := by
  unfold chunksTo
  rw [show (Finset.univ.filter fun r : Fin 16 => r.val < 0) = ∅ by ext r; simp, bigSep_empty]; rfl

theorem chunksFrom_end (V : S50x131072.Idx → F .f32) (I : S50x131072.Idx → BitVec 32) : chunksFrom d i V I 16 = iprop(emp) := by
  unfold chunksFrom
  rw [show (Finset.univ.filter fun r : Fin 16 => 16 ≤ r.val) = ∅ by ext r; simp, bigSep_empty]; rfl

end Cert.Proof

end
-- ==== Proof.TileRun.lean ====
/-
  The subcore's whole task: the weights and two chunks, seven trips of two chunks each, the last two chunks' copies waited
  for. The batches' regions enter as equations with the batch program.
-/
module

public import proofs.«01_k».proof.Proof.Tile

@[expose] public section

noncomputable section

namespace Cert.Proof

open Cert.Kernel
open Idealize.ShloMosaic Idealize.ShloMosaic.ValueIdx
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx)
open Cert.Kernel.Facts₀ Cert.Kernel.Facts

attribute [local irreducible] plan feats outs

variable {F : FTy → Type} [BitOps F]
variable (d : Dev nD) (i : grid0.Coords)
variable (h2 : (xT).IsWhole) (h3 : (wT).IsWhole) (h4 : (oV).IsWhole) (h5 : (oI).IsWhole)
variable (xv : Memref sig .scVector .vmem S4x256 .f32) (h6 : xv.IsWhole) (wv : Memref sig .scVector .vmem S256x16 .f32) (h7 : wv.IsWhole)
variable (av : Memref sig .scVector .vmem S50x256 .f32) (h8 : av.IsWhole) (ai : Memref sig .scVector .vmem S50x256 .i32) (h9 : ai.IsWhole)
variable (bv : Memref sig .scVector .vmem S50x256 .f32) (h10 : bv.IsWhole) (bi : Memref sig .scVector .vmem S50x256 .i32) (h11 : bi.IsWhole)
variable (sa sb r0 r1 r2 r3 r4 : DmaSems sig S_)

/-- The regions of the even and odd chunks' loops are batches. -/
def Bodies45 : Prop :=
  (∀ (v2 c c' : BitVec 32) (t3 : Fin k0_t3_loop.trips) (t : Fin k0_t4_loop.trips) (u : Unit) (h : offT t.val + 16 ≤ 256),
    Cert.Kernel.Gen.k0_t4_body (F := F) i xT h2 wT h3 oV h4 oI h5 xv h6 wv h7 av h8 ai h9 bv h10 bi h11 sa sb r0 r1 r2 r3 r4 v2 c c' t3 t u
      = batch i xv wv av ai (offT t.val) h)
  ∧ ∀ (t : Fin k0_t5_loop.trips) (u : Unit) (h : offT t.val + 16 ≤ 256),
    Cert.Kernel.Gen.k0_t5_body (F := F) i xT h2 wT h3 oV h4 oI h5 xv h6 wv h7 av h8 ai h9 bv h10 bi h11 sa sb r0 r1 r2 r3 r4 t u
      = batch i xv wv bv bi (offT t.val) h

/-- Between two trips: the chunks written, the two in flight, those to come. -/
def Between (q : PosShare TreeShare) (X : S4x131072.Idx → F .f32) (wt : Nat → F .f32) (fw : Buf (Elt F) (wv.view.loc (VT d i)))
    (V0 : S50x131072.Idx → F .f32) (I0 : S50x131072.Idx → BitVec 32) (O : CellTallies nD τ sig (HIx 1)) (W : Waits sig (HIx 1)) (t : Nat) : PR F :=
  iprop(Transfers.MayWaits (VT d i) none O ∗ Owe d i O W ∗ semVal (VT d i, SemLoc.dma r3.sem) 0 ∗ semVal (VT d i, SemLoc.dma r4.sem) 0
    ∗ (∃ fx, held d i xv fx) ∗ ((xT).view.loc (VT d i) ↦[Finset.univ]{q} X) ∗ held d i wv fw
    ∗ Flying d i av ai sa.sem NO (resV X wt) (resI X wt) (base i + 256 * (2 * t))
    ∗ Flying d i bv bi sb.sem NO (resV X wt) (resI X wt) (base i + 256 * (2 * t + 1))
    ∗ chunksTo d i (resV X wt) (resI X wt) (2 * t) ∗ chunksFrom d i V0 I0 (2 * t + 2))

theorem trips4 : k0_t4_loop.trips = 16 := by decide +kernel
theorem trips5 : k0_t5_loop.trips = 16 := by decide +kernel
theorem trips1 : k0_t1_loop.trips = 16 := by decide +kernel
theorem trips2 : k0_t2_loop.trips = 16 := by decide +kernel
theorem trips3 : k0_t3_loop.trips = 7 := by decide +kernel

/-- One trip. -/
theorem wp_trip (hB : Bodies45 (F := F) i h2 h3 h4 h5 xv h6 wv h7 av h8 ai h9 bv h10 bi h11 sa sb r0 r1 r2 r3 r4)
    (q : PosShare TreeShare) (X : S4x131072.Idx → F .f32) (wt : Nat → F .f32) (fw : Buf (Elt F) (wv.view.loc (VT d i))) (hw : IsWt d i wv fw wt)
    (V0 : S50x131072.Idx → F .f32) (I0 : S50x131072.Idx → BitVec 32) (O : CellTallies nD τ sig (HIx 1)) (W : Waits sig (HIx 1))
    (v2 : BitVec 32) (t : Fin k0_t3_loop.trips) :
    Between d i xv wv av ai bv bi sa sb r3 r4 q X wt fw V0 I0 O W t.val
      ⊢ wp frame (wpE (defs₀ (F := F)) 𝒱₀ (VT d i) none) Set.univ
        (Cert.Kernel.Gen.k0_t3_body (F := F) i xT h2 wT h3 oV h4 oI h5 xv h6 wv h7 av h8 ai h9 bv h10 bi h11 sa sb r0 r1 r2 r3 r4 v2 t ⟨⟩)
        (fun _ => Between d i xv wv av ai bv bi sa sb r3 r4 q X wt fw V0 I0 O W (t.val + 1)) := by
  have ht : t.val < 7 := by have h := t.isLt; have h' := trips3; omega
  have hbs := base_le i
  unfold Cert.Kernel.Gen.k0_t3_body
  rw [Cert.Kernel.Gen.k0_part373_eq_skeleton]
  unfold Cert.Kernel.Gen.k0_part373_skel
  simp only [bind_assoc, pure_bind]
  unfold Between
  rw [show 2 * (t.val + 1) = 2 * t.val + 2 from by omega, chunksFrom_succ d i V0 I0 (2 * t.val + 2) (by omega),
    chunksFrom_succ d i V0 I0 (2 * t.val + 3) (by omega), chunksTo_succ d i (resV X wt) (resI X wt) (2 * t.val + 1) (by omega),
    chunksTo_succ d i (resV X wt) (resI X wt) (2 * t.val) (by omega)]
  unfold chunkP
  iintro ⟨Hmw, HO, H3, H4, Hx, HX, Hw, HA, HB, HT, Hc2, Hc3, HF⟩
  iapply (wp_round d i xv wv av ai k0_t4_loop k0_t4_ok trips4 _ (fun t' u h => hB.1 _ _ _ _ t' u h) r3.sem sa.sem
    (base i + 256 * (2 * t.val)) (base i + 256 * (2 * t.val + 2)) (by omega) _ (by rw [Cert.Kernel.Gen.k0_off111_eq]; congr 2; unfold base; omega)
    _ _ (by rw [Cert.Kernel.Gen.k0_off112_eq]; congr 2; unfold base; omega)
    q X wt fw hw V0 I0 O W _
    iprop(semVal (VT d i, SemLoc.dma r4.sem) 0 ∗ Flying d i bv bi sb.sem NO (resV X wt) (resI X wt) (base i + 256 * (2 * t.val + 1))
      ∗ chunksTo d i (resV X wt) (resI X wt) (2 * t.val)
      ∗ (((oV).view.loc (VT d i) ↦[cols (base i + 256 * (2 * t.val + 3))]{fullShare} V0) ∗ ((oI).view.loc (VT d i) ↦[cols (base i + 256 * (2 * t.val + 3))]{fullShare} I0))
      ∗ chunksFrom d i V0 I0 (2 * t.val + 3 + 1)) ?_)
  · iintro ⟨Hmw, HO, H3, Hx, HX, Hw, HA, HD, H4, HB, HT, Hc3, HF⟩
    iapply (wp_round d i xv wv bv bi k0_t5_loop k0_t5_ok trips5 _ (fun t' u h => hB.2 t' u h) r4.sem sb.sem
      (base i + 256 * (2 * t.val + 1)) (base i + 256 * (2 * t.val + 3)) (by omega) _ (by rw [Cert.Kernel.Gen.k0_off167_eq]; congr 2; unfold base; omega)
      _ _ (by rw [Cert.Kernel.Gen.k0_off168_eq]; congr 2; unfold base; omega)
      q X wt fw hw V0 I0 O W _
      iprop(semVal (VT d i, SemLoc.dma r3.sem) 0 ∗ Flying d i av ai sa.sem NO (resV X wt) (resI X wt) (base i + 256 * (2 * t.val + 2))
        ∗ chunksTo d i (resV X wt) (resI X wt) (2 * t.val)
        ∗ (((oV).view.loc (VT d i) ↦[cols (base i + 256 * (2 * t.val))]{fullShare} resV X wt) ∗ ((oI).view.loc (VT d i) ↦[cols (base i + 256 * (2 * t.val))]{fullShare} resI X wt))
        ∗ chunksFrom d i V0 I0 (2 * t.val + 3 + 1)) ?_)
    · iintro ⟨Hmw, HO, H4, Hx, HX, Hw, HB, HD1, H3, HA, HT, HD, HF⟩
      iapply (le_wp_ret _ _ _ _ _)
      isplitl [Hmw]; · iexact Hmw
      isplitl [HO]; · iexact HO
      isplitl [H3]; · iexact H3
      isplitl [H4]; · iexact H4
      isplitl [Hx]; · iexact Hx
      isplitl [HX]; · iexact HX
      isplitl [Hw]; · iexact Hw
      isplitl [HA]; · iexact HA
      isplitl [HB]; · iexact HB
      isplitl [HD HD1 HT]
      · isplitl [HD1]; · iexact HD1
        isplitl [HD]; · iexact HD
        iexact HT
      iexact HF
    isplitl [Hmw]; · iexact Hmw
    isplitl [HO]; · iexact HO
    isplitl [H4]; · iexact H4
    isplitl [Hx]; · iexact Hx
    isplitl [HX]; · iexact HX
    isplitl [Hw]; · iexact Hw
    isplitl [HB]; · iexact HB
    isplitl [Hc3]; · iexact Hc3
    isplitl [H3]; · iexact H3
    isplitl [HA]; · iexact HA
    isplitl [HT]; · iexact HT
    isplitl [HD]; · iexact HD
    iexact HF
  isplitl [Hmw]; · iexact Hmw
  isplitl [HO]; · iexact HO
  isplitl [H3]; · iexact H3
  isplitl [Hx]; · iexact Hx
  isplitl [HX]; · iexact HX
  isplitl [Hw]; · iexact Hw
  isplitl [HA]; · iexact HA
  isplitl [Hc2]; · iexact Hc2
  isplitl [H4]; · iexact H4
  isplitl [HB]; · iexact HB
  isplitl [HT]; · iexact HT
  isplitl [Hc3]; · iexact Hc3
  iexact HF

/-- The regions of the first two chunks' loops are batches. -/
def Bodies12 : Prop :=
  (∀ (t : Fin k0_t1_loop.trips) (u : Unit) (h : offT t.val + 16 ≤ 256),
    Cert.Kernel.Gen.k0_t1_body (F := F) i xT h2 wT h3 oV h4 oI h5 xv h6 wv h7 av h8 ai h9 bv h10 bi h11 sa sb r0 r1 r2 r3 r4 t u
      = batch i xv wv av ai (offT t.val) h)
  ∧ ∀ (t : Fin k0_t2_loop.trips) (u : Unit) (h : offT t.val + 16 ≤ 256),
    Cert.Kernel.Gen.k0_t2_body (F := F) i xT h2 wT h3 oV h4 oI h5 xv h6 wv h7 av h8 ai h9 bv h10 bi h11 sa sb r0 r1 r2 r3 r4 t u
      = batch i xv wv bv bi (offT t.val) h

/-- What a subcore holds over its task besides the results: its buffers, its semaphores at zero. -/
def Idle : PR F :=
  iprop((∃ f, held d i xv f) ∗ (∃ f, held d i wv f) ∗ (∃ f, held d i av f) ∗ (∃ f, held d i ai f) ∗ (∃ f, held d i bv f) ∗ (∃ f, held d i bi f)
    ∗ semVal (VT d i, SemLoc.dma sa.sem) 0 ∗ semVal (VT d i, SemLoc.dma sb.sem) 0 ∗ semVal (VT d i, SemLoc.dma r0.sem) 0
    ∗ semVal (VT d i, SemLoc.dma r1.sem) 0 ∗ semVal (VT d i, SemLoc.dma r2.sem) 0 ∗ semVal (VT d i, SemLoc.dma r3.sem) 0
    ∗ semVal (VT d i, SemLoc.dma r4.sem) 0)

/-- The trips, and the last two chunks' copies waited for. -/
theorem wp_trips (hB : Bodies45 (F := F) i h2 h3 h4 h5 xv h6 wv h7 av h8 ai h9 bv h10 bi h11 sa sb r0 r1 r2 r3 r4)
    (q : PosShare TreeShare) (X : S4x131072.Idx → F .f32) (wt : Nat → F .f32) (fw : Buf (Elt F) (wv.view.loc (VT d i))) (hw : IsWt d i wv fw wt)
    (V0 : S50x131072.Idx → F .f32) (I0 : S50x131072.Idx → BitVec 32) (O : CellTallies nD τ sig (HIx 1)) (W : Waits sig (HIx 1))
    (v2 : BitVec 32) {Q : PUnit → PR F} (R : PR F)
    {off : Fin 2 → Nat} (inb : ∀ a, off a + S50x256.size a ≤ S50x131072.size a) {g1 g2 g3 g4 g5 g6 g7 g8}
    (h : iprop(Owe d i O W ∗ semVal (VT d i, SemLoc.dma r3.sem) 0 ∗ semVal (VT d i, SemLoc.dma r4.sem) 0
        ∗ semVal (VT d i, SemLoc.dma sa.sem) 0 ∗ semVal (VT d i, SemLoc.dma sb.sem) 0
        ∗ (∃ fx, held d i xv fx) ∗ ((xT).view.loc (VT d i) ↦[Finset.univ]{q} X) ∗ held d i wv fw
        ∗ (∃ f, held d i av f) ∗ (∃ f, held d i ai f) ∗ (∃ f, held d i bv f) ∗ (∃ f, held d i bi f)
        ∗ chunksTo d i (resV X wt) (resI X wt) 16 ∗ R) ⊢ Q ⟨⟩) :
    iprop(Between d i xv wv av ai bv bi sa sb r3 r4 q X wt fw V0 I0 O W 0 ∗ R)
      ⊢ wp frame (wpE (defs₀ (F := F)) 𝒱₀ (VT d i) none) Set.univ
        (Scf.Loop.for k0_t3_loop k0_t3_ok ⟨⟩ (Cert.Kernel.Gen.k0_t3_body (F := F) i xT h2 wT h3 oV h4 oI h5 xv h6 wv h7 av h8 ai h9 bv h10 bi h11 sa sb r0 r1 r2 r3 r4 v2)
          >>= fun _ =>
          .op (.waitDma2 sa.sem av ((oV).slice (Rect.unit off S50x256.size inb) (fun _ => rfl)) g1 g2) fun _ =>
          .op (.waitDma2 sa.sem ai ((oI).slice (Rect.unit off S50x256.size inb) (fun _ => rfl)) g3 g4) fun _ =>
          .op (.waitDma2 sb.sem bv ((oV).slice (Rect.unit off S50x256.size inb) (fun _ => rfl)) g5 g6) fun _ =>
          .op (.waitDma2 sb.sem bi ((oI).slice (Rect.unit off S50x256.size inb) (fun _ => rfl)) g7 g8) fun _ => .ret ⟨⟩) Q := by
  rw [wp_bind]
  refine BIBase.Entails.trans ?_ (Scf.wp_for frame (wpE (defs₀ (F := F)) 𝒱₀ (VT d i) none) Set.univ k0_t3_loop.lb k0_t3_loop.ub k0_t3_loop.st k0_t3_ok PUnit.unit _
    (fun n _ => iprop(Between d i xv wv av ai bv bi sa sb r3 r4 q X wt fw V0 I0 O W n ∗ R)) (fun t u => ?_))
  · iintro H
    isplitl [H]; · iexact H
    iintro %u HJ
    rw [show Scf.trips k0_t3_loop.lb k0_t3_loop.ub k0_t3_loop.st = 7 from trips3]
    unfold Between
    icases HJ with ⟨⟨Hmw, HO, H3, H4, Hx, HX, Hw, HA, HB, HT, HF⟩, HR⟩
    iapply (wp_collect d i av ai sa.sem inb NO NO_pos rfl rfl (resV X wt) (resI X wt) (b := base i + 256 * (2 * 7)) O W _
      iprop(semVal (VT d i, SemLoc.dma r3.sem) 0 ∗ semVal (VT d i, SemLoc.dma r4.sem) 0 ∗ (∃ fx, held d i xv fx)
        ∗ ((xT).view.loc (VT d i) ↦[Finset.univ]{q} X) ∗ held d i wv fw
        ∗ Flying d i bv bi sb.sem NO (resV X wt) (resI X wt) (base i + 256 * (2 * 7 + 1)) ∗ chunksTo d i (resV X wt) (resI X wt) (2 * 7)
        ∗ chunksFrom d i V0 I0 (2 * 7 + 2) ∗ R) ?_)
    · iintro ⟨Hmw, HO, Hsa, Hav, Hai, HV0, HI0, H3, H4, Hx, HX, Hw, HB, HT, HF, HR⟩
      iapply (wp_collect d i bv bi sb.sem inb NO NO_pos rfl rfl (resV X wt) (resI X wt) (b := base i + 256 * (2 * 7 + 1)) O W _
        iprop(semVal (VT d i, SemLoc.dma r3.sem) 0 ∗ semVal (VT d i, SemLoc.dma r4.sem) 0 ∗ (∃ fx, held d i xv fx)
          ∗ ((xT).view.loc (VT d i) ↦[Finset.univ]{q} X) ∗ held d i wv fw
          ∗ semVal (VT d i, SemLoc.dma sa.sem) 0 ∗ (∃ f, held d i av f) ∗ (∃ f, held d i ai f)
          ∗ ((oV).view.loc (VT d i) ↦[cols (base i + 256 * (2 * 7))]{fullShare} resV X wt)
          ∗ ((oI).view.loc (VT d i) ↦[cols (base i + 256 * (2 * 7))]{fullShare} resI X wt) ∗ chunksTo d i (resV X wt) (resI X wt) (2 * 7)
          ∗ chunksFrom d i V0 I0 (2 * 7 + 2) ∗ R) ?_)
      · iintro ⟨Hmw, HO, Hsb, Hbv, Hbi, HV1, HI1, H3, H4, Hx, HX, Hw, Hsa, Hav, Hai, HV0, HI0, HT, HF, HR⟩
        iapply (le_wp_ret _ _ _ _ _)
        iapply h
        isplitl [HO]; · iexact HO
        isplitl [H3]; · iexact H3
        isplitl [H4]; · iexact H4
        isplitl [Hsa]; · iexact Hsa
        isplitl [Hsb]; · iexact Hsb
        isplitl [Hx]; · iexact Hx
        isplitl [HX]; · iexact HX
        isplitl [Hw]; · iexact Hw
        isplitl [Hav]; · iexact Hav
        isplitl [Hai]; · iexact Hai
        isplitl [Hbv]; · iexact Hbv
        isplitl [Hbi]; · iexact Hbi
        isplitr [HR]
        · rw [chunksTo_succ d i (resV X wt) (resI X wt) 15 (by decide), chunksTo_succ d i (resV X wt) (resI X wt) 14 (by decide)]
          unfold chunkP
          isplitl [HV1 HI1]
          · isplitl [HV1]; · iexact HV1
            iexact HI1
          isplitl [HV0 HI0]
          · isplitl [HV0]; · iexact HV0
            iexact HI0
          iexact HT
        iexact HR
      isplitl [Hmw]; · iexact Hmw
      isplitl [HO]; · iexact HO
      isplitl [HB]; · iexact HB
      isplitl [H3]; · iexact H3
      isplitl [H4]; · iexact H4
      isplitl [Hx]; · iexact Hx
      isplitl [HX]; · iexact HX
      isplitl [Hw]; · iexact Hw
      isplitl [Hsa]; · iexact Hsa
      isplitl [Hav]; · iexact Hav
      isplitl [Hai]; · iexact Hai
      isplitl [HV0]; · iexact HV0
      isplitl [HI0]; · iexact HI0
      isplitl [HT]; · iexact HT
      isplitl [HF]; · iexact HF
      iexact HR
    isplitl [Hmw]; · iexact Hmw
    isplitl [HO]; · iexact HO
    isplitl [HA]; · iexact HA
    isplitl [H3]; · iexact H3
    isplitl [H4]; · iexact H4
    isplitl [Hx]; · iexact Hx
    isplitl [HX]; · iexact HX
    isplitl [Hw]; · iexact Hw
    isplitl [HB]; · iexact HB
    isplitl [HT]; · iexact HT
    isplitl [HF]; · iexact HF
    iexact HR
  · refine (sep_mono_left (wp_trip d i h2 h3 h4 h5 xv h6 wv h7 av h8 ai h9 bv h10 bi h11 sa sb r0 r1 r2 r3 r4 hB q X wt fw hw V0 I0 O W v2 t)).trans ?_
    exact wp_frame_r _ _ _

/-- The task. -/
theorem wp_task (hA : Bodies12 (F := F) i h2 h3 h4 h5 xv h6 wv h7 av h8 ai h9 bv h10 bi h11 sa sb r0 r1 r2 r3 r4)
    (hB : Bodies45 (F := F) i h2 h3 h4 h5 xv h6 wv h7 av h8 ai h9 bv h10 bi h11 sa sb r0 r1 r2 r3 r4)
    (q : PosShare TreeShare) (X : S4x131072.Idx → F .f32) (Wb : S256x16.Idx → F .f32) (wt : Nat → F .f32)
    (hWb : ∀ (k : Fin 256) (l : Fin 16), Wb (ix2 k l) = wt k.val)
    (V0 : S50x131072.Idx → F .f32) (I0 : S50x131072.Idx → BitVec 32) (O : CellTallies nD τ sig (HIx 1)) (W : Waits sig (HIx 1)) :
    iprop(Transfers.MayWaits (VT d i) none O ∗ Owe d i O W ∗ Idle d i xv wv av ai bv bi sa sb r0 r1 r2 r3 r4
        ∗ ((xT).view.loc (VT d i) ↦[Finset.univ]{q} X) ∗ ((wT).view.loc (VT d i) ↦[Finset.univ]{q} Wb) ∗ chunksFrom d i V0 I0 0)
      ⊢ wp frame (wpE (defs₀ (F := F)) 𝒱₀ (VT d i) none) Set.univ
        (Cert.Kernel.cc0__sc_topk (F := F) i xT h2 wT h3 oV h4 oI h5 xv h6 wv h7 av h8 ai h9 bv h10 bi h11 sa sb r0 r1 r2 r3 r4)
        (fun _ => iprop(Owe d i O W ∗ Idle d i xv wv av ai bv bi sa sb r0 r1 r2 r3 r4
          ∗ ((xT).view.loc (VT d i) ↦[Finset.univ]{q} X) ∗ ((wT).view.loc (VT d i) ↦[Finset.univ]{q} Wb) ∗ chunksTo d i (resV X wt) (resI X wt) 16)) := by
  have hbs := base_le i
  rw [Cert.Kernel.Gen.cc0__sc_topk_eq_skeleton]
  unfold Cert.Kernel.Gen.cc0__sc_topk_skel
  rw [Cert.Kernel.Gen.k0_part374_eq_skeleton]
  unfold Cert.Kernel.Gen.k0_part374_skel
  simp only [bind_assoc, pure_bind]
  rw [chunksFrom_succ d i V0 I0 0 (by decide), chunksFrom_succ d i V0 I0 1 (by decide)]
  unfold chunkP
  unfold Idle
  iintro ⟨Hmw, HO, ⟨Hx, Hw, Hav, Hai, Hbv, Hbi, Ha, Hb, H0, H1, H2, H3, H4⟩, HX, HW, Hc0, Hc1, HF⟩
  iapply (wp_weights d i wv r0.sem q Wb wt hWb O W _
    iprop((∃ f, held d i xv f) ∗ (∃ f, held d i av f) ∗ (∃ f, held d i ai f) ∗ (∃ f, held d i bv f) ∗ (∃ f, held d i bi f)
      ∗ semVal (VT d i, SemLoc.dma sa.sem) 0 ∗ semVal (VT d i, SemLoc.dma sb.sem) 0
      ∗ semVal (VT d i, SemLoc.dma r1.sem) 0 ∗ semVal (VT d i, SemLoc.dma r2.sem) 0 ∗ semVal (VT d i, SemLoc.dma r3.sem) 0
      ∗ semVal (VT d i, SemLoc.dma r4.sem) 0 ∗ ((xT).view.loc (VT d i) ↦[Finset.univ]{q} X)
      ∗ (((oV).view.loc (VT d i) ↦[cols (base i + 256 * 0)]{fullShare} V0) ∗ ((oI).view.loc (VT d i) ↦[cols (base i + 256 * 0)]{fullShare} I0))
      ∗ (((oV).view.loc (VT d i) ↦[cols (base i + 256 * 1)]{fullShare} V0) ∗ ((oI).view.loc (VT d i) ↦[cols (base i + 256 * 1)]{fullShare} I0))
      ∗ chunksFrom d i V0 I0 2) fun fw hw => ?_)
  · iintro ⟨Hmw, HO, H0, Hw, HW, Hx, Hav, Hai, Hbv, Hbi, Ha, Hb, H1, H2, H3, H4, HX, Hc0, Hc1, HF⟩
    iapply (wp_first d i xv wv av ai k0_t1_loop k0_t1_ok trips1 _ hA.1 r1.sem sa.sem (base i + 256 * 0) (by omega) _
      (by rw [show (0#32 : BitVec 32) = BitVec.ofNat 32 (256 * (0 : Fin 2).val) from rfl, Cert.Kernel.Gen.k0_off1_eq]; congr 2)
      _ (by rw [show (0#32 : BitVec 32) = BitVec.ofNat 32 (256 * (0 : Fin 2).val) from rfl, Cert.Kernel.Gen.k0_off56_eq]; congr 2)
      q X wt fw hw V0 I0 O W _
      iprop((∃ f, held d i bv f) ∗ (∃ f, held d i bi f) ∗ semVal (VT d i, SemLoc.dma sb.sem) 0 ∗ semVal (VT d i, SemLoc.dma r0.sem) 0
        ∗ semVal (VT d i, SemLoc.dma r2.sem) 0 ∗ semVal (VT d i, SemLoc.dma r3.sem) 0
        ∗ semVal (VT d i, SemLoc.dma r4.sem) 0 ∗ ((wT).view.loc (VT d i) ↦[Finset.univ]{q} Wb)
        ∗ (((oV).view.loc (VT d i) ↦[cols (base i + 256 * 1)]{fullShare} V0) ∗ ((oI).view.loc (VT d i) ↦[cols (base i + 256 * 1)]{fullShare} I0))
        ∗ chunksFrom d i V0 I0 2) ?_)
    · iintro ⟨Hmw, HO, H1, Hx, HX, Hw, HA, Hbv, Hbi, Hb, H0, H2, H3, H4, HW, Hc1, HF⟩
      iapply (wp_first d i xv wv bv bi k0_t2_loop k0_t2_ok trips2 _ hA.2 r2.sem sb.sem (base i + 256 * 1) (by omega) _
        (by rw [show (256#32 : BitVec 32) = BitVec.ofNat 32 (256 * (1 : Fin 2).val) from rfl, Cert.Kernel.Gen.k0_off1_eq]; congr 2)
        _ (by rw [show (256#32 : BitVec 32) = BitVec.ofNat 32 (256 * (1 : Fin 2).val) from rfl, Cert.Kernel.Gen.k0_off56_eq]; congr 2)
        q X wt fw hw V0 I0 O W _
        iprop(Flying d i av ai sa.sem NO (resV X wt) (resI X wt) (base i + 256 * 0) ∗ semVal (VT d i, SemLoc.dma r0.sem) 0
          ∗ semVal (VT d i, SemLoc.dma r1.sem) 0 ∗ semVal (VT d i, SemLoc.dma r3.sem) 0
          ∗ semVal (VT d i, SemLoc.dma r4.sem) 0 ∗ ((wT).view.loc (VT d i) ↦[Finset.univ]{q} Wb)
          ∗ chunksFrom d i V0 I0 2) ?_)
      · iintro ⟨Hmw, HO, H2, Hx, HX, Hw, HB, HA, H0, H1, H3, H4, HW, HF⟩
        iapply (wp_trips d i h2 h3 h4 h5 xv h6 wv h7 av h8 ai h9 bv h10 bi h11 sa sb r0 r1 r2 r3 r4 hB q X wt fw hw V0 I0 O W _
          iprop(semVal (VT d i, SemLoc.dma r0.sem) 0
            ∗ semVal (VT d i, SemLoc.dma r1.sem) 0 ∗ semVal (VT d i, SemLoc.dma r2.sem) 0 ∗ ((wT).view.loc (VT d i) ↦[Finset.univ]{q} Wb)) _ ?_)
        · iintro ⟨HO, H3, H4, Ha, Hb, Hx, HX, Hw, Hav, Hai, Hbv, Hbi, HT, H0, H1, H2, HW⟩
          isplitl [HO]; · iexact HO
          isplitr [HX HW HT]
          · isplitl [Hx]; · iexact Hx
            isplitl [Hw]; · iexists fw; iexact Hw
            isplitl [Hav]; · iexact Hav
            isplitl [Hai]; · iexact Hai
            isplitl [Hbv]; · iexact Hbv
            isplitl [Hbi]; · iexact Hbi
            isplitl [Ha]; · iexact Ha
            isplitl [Hb]; · iexact Hb
            isplitl [H0]; · iexact H0
            isplitl [H1]; · iexact H1
            isplitl [H2]; · iexact H2
            isplitl [H3]; · iexact H3
            iexact H4
          isplitl [HX]; · iexact HX
          isplitl [HW]; · iexact HW
          iexact HT
        isplitr [H0 H1 H2 HW]
        · unfold Between
          isplitl [Hmw]; · iexact Hmw
          isplitl [HO]; · iexact HO
          isplitl [H3]; · iexact H3
          isplitl [H4]; · iexact H4
          isplitl [Hx]; · iexact Hx
          isplitl [HX]; · iexact HX
          isplitl [Hw]; · iexact Hw
          isplitl [HA]; · iexact HA
          isplitl [HB]; · iexact HB
          isplitr [HF]
          · rw [show 2 * 0 = 0 from rfl, chunksTo_zero]; iempintro
          iexact HF
        isplitl [H0]; · iexact H0
        isplitl [H1]; · iexact H1
        isplitl [H2]; · iexact H2
        iexact HW
      isplitl [Hmw]; · iexact Hmw
      isplitl [HO]; · iexact HO
      isplitl [H2]; · iexact H2
      isplitl [Hx]; · iexact Hx
      isplitl [HX]; · iexact HX
      isplitl [Hw]; · iexact Hw
      isplitl [Hbv]; · iexact Hbv
      isplitl [Hbi]; · iexact Hbi
      isplitl [Hb]; · iexact Hb
      isplitl [Hc1]; · iexact Hc1
      isplitl [HA]; · iexact HA
      isplitl [H0]; · iexact H0
      isplitl [H1]; · iexact H1
      isplitl [H3]; · iexact H3
      isplitl [H4]; · iexact H4
      isplitl [HW]; · iexact HW
      iexact HF
    isplitl [Hmw]; · iexact Hmw
    isplitl [HO]; · iexact HO
    isplitl [H1]; · iexact H1
    isplitl [Hx]; · iexact Hx
    isplitl [HX]; · iexact HX
    isplitl [Hw]; · iexact Hw
    isplitl [Hav]; · iexact Hav
    isplitl [Hai]; · iexact Hai
    isplitl [Ha]; · iexact Ha
    isplitl [Hc0]; · iexact Hc0
    isplitl [Hbv]; · iexact Hbv
    isplitl [Hbi]; · iexact Hbi
    isplitl [Hb]; · iexact Hb
    isplitl [H0]; · iexact H0
    isplitl [H2]; · iexact H2
    isplitl [H3]; · iexact H3
    isplitl [H4]; · iexact H4
    isplitl [HW]; · iexact HW
    isplitl [Hc1]; · iexact Hc1
    iexact HF
  isplitl [Hmw]; · iexact Hmw
  isplitl [HO]; · iexact HO
  isplitl [H0]; · iexact H0
  isplitl [Hw]; · iexact Hw
  isplitl [HW]; · iexact HW
  isplitl [Hx]; · iexact Hx
  isplitl [Hav]; · iexact Hav
  isplitl [Hai]; · iexact Hai
  isplitl [Hbv]; · iexact Hbv
  isplitl [Hbi]; · iexact Hbi
  isplitl [Ha]; · iexact Ha
  isplitl [Hb]; · iexact Hb
  isplitl [H1]; · iexact H1
  isplitl [H2]; · iexact H2
  isplitl [H3]; · iexact H3
  isplitl [H4]; · iexact H4
  isplitl [HX]; · iexact HX
  isplitl [Hc0]; · iexact Hc0
  isplitl [Hc1]; · iexact Hc1
  iexact HF

end Cert.Proof

end
-- ==== Proof.Obl.lean ====
/-
  The launch's obligation for the call: what the call's signals carry to a subcore and back, the subcore's own buffers and
  semaphores as its task names them, and the task from the one to the other.
-/
module

public import proofs.«01_k».proof.Proof.TileRun

@[expose] public section

noncomputable section

namespace Cert.Proof

open Cert.Kernel
open Idealize.ShloMosaic Idealize.ShloMosaic.ValueIdx
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Cert.Kernel.Facts₀ Cert.Kernel.Facts

attribute [local irreducible] plan feats outs

variable {F : FTy → Type} [BitOps F]

local notation "𝕄" => MT nD τ sig (HIx 1) (Elt F) ℕ UU ℕ

/-- The subcore's coordinates. -/
def coo (c : Fin (grid0.bound 0)) (s : Fin (grid0.bound 1)) : grid0.Coords :=
  fun | 0 => c | 1 => s | ⟨_ + 2, h⟩ => absurd h (Nat.not_lt.2 (Nat.le_add_left _ _))

/-- The device's arrays that the call reads and writes. -/
abbrev xLoc (d : Dev nD) : Loc nD τ sig := (SparseCore.T d).loc main_v5
abbrev wLoc (d : Dev nD) : Loc nD τ sig := (SparseCore.T d).loc main_v8
abbrev vLoc (d : Dev nD) : Loc nD τ sig := (SparseCore.T d).loc main_v9_0
abbrev iLoc (d : Dev nD) : Loc nD τ sig := (SparseCore.T d).loc main_v9_1

/-- What the call finds: the columns, the weights' rows and the two results' contents, of each device. -/
structure Data (F : FTy → Type) where
  X : Dev nD → S4x131072.Idx → F .f32
  W : Dev nD → S256x16.Idx → F .f32
  wt : Dev nD → Nat → F .f32
  hW : ∀ d (k : Fin 256) (l : Fin 16), W d (ix2 k l) = wt d k.val
  V0 : Dev nD → S50x131072.Idx → F .f32
  I0 : Dev nD → S50x131072.Idx → BitVec 32

variable (A : Data F)

/-- The subcore's read share: one of 32. -/
def shr (c : Fin 2) (s : Fin 16) : PosShare TreeShare := Transfers.shareTok fullShare 32 (finProdFinEquiv (c, s))

/-- What a task is sent, and what it sends back. -/
def sent (d : Dev nD) (c : Fin 2) (s : Fin 16) : PR F :=
  iprop((xLoc d ↦{shr c s} A.X d) ∗ (wLoc d ↦{shr c s} A.W d) ∗ chunksFrom d (coo c s) (A.V0 d) (A.I0 d) 0)
def back (d : Dev nD) (c : Fin 2) (s : Fin 16) : PR F :=
  iprop((xLoc d ↦{shr c s} A.X d) ∗ (wLoc d ↦{shr c s} A.W d)
    ∗ chunksTo d (coo c s) (resV (A.X d) (A.wt d)) (resI (A.X d) (A.wt d)) 16)

instance sent_storable (d : Dev nD) (c : Fin 2) (s : Fin 16) : BI.Storable (upEmb : UEmb _ 𝕄) (sent A d c s) := by
  unfold sent chunksFrom chunkP; infer_instance
instance back_storable (d : Dev nD) (c : Fin 2) (s : Fin 16) : BI.Storable (upEmb : UEmb _ 𝕄) (back A d c s) := by
  unfold back chunksTo chunkP; infer_instance

/-- A core is sent what its sixteen tasks are, and sends back what they do. -/
def sentCore (d : Dev nD) (c : Fin 2) : PR F := bigSep Finset.univ fun s : Fin 16 => sent A d c s
def backCore (d : Dev nD) (c : Fin 2) : PR F := bigSep Finset.univ fun s : Fin 16 => back A d c s

instance sentCore_storable (d : Dev nD) (c : Fin 2) : BI.Storable (upEmb : UEmb _ 𝕄) (sentCore A d c) := by
  unfold sentCore; infer_instance
instance backCore_storable (d : Dev nD) (c : Fin 2) : BI.Storable (upEmb : UEmb _ 𝕄) (backCore A d c) := by
  unfold backCore; infer_instance

attribute [local irreducible] sent back sentCore backCore

/-- What the call's signals carry. -/
def P : (K (F := F)).Pay (nD := nD) (Val := Elt F) (Name := ℕ) (U := UU) where
  st := fun q d c => match q with | 0 => sentCore A d (Fin.cast (nCore_zero (F := F)) c)
  dn := fun q d c => match q with | 0 => backCore A d (Fin.cast (nCore_zero (F := F)) c)
  go := fun q d c i => match q with | 0 => sent A d (Fin.cast (nCore_zero (F := F)) c) (Fin.cast (nSub_zero (F := F)) i)
  td := fun q d c i => match q with | 0 => back A d (Fin.cast (nCore_zero (F := F)) c) (Fin.cast (nSub_zero (F := F)) i)
  x := fun _ _ => iprop(emp)

theorem P_st (d : Dev nD) (c : Fin ((K (F := F)).nCore 0)) : (P A).st 0 d c = sentCore A d (Fin.cast (nCore_zero (F := F)) c) := rfl
theorem P_dn (d : Dev nD) (c : Fin ((K (F := F)).nCore 0)) : (P A).dn 0 d c = backCore A d (Fin.cast (nCore_zero (F := F)) c) := rfl
theorem P_go (d : Dev nD) (c : Fin ((K (F := F)).nCore 0)) (i : Fin ((K (F := F)).nSub 0)) :
    (P A).go 0 d c i = sent A d (Fin.cast (nCore_zero (F := F)) c) (Fin.cast (nSub_zero (F := F)) i) := rfl
theorem P_td (d : Dev nD) (c : Fin ((K (F := F)).nCore 0)) (i : Fin ((K (F := F)).nSub 0)) :
    (P A).td 0 d c i = back A d (Fin.cast (nCore_zero (F := F)) c) (Fin.cast (nSub_zero (F := F)) i) := rfl

instance P_storable : (P A).IsStorable where
  st q d c := match q with | 0 => by rw [P_st]; exact sentCore_storable A d _
  dn q d c := match q with | 0 => by rw [P_dn]; exact backCore_storable A d _
  go q d c i := match q with | 0 => by rw [P_go]; exact sent_storable A d _ _
  td q d c i := match q with | 0 => by rw [P_td]; exact back_storable A d _ _

/-! ## The subcore's own buffers and semaphores -/

section Own

variable (d : Dev nD) (L : grid0.Coords)

/-- The seven semaphores of the task, by number. -/
abbrev csem (k : Nat) (hk : k < 7 := by decide) : DmaSem sig := ⟨k, hk⟩
abbrev dcell (d : Dev nD) (c : Fin τ.nSC) (i : Fin τ.nSub) (k : Fin 7) : GSem nD τ sig := (V d c i, .dma (csem k.val k.isLt))

theorem dcell_mem (c : Fin τ.nSC) (i : Fin τ.nSub) (k : Fin 7) : dcell d c i k ∈ ownCells (V d c i) :=
  mem_ownCells.mpr ⟨rfl, (show ∀ s : DmaSem sig, (SemLoc.dma s : SemLoc sig).isScoped .scVector = true by decide) _⟩

/-- The subcore's semaphores at zero: the task's seven, and the rest. -/
theorem ownSems0_V :
    (ownSems0 (VT d L) : sProp 𝕄)
      = iprop((semVal (VT d L, SemLoc.dma (csem 0)) 0 ∗ semVal (VT d L, SemLoc.dma (csem 1)) 0 ∗ semVal (VT d L, SemLoc.dma (csem 2)) 0
            ∗ semVal (VT d L, SemLoc.dma (csem 3)) 0 ∗ semVal (VT d L, SemLoc.dma (csem 4)) 0 ∗ semVal (VT d L, SemLoc.dma (csem 5)) 0
            ∗ semVal (VT d L, SemLoc.dma (csem 6)) 0)
          ∗ bigSep ((ownCells (VT d L)) \ Finset.univ.image (dcell d (cV L) (jV L))) fun g => semVal g 0) := by
  unfold SparseCore.Cfg.ownSems0
  rw [SparseCore.bigSep_sdiff_split' (t := Finset.univ.image (dcell d (cV L) (jV L)))
      (Finset.image_subset_iff.mpr fun k _ => dcell_mem d (cV L) (jV L) k),
    SparseCore.bigSep_image_of_injOn (fun a _ b _ h => by
      have := congrArg (fun g : GSem nD τ sig => g.2) h
      simp only [SemLoc.dma.injEq, Fin.mk.injEq] at this; exact Fin.ext this)]
  rw [show (Finset.univ : Finset (Fin 7)) = {0, 1, 2, 3, 4, 5, 6} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]
  rfl

/-- The task's six buffers, by number. -/
def bufs6 : Fin 6 → Ref sig .scVector := ![cc0_scratch0, cc0_scratch1, cc0_scratch2, cc0_scratch3, cc0_scratch4, cc0_scratch5]

theorem bufs6_inj : Function.Injective bufs6 := by decide

theorem own_mem (k : Fin 6) : (Proc.scVector (cV L) (jV L)).devRef (bufs6 k) ∈ ownRefs (τ := τ) (sig := sig) (.scVector (cV L) (jV L)) := by
  fin_cases k <;> exact SparseCore.Cfg.mem_ownRefs_of_owner (p := Proc.scVector (cV L) (jV L)) rfl

/-- The subcore's buffers: the task's six, and the rest. -/
theorem ownBufs_V :
    (ownBufs (VT d L) : sProp 𝕄)
      = iprop(((∃ f, (VT d L).loc cc0_scratch0 ↦{fullShare} f) ∗ (∃ f, (VT d L).loc cc0_scratch1 ↦{fullShare} f)
          ∗ (∃ f, (VT d L).loc cc0_scratch2 ↦{fullShare} f) ∗ (∃ f, (VT d L).loc cc0_scratch3 ↦{fullShare} f)
          ∗ (∃ f, (VT d L).loc cc0_scratch4 ↦{fullShare} f) ∗ (∃ f, (VT d L).loc cc0_scratch5 ↦{fullShare} f))
          ∗ bigSep ((ownRefs (τ := τ) (.scVector (cV L) (jV L))) \ (Finset.univ.image fun k => (Proc.scVector (cV L) (jV L)).devRef (bufs6 k)))
              fun b => iprop(∃ f, ((d, b) : Loc nD τ sig) ↦{fullShare} f)) := by
  unfold SparseCore.Cfg.ownBufs
  rw [SparseCore.bigSep_sdiff_split' (t := Finset.univ.image fun k => (Proc.scVector (cV L) (jV L)).devRef (bufs6 k))
      (Finset.image_subset_iff.mpr fun k _ => own_mem L k),
    SparseCore.bigSep_image_of_injOn (fun a _ b _ h => bufs6_inj (Proc.devRef_injective _ h))]
  rw [show (Finset.univ : Finset (Fin 6)) = {0, 1, 2, 3, 4, 5} by decide,
    SparseCore.bigSep_insert' (by decide), SparseCore.bigSep_insert' (by decide), SparseCore.bigSep_insert' (by decide),
    SparseCore.bigSep_insert' (by decide), SparseCore.bigSep_insert' (by decide), bigSep_singleton]
  rfl

end Own

/-! ## The obligation -/

/-- The regions of the printed loops are batches, at the call's own arrays. -/
def Regions : Prop := ∀ i : grid0.Coords,
  Bodies12 (F := F) i (Memref.isWhole_whole _) (Memref.isWhole_whole _) (Memref.isWhole_whole _) (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) (Memref.whole cc0_scratch5) (Memref.isWhole_whole _)
    cc0_scratch6 cc0_scratch7 cc0_scoped0 cc0_scoped1 cc0_scoped2 cc0_scoped3 cc0_scoped4
  ∧ Bodies45 (F := F) i (Memref.isWhole_whole _) (Memref.isWhole_whole _) (Memref.isWhole_whole _) (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) (Memref.whole cc0_scratch5) (Memref.isWhole_whole _)
    cc0_scratch6 cc0_scratch7 cc0_scoped0 cc0_scoped1 cc0_scoped2 cc0_scoped3 cc0_scoped4

/-- A buffer held through its whole view is the buffer's contents held. -/
theorem held_whole (d : Dev nD) (L : grid0.Coords) (b : Ref sig .scVector) (f : Buf (Elt F) ((VT d L).loc b)) :
    ((View.whole b).loc (VT d L) ↦[(View.whole b).set]{fullShare} f : sProp 𝕄) = (VT d L).loc b ↦{fullShare} f := by
  rw [View.set_whole]

/-- The task's buffers and semaphores, as the launch spells them. -/
theorem idle_eq (d : Dev nD) (L : grid0.Coords) :
    (Idle (F := F) d L (Memref.whole cc0_scratch0) (Memref.whole cc0_scratch1) (Memref.whole cc0_scratch2) (Memref.whole cc0_scratch3)
      (Memref.whole cc0_scratch4) (Memref.whole cc0_scratch5) cc0_scratch6 cc0_scratch7 cc0_scoped0 cc0_scoped1 cc0_scoped2 cc0_scoped3 cc0_scoped4)
    = iprop((∃ f, (VT d L).loc cc0_scratch0 ↦{fullShare} f) ∗ (∃ f, (VT d L).loc cc0_scratch1 ↦{fullShare} f)
          ∗ (∃ f, (VT d L).loc cc0_scratch2 ↦{fullShare} f) ∗ (∃ f, (VT d L).loc cc0_scratch3 ↦{fullShare} f)
          ∗ (∃ f, (VT d L).loc cc0_scratch4 ↦{fullShare} f) ∗ (∃ f, (VT d L).loc cc0_scratch5 ↦{fullShare} f)
        ∗ semVal (VT d L, SemLoc.dma (csem 0)) 0 ∗ semVal (VT d L, SemLoc.dma (csem 1)) 0 ∗ semVal (VT d L, SemLoc.dma (csem 2)) 0
            ∗ semVal (VT d L, SemLoc.dma (csem 3)) 0 ∗ semVal (VT d L, SemLoc.dma (csem 4)) 0 ∗ semVal (VT d L, SemLoc.dma (csem 5)) 0
            ∗ semVal (VT d L, SemLoc.dma (csem 6)) 0) := by
  have e0 := fun f => held_whole (F := F) d L cc0_scratch0 f
  have e1 := fun f => held_whole (F := F) d L cc0_scratch1 f
  have e2 := fun f => held_whole (F := F) d L cc0_scratch2 f
  have e3 := fun f => held_whole (F := F) d L cc0_scratch3 f
  have e4 := fun f => held_whole (F := F) d L cc0_scratch4 f
  have e5 := fun f => held_whole (F := F) d L cc0_scratch5 f
  rw [← funext e0, ← funext e1, ← funext e2, ← funext e3, ← funext e4, ← funext e5]
  rfl

/-- A subcore's task, from what the launch deals it to what it hands back. -/
theorem tile_body (hR : Regions (F := F)) (hF : (K (F := F)).Facts) (d : Dev nD) (c : Fin 2) (s : Fin 16)
    (O : CellTallies nD τ sig (HIx 1)) (W : Waits sig (HIx 1)) (hO : ∀ g, O g none = 0) :
    iprop(levAts (K (F := F)).L (K (F := F)).lev ∗ emp ∗ sent A d c s
        ∗ scopedBufs (VT d (coo c s)) ∗ scopedSems0 (VT d (coo c s)) ∗ owes (VT d (coo c s)) O W)
      ⊢ wp frame (wpE (defs₀ (F := F)) 𝒱₀ (VT d (coo c s)) none) Set.univ
          (cc0__sc_topk (coo c s) (Memref.whole main_v5_scv) (Memref.isWhole_whole _) (Memref.whole main_v8_scv) (Memref.isWhole_whole _)
            (Memref.whole main_v9_0_scv) (Memref.isWhole_whole _) (Memref.whole main_v9_1_scv) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _) (Memref.whole cc0_scratch5) (Memref.isWhole_whole _)
            cc0_scratch6 cc0_scratch7 cc0_scoped0 cc0_scoped1 cc0_scoped2 cc0_scoped3 cc0_scoped4)
          fun _ => iprop(back A d c s
            ∗ scopedBufs (VT d (coo c s)) ∗ scopedSems0 (VT d (coo c s))
            ∗ ∃ W', ⌜∀ p ∈ W', p ∈ W ∨ p.2 = none ∨ p.2 = some (0 : Fin 1)⌝ ∗ owes (VT d (coo c s)) O W') := by
  generalize hL : coo c s = L
  rw [(K (F := F)).scopedBufs_V hF d (cV L) (jV L), SparseCore.Cfg.scopedSems0_V (Val := Elt F) d (cV L) (jV L), ownSems0_V, ownBufs_V]
  unfold sent back
  rw [hL]
  iintro ⟨#Hlv, -, ⟨HX, HW, HC⟩, ⟨⟨B0, B1, B2, B3, B4, B5⟩, Hbufs⟩, ⟨⟨S0, S1, S2, S3, S4, S5, S6⟩, Hsems⟩, HO⟩
  ihave Hmw := (show levAts (K (F := F)).L (K (F := F)).lev ⊢ Transfers.MayWaits (VT d L) (none : HIx 1) O from
    (K (F := F)).mayWaits_none (thr := VT d L) hO) $$ Hlv
  ihave HO' := (owe_intro (F := F) d L (O := O) (W := W) (W' := W) (fun p h => Or.inl h)) $$ HO
  iapply (wp_wand_r Idealize.ShloMosaic.frame (wpE (defs₀ (F := F)) 𝒱₀ (VT d L) none) Set.univ)
  isplitr [Hbufs Hsems]
  · iapply (wp_task (F := F) d L _ _ _ _ _ _ _ _ _ _ _ _ _ _ _ _ _ _ _ _ _ _ _ (hR L).1 (hR L).2 (shr c s) (A.X d) (A.W d) (A.wt d) (A.hW d) (A.V0 d) (A.I0 d) O W)
    rw [idle_eq]
    isplitl [Hmw]; · iexact Hmw
    isplitl [HO']; · iexact HO'
    isplitl [B0 B1 B2 B3 B4 B5 S0 S1 S2 S3 S4 S5 S6]
    · isplitl [B0]; · iexact B0
      isplitl [B1]; · iexact B1
      isplitl [B2]; · iexact B2
      isplitl [B3]; · iexact B3
      isplitl [B4]; · iexact B4
      isplitl [B5]; · iexact B5
      isplitl [S0]; · iexact S0
      isplitl [S1]; · iexact S1
      isplitl [S2]; · iexact S2
      isplitl [S3]; · iexact S3
      isplitl [S4]; · iexact S4
      isplitl [S5]; · iexact S5
      iexact S6
    isplitl [HX]; · iexact HX
    isplitl [HW]; · iexact HW
    iexact HC
  rw [idle_eq]
  unfold Owe
  iintro %_ ⟨⟨%W', %hW', HO⟩, ⟨B0, B1, B2, B3, B4, B5, S0, S1, S2, S3, S4, S5, S6⟩, HX, HW, HC⟩
  isplitl [HX HW HC]
  · isplitl [HX]; · iexact HX
    isplitl [HW]; · iexact HW
    iexact HC
  isplitl [B0 B1 B2 B3 B4 B5 Hbufs]
  · isplitr [Hbufs]
    · isplitl [B0]; · iexact B0
      isplitl [B1]; · iexact B1
      isplitl [B2]; · iexact B2
      isplitl [B3]; · iexact B3
      isplitl [B4]; · iexact B4
      iexact B5
    iexact Hbufs
  isplitl [S0 S1 S2 S3 S4 S5 S6 Hsems]
  · isplitr [Hsems]
    · isplitl [S0]; · iexact S0
      isplitl [S1]; · iexact S1
      isplitl [S2]; · iexact S2
      isplitl [S3]; · iexact S3
      isplitl [S4]; · iexact S4
      isplitl [S5]; · iexact S5
      iexact S6
    iexact Hsems
  iexists W'
  isplitr
  · ipureintro; intro p hp
    rcases hW' p hp with h | h
    · exact .inl h
    · exact .inr (.inl h)
  iexact HO

theorem defs₀_vector (c : Fin τ.nSC) (s : Fin τ.nSub) :
    defs₀ (F := F) (.scVector c s) 0 ()
      = SparseCore.onTile hcore0 hsub0 (fun c s => cc0__sc_topk (coo c s) (Memref.whole main_v5_scv) (Memref.isWhole_whole _) (Memref.whole main_v8_scv) (Memref.isWhole_whole _)
            (Memref.whole main_v9_0_scv) (Memref.isWhole_whole _) (Memref.whole main_v9_1_scv) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _) (Memref.whole cc0_scratch5) (Memref.isWhole_whole _)
            cc0_scratch6 cc0_scratch7 cc0_scoped0 cc0_scoped1 cc0_scoped2 cc0_scoped3 cc0_scoped4) ⟨⟩ c s := rfl

/-- The obligation the launch asks of the tasks. -/
theorem tileObl (hR : Regions (F := F)) (hF : (K (F := F)).Facts) : (K (F := F)).TileObl (D (F := F)) 𝒱 (P A) v₀ 0 := by
  intro d c i O W hO _ _
  simp only [show (P A).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body A hR hF d ⟨c.val, hci.1⟩ ⟨i.val, hci.2⟩ O W hO

end Cert.Proof

end
-- ==== Proof.Deal.lean ====
/-
  The call's arrays dealt among the 32 subcores and joined again: the operands by read shares, the results by columns.
-/
module

public import proofs.«01_k».proof.Proof.Obl

@[expose] public section

noncomputable section

namespace Cert.Proof

open Cert.Kernel
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Cert.Kernel.Facts₀ Cert.Kernel.Facts

attribute [local irreducible] plan feats outs

variable {F : FTy → Type} [BitOps F]

local notation "𝕄" => MT nD τ sig (HIx 1) (Elt F) ℕ UU ℕ

/-- An operand held whole is what is kept and 32 read shares, one per subcore. -/
theorem shares_eq (ℓ : Loc nD τ sig) (f : Buf (Elt F) ℓ) :
    (ℓ ↦{fullShare} f : sProp 𝕄) = iprop((ℓ ↦{Transfers.shareDrop fullShare 32} f)
      ∗ bigSep Finset.univ fun c : Fin 2 => bigSep Finset.univ fun s : Fin 16 => ℓ ↦{shr c s} f) := by
  have h : (ℓ ↦{fullShare} f : sProp 𝕄) ⊣⊢ iprop((ℓ ↦{Transfers.shareDrop fullShare 32} f)
      ∗ bigSep Finset.univ fun i : Fin 32 => ℓ ↦{Transfers.shareTok fullShare 32 i} f) :=
    Transfers.pointsTo_toks (ℓ := ℓ) (S := Finset.univ) (f := f) fullShare 32
  rw [BI.Entails.antisymm h.1 h.2,
    bigSep_univ_equiv (finProdFinEquiv : Fin 2 × Fin 16 ≃ Fin 32) (fun i : Fin 32 => (ℓ ↦{Transfers.shareTok fullShare 32 i} f : sProp 𝕄)),
    BI.bigSep_univ_prod]
  rfl

/-- The chunks of the two results, by subcore and number. -/
abbrev blk (p : Fin 2 × Fin 16 × Fin 16) : Finset S50x131072.Idx := cols (base (coo p.1 p.2.1) + 256 * p.2.2.val)

theorem base_coo (c : Fin 2) (s : Fin 16) : base (coo c s) = 8192 * s.val + 4096 * c.val := rfl

theorem blk_disjoint : ∀ p ∈ (Finset.univ : Finset (Fin 2 × Fin 16 × Fin 16)), ∀ p' ∈ (Finset.univ : Finset (Fin 2 × Fin 16 × Fin 16)),
    p ≠ p' → Disjoint (blk p) (blk p') := by
  rintro ⟨c, s, r⟩ - ⟨c', s', r'⟩ - hne
  refine Finset.disjoint_left.mpr fun y h h' => hne ?_
  have h1 := mem_cols.mp h
  have h2 := mem_cols.mp h'
  rw [base_coo] at h1 h2
  simp only [] at h1 h2
  have := c.isLt; have := c'.isLt; have := s.isLt; have := s'.isLt; have := r.isLt; have := r'.isLt
  have e1 : c = c' := Fin.ext (by omega)
  have e2 : s = s' := Fin.ext (by omega)
  have e3 : r = r' := Fin.ext (by omega)
  rw [e1, e2, e3]

theorem blk_cover : (Finset.univ : Finset (Fin 2 × Fin 16 × Fin 16)).biUnion blk = Finset.univ := by
  refine Finset.eq_univ_of_forall fun y => Finset.mem_biUnion.mpr ?_
  have hy : (y 1).val < 131072 := (y 1).isLt
  refine ⟨(⟨(y 1).val / 4096 % 2, by omega⟩, ⟨(y 1).val / 8192, by omega⟩, ⟨(y 1).val / 256 % 16, by omega⟩), Finset.mem_univ _, ?_⟩
  refine mem_cols.mpr ?_
  rw [base_coo]
  constructor <;> (show _; simp only []; omega)

theorem vLoc_eq (d : Dev nD) (i : grid0.Coords) : (oV).view.loc (VT d i) = vLoc d := rfl

/-- One result held whole is its chunks. -/
theorem blocksV (d : Dev nD) (f : S50x131072.Idx → F .f32) :
    (vLoc d ↦{fullShare} f : sProp 𝕄)
      = bigSep Finset.univ fun c : Fin 2 => bigSep Finset.univ fun s : Fin 16 => bigSep Finset.univ fun r : Fin 16 => vLoc d ↦[blk (c, s, r)]{fullShare} f := by
  have h : (vLoc d ↦{fullShare} f : sProp 𝕄) = bigSep Finset.univ fun p => vLoc d ↦[blk p]{fullShare} f := by
    rw [← pointsTo_biUnion Finset.univ (ℓ := vLoc d) blk blk_disjoint, blk_cover]; try rfl
  refine h.trans ?_
  rw [BI.bigSep_univ_prod]
  exact bigSep_congr fun c _ => BI.bigSep_univ_prod _
theorem blocksI (d : Dev nD) (f : S50x131072.Idx → BitVec 32) :
    (iLoc d ↦{fullShare} f : sProp 𝕄)
      = bigSep Finset.univ fun c : Fin 2 => bigSep Finset.univ fun s : Fin 16 => bigSep Finset.univ fun r : Fin 16 => iLoc d ↦[blk (c, s, r)]{fullShare} f := by
  have h : (iLoc d ↦{fullShare} f : sProp 𝕄) = bigSep Finset.univ fun p => iLoc d ↦[blk p]{fullShare} f := by
    rw [← pointsTo_biUnion Finset.univ (ℓ := iLoc d) blk blk_disjoint, blk_cover]; try rfl
  refine h.trans ?_
  rw [BI.bigSep_univ_prod]
  exact bigSep_congr fun c _ => BI.bigSep_univ_prod _

theorem chunksFrom_zero (d : Dev nD) (i : grid0.Coords) (V : S50x131072.Idx → F .f32) (I : S50x131072.Idx → BitVec 32) :
    chunksFrom d i V I 0 = bigSep Finset.univ fun r : Fin 16 => chunkP d i V I r.val := by
  unfold chunksFrom
  rw [Finset.filter_true_of_mem fun r _ => Nat.zero_le _]
theorem chunksTo_all (d : Dev nD) (i : grid0.Coords) (V : S50x131072.Idx → F .f32) (I : S50x131072.Idx → BitVec 32) :
    chunksTo d i V I 16 = bigSep Finset.univ fun r : Fin 16 => chunkP d i V I r.val := by
  unfold chunksTo
  rw [Finset.filter_true_of_mem fun r _ => r.isLt]

/-- The two results held whole are every subcore's chunks of them. -/
theorem results_eq (d : Dev nD) (V : S50x131072.Idx → F .f32) (I : S50x131072.Idx → BitVec 32) :
    (iprop((vLoc d ↦{fullShare} V) ∗ (iLoc d ↦{fullShare} I)) : sProp 𝕄)
      = bigSep Finset.univ fun c : Fin 2 => bigSep Finset.univ fun s : Fin 16 => bigSep Finset.univ fun r : Fin 16 => chunkP d (coo c s) V I r.val := by
  rw [blocksV, blocksI, ← bigSep_sep']
  refine bigSep_congr fun c _ => ?_
  rw [← bigSep_sep']
  refine bigSep_congr fun s _ => ?_
  rw [← bigSep_sep']
  rfl

/-- Five holdings in two groupings. -/
theorem regroup (a b x w c : PR F) : iprop((a ∗ b) ∗ x ∗ w ∗ c) ⊢ iprop((a ∗ x) ∗ (b ∗ w) ∗ c) := by
  iintro ⟨⟨Ha, Hb⟩, Hx, Hw, Hc⟩
  isplitl [Ha Hx]
  · isplitl [Ha]; · iexact Ha
    iexact Hx
  isplitl [Hb Hw]
  · isplitl [Hb]; · iexact Hb
    iexact Hw
  iexact Hc
theorem regroup' (a b x w c : PR F) : iprop((a ∗ x) ∗ (b ∗ w) ∗ c) ⊢ iprop((a ∗ b) ∗ x ∗ w ∗ c) := by
  iintro ⟨⟨Ha, Hx⟩, ⟨Hb, Hw⟩, Hc⟩
  isplitl [Ha Hb]
  · isplitl [Ha]; · iexact Ha
    iexact Hb
  isplitl [Hx]; · iexact Hx
  isplitl [Hw]; · iexact Hw
  iexact Hc

variable (A : Data F)

/-- What the launch keeps of the operands while the call runs. -/
def kept (d : Dev nD) : PR F :=
  iprop((xLoc d ↦{Transfers.shareDrop fullShare 32} A.X d) ∗ (wLoc d ↦{Transfers.shareDrop fullShare 32} A.W d))

/-- The four arrays before the call: what is kept, and what the two cores are sent. -/
theorem sent_eq (d : Dev nD) :
    (iprop(kept A d ∗ bigSep Finset.univ fun c : Fin 2 => sentCore A d c) : sProp 𝕄)
      = iprop((xLoc d ↦{fullShare} A.X d) ∗ (wLoc d ↦{fullShare} A.W d) ∗ (vLoc d ↦{fullShare} A.V0 d) ∗ (iLoc d ↦{fullShare} A.I0 d)) := by
  rw [results_eq, shares_eq (xLoc d), shares_eq (wLoc d)]
  unfold kept sentCore sent
  simp only [chunksFrom_zero, bigSep_sep']
  exact BI.Entails.antisymm (regroup _ _ _ _ _) (regroup' _ _ _ _ _)

/-- And after it, from what they send back. -/
theorem back_eq (d : Dev nD) :
    (iprop(kept A d ∗ bigSep Finset.univ fun c : Fin 2 => backCore A d c) : sProp 𝕄)
      = iprop((xLoc d ↦{fullShare} A.X d) ∗ (wLoc d ↦{fullShare} A.W d) ∗ (vLoc d ↦{fullShare} resV (A.X d) (A.wt d))
          ∗ (iLoc d ↦{fullShare} resI (A.X d) (A.wt d))) := by
  rw [results_eq, shares_eq (xLoc d), shares_eq (wLoc d)]
  unfold kept backCore back
  simp only [chunksTo_all, bigSep_sep']
  exact BI.Entails.antisymm (regroup _ _ _ _ _) (regroup' _ _ _ _ _)

end Cert.Proof

end
-- ==== Proof.BodyA.lean ====
/-
  The first loop's printed region is the batch program into its two staging buffers: both sides unfold to the same
  operations, every stored word the same term over the words loaded.
-/
module

public import proofs.«01_k».proof.Proof.Batch
public import proofs.«01_k».proof.Proof.Gen.Kernel.Skeleton

@[expose] public section

set_option maxRecDepth 1000000
set_option maxHeartbeats 40000000

noncomputable section

namespace Cert.Proof

open Cert.Kernel
open Idealize.ShloMosaic Idealize.SL.Sem
open Cert.Kernel.Facts₀ Cert.Kernel.Facts

attribute [local irreducible] maxui minui andi ori xori shrsi subi mulf addf shapeCast bitcastToInt bitcastToFloat broadcast constantI

variable {F : FTy → Type} [BitOps F]

/-- The region of trip `t` of the loop is the batch at its column. -/
theorem body1_eq (i : grid0.Coords) (arg2 : Memref sig .scVector .hbm S4x131072 .f32) (harg2 : arg2.IsWhole) (arg3 : Memref sig .scVector .hbm S256x16 .f32) (harg3 : arg3.IsWhole) (arg4 : Memref sig .scVector .hbm S50x131072 .f32) (harg4 : arg4.IsWhole) (arg5 : Memref sig .scVector .hbm S50x131072 .i32) (harg5 : arg5.IsWhole) (arg6 : Memref sig .scVector .vmem S4x256 .f32) (harg6 : arg6.IsWhole) (arg7 : Memref sig .scVector .vmem S256x16 .f32) (harg7 : arg7.IsWhole) (arg8 : Memref sig .scVector .vmem S50x256 .f32) (harg8 : arg8.IsWhole) (arg9 : Memref sig .scVector .vmem S50x256 .i32) (harg9 : arg9.IsWhole) (arg10 : Memref sig .scVector .vmem S50x256 .f32) (harg10 : arg10.IsWhole) (arg11 : Memref sig .scVector .vmem S50x256 .i32) (harg11 : arg11.IsWhole) (arg12 : DmaSems sig S_) (arg13 : DmaSems sig S_) (v24_r0 : DmaSems sig S_) (v24_r1 : DmaSems sig S_) (v24_r2 : DmaSems sig S_) (v48_r3 : DmaSems sig S_) (v48_r4 : DmaSems sig S_) (t : Fin k0_t1_loop.trips) (u : Unit) (h : offT t.val + 16 ≤ 256) :
    Cert.Kernel.Gen.k0_t1_body (F := F) i arg2 harg2 arg3 harg3 arg4 harg4 arg5 harg5 arg6 harg6 arg7 harg7 arg8 harg8 arg9 harg9 arg10 harg10 arg11 harg11 arg12 arg13 v24_r0 v24_r1 v24_r2 v48_r3 v48_r4 t u = batch i arg6 arg7 arg8 arg9 (offT t.val) h := by
  unfold Cert.Kernel.Gen.k0_t1_body batch
  iterate 460
    refine congr (congrArg Prog.op ?_) ?_
    · as_aux_lemma => rfl
    funext _
  rfl

end Cert.Proof

end
-- ==== Proof.BodyB.lean ====
/-
  The second loop's printed region is the batch program into its two staging buffers: both sides unfold to the same
  operations, every stored word the same term over the words loaded.
-/
module

public import proofs.«01_k».proof.Proof.Batch
public import proofs.«01_k».proof.Proof.Gen.Kernel.Skeleton

@[expose] public section

set_option maxRecDepth 1000000
set_option maxHeartbeats 40000000

noncomputable section

namespace Cert.Proof

open Cert.Kernel
open Idealize.ShloMosaic Idealize.SL.Sem
open Cert.Kernel.Facts₀ Cert.Kernel.Facts

attribute [local irreducible] maxui minui andi ori xori shrsi subi mulf addf shapeCast bitcastToInt bitcastToFloat broadcast constantI

variable {F : FTy → Type} [BitOps F]

/-- The region of trip `t` of the loop is the batch at its column. -/
theorem body2_eq (i : grid0.Coords) (arg2 : Memref sig .scVector .hbm S4x131072 .f32) (harg2 : arg2.IsWhole) (arg3 : Memref sig .scVector .hbm S256x16 .f32) (harg3 : arg3.IsWhole) (arg4 : Memref sig .scVector .hbm S50x131072 .f32) (harg4 : arg4.IsWhole) (arg5 : Memref sig .scVector .hbm S50x131072 .i32) (harg5 : arg5.IsWhole) (arg6 : Memref sig .scVector .vmem S4x256 .f32) (harg6 : arg6.IsWhole) (arg7 : Memref sig .scVector .vmem S256x16 .f32) (harg7 : arg7.IsWhole) (arg8 : Memref sig .scVector .vmem S50x256 .f32) (harg8 : arg8.IsWhole) (arg9 : Memref sig .scVector .vmem S50x256 .i32) (harg9 : arg9.IsWhole) (arg10 : Memref sig .scVector .vmem S50x256 .f32) (harg10 : arg10.IsWhole) (arg11 : Memref sig .scVector .vmem S50x256 .i32) (harg11 : arg11.IsWhole) (arg12 : DmaSems sig S_) (arg13 : DmaSems sig S_) (v24_r0 : DmaSems sig S_) (v24_r1 : DmaSems sig S_) (v24_r2 : DmaSems sig S_) (v48_r3 : DmaSems sig S_) (v48_r4 : DmaSems sig S_) (t : Fin k0_t2_loop.trips) (u : Unit) (h : offT t.val + 16 ≤ 256) :
    Cert.Kernel.Gen.k0_t2_body (F := F) i arg2 harg2 arg3 harg3 arg4 harg4 arg5 harg5 arg6 harg6 arg7 harg7 arg8 harg8 arg9 harg9 arg10 harg10 arg11 harg11 arg12 arg13 v24_r0 v24_r1 v24_r2 v48_r3 v48_r4 t u = batch i arg6 arg7 arg10 arg11 (offT t.val) h := by
  unfold Cert.Kernel.Gen.k0_t2_body batch
  iterate 460
    refine congr (congrArg Prog.op ?_) ?_
    · as_aux_lemma => rfl
    funext _
  rfl

end Cert.Proof

end
-- ==== Proof.BodyC.lean ====
/-
  The loop of an even chunk's printed region is the batch program into its two staging buffers: both sides unfold to the same
  operations, every stored word the same term over the words loaded.
-/
module

public import proofs.«01_k».proof.Proof.Batch
public import proofs.«01_k».proof.Proof.Gen.Kernel.Skeleton

@[expose] public section

set_option maxRecDepth 1000000
set_option maxHeartbeats 40000000

noncomputable section

namespace Cert.Proof

open Cert.Kernel
open Idealize.ShloMosaic Idealize.SL.Sem
open Cert.Kernel.Facts₀ Cert.Kernel.Facts

attribute [local irreducible] maxui minui andi ori xori shrsi subi mulf addf shapeCast bitcastToInt bitcastToFloat broadcast constantI

variable {F : FTy → Type} [BitOps F]

/-- The region of trip `t` of the loop is the batch at its column. -/
theorem body4_eq (i : grid0.Coords) (arg2 : Memref sig .scVector .hbm S4x131072 .f32) (harg2 : arg2.IsWhole) (arg3 : Memref sig .scVector .hbm S256x16 .f32) (harg3 : arg3.IsWhole) (arg4 : Memref sig .scVector .hbm S50x131072 .f32) (harg4 : arg4.IsWhole) (arg5 : Memref sig .scVector .hbm S50x131072 .i32) (harg5 : arg5.IsWhole) (arg6 : Memref sig .scVector .vmem S4x256 .f32) (harg6 : arg6.IsWhole) (arg7 : Memref sig .scVector .vmem S256x16 .f32) (harg7 : arg7.IsWhole) (arg8 : Memref sig .scVector .vmem S50x256 .f32) (harg8 : arg8.IsWhole) (arg9 : Memref sig .scVector .vmem S50x256 .i32) (harg9 : arg9.IsWhole) (arg10 : Memref sig .scVector .vmem S50x256 .f32) (harg10 : arg10.IsWhole) (arg11 : Memref sig .scVector .vmem S50x256 .i32) (harg11 : arg11.IsWhole) (arg12 : DmaSems sig S_) (arg13 : DmaSems sig S_) (v24_r0 : DmaSems sig S_) (v24_r1 : DmaSems sig S_) (v24_r2 : DmaSems sig S_) (v48_r3 : DmaSems sig S_) (v48_r4 : DmaSems sig S_) (v2 : BitVec 32) (c1_i32_17 : BitVec 32) (c1_i32_18 : BitVec 32) (k0_t3 : Fin k0_t3_loop.trips) (t : Fin k0_t4_loop.trips) (u : Unit) (h : offT t.val + 16 ≤ 256) :
    Cert.Kernel.Gen.k0_t4_body (F := F) i arg2 harg2 arg3 harg3 arg4 harg4 arg5 harg5 arg6 harg6 arg7 harg7 arg8 harg8 arg9 harg9 arg10 harg10 arg11 harg11 arg12 arg13 v24_r0 v24_r1 v24_r2 v48_r3 v48_r4 v2 c1_i32_17 c1_i32_18 k0_t3 t u = batch i arg6 arg7 arg8 arg9 (offT t.val) h := by
  unfold Cert.Kernel.Gen.k0_t4_body batch
  iterate 460
    refine congr (congrArg Prog.op ?_) ?_
    · as_aux_lemma => rfl
    funext _
  rfl

end Cert.Proof

end
-- ==== Proof.BodyD.lean ====
/-
  The loop of an odd chunk's printed region is the batch program into its two staging buffers: both sides unfold to the same
  operations, every stored word the same term over the words loaded.
-/
module

public import proofs.«01_k».proof.Proof.Batch
public import proofs.«01_k».proof.Proof.Gen.Kernel.Skeleton

@[expose] public section

set_option maxRecDepth 1000000
set_option maxHeartbeats 40000000

noncomputable section

namespace Cert.Proof

open Cert.Kernel
open Idealize.ShloMosaic Idealize.SL.Sem
open Cert.Kernel.Facts₀ Cert.Kernel.Facts

attribute [local irreducible] maxui minui andi ori xori shrsi subi mulf addf shapeCast bitcastToInt bitcastToFloat broadcast constantI

variable {F : FTy → Type} [BitOps F]

/-- The region of trip `t` of the loop is the batch at its column. -/
theorem body5_eq (i : grid0.Coords) (arg2 : Memref sig .scVector .hbm S4x131072 .f32) (harg2 : arg2.IsWhole) (arg3 : Memref sig .scVector .hbm S256x16 .f32) (harg3 : arg3.IsWhole) (arg4 : Memref sig .scVector .hbm S50x131072 .f32) (harg4 : arg4.IsWhole) (arg5 : Memref sig .scVector .hbm S50x131072 .i32) (harg5 : arg5.IsWhole) (arg6 : Memref sig .scVector .vmem S4x256 .f32) (harg6 : arg6.IsWhole) (arg7 : Memref sig .scVector .vmem S256x16 .f32) (harg7 : arg7.IsWhole) (arg8 : Memref sig .scVector .vmem S50x256 .f32) (harg8 : arg8.IsWhole) (arg9 : Memref sig .scVector .vmem S50x256 .i32) (harg9 : arg9.IsWhole) (arg10 : Memref sig .scVector .vmem S50x256 .f32) (harg10 : arg10.IsWhole) (arg11 : Memref sig .scVector .vmem S50x256 .i32) (harg11 : arg11.IsWhole) (arg12 : DmaSems sig S_) (arg13 : DmaSems sig S_) (v24_r0 : DmaSems sig S_) (v24_r1 : DmaSems sig S_) (v24_r2 : DmaSems sig S_) (v48_r3 : DmaSems sig S_) (v48_r4 : DmaSems sig S_) (t : Fin k0_t5_loop.trips) (u : Unit) (h : offT t.val + 16 ≤ 256) :
    Cert.Kernel.Gen.k0_t5_body (F := F) i arg2 harg2 arg3 harg3 arg4 harg4 arg5 harg5 arg6 harg6 arg7 harg7 arg8 harg8 arg9 harg9 arg10 harg10 arg11 harg11 arg12 arg13 v24_r0 v24_r1 v24_r2 v48_r3 v48_r4 t u = batch i arg6 arg7 arg10 arg11 (offT t.val) h := by
  unfold Cert.Kernel.Gen.k0_t5_body batch
  iterate 460
    refine congr (congrArg Prog.op ?_) ?_
    · as_aux_lemma => rfl
    funext _
  rfl

end Cert.Proof

end
-- ==== Proof.Run.lean ====
/-
  The whole program's run: the operations before the call, the call, the two transpositions after it; what the results hold at
  the end, the arguments unchanged, every semaphore's counter at zero.
-/
module

public import proofs.«01_k».proof.Proof.Deal
public import proofs.«01_k».proof.Proof.BodyA
public import proofs.«01_k».proof.Proof.BodyB
public import proofs.«01_k».proof.Proof.BodyC
public import proofs.«01_k».proof.Proof.BodyD

@[expose] public section

noncomputable section

namespace Cert.Proof

open Cert.Kernel
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.Facts₀ Cert.Kernel.Facts

attribute [local irreducible] plan feats outs batch

variable {F : FTy → Type}

local notation "𝕄" => MT nD τ sig (HIx 1) (Elt F) ℕ UU ℕ

/-- Every chunk's loop bodies are the batch program. -/
theorem regions [BitOps F] : Regions (F := F) := fun i =>
  ⟨⟨fun t u h => body1_eq (F := F) i _ _ _ _ _ _ _ _ _ _ _ _ _ _ _ _ _ _ _ _ _ _ _ _ _ _ _ t u h,
    fun t u h => body2_eq (F := F) i _ _ _ _ _ _ _ _ _ _ _ _ _ _ _ _ _ _ _ _ _ _ _ _ _ _ _ t u h⟩,
   ⟨fun v c c' t3 t u h => body4_eq (F := F) i _ _ _ _ _ _ _ _ _ _ _ _ _ _ _ _ _ _ _ _ _ _ _ _ _ _ _ v c c' t3 t u h,
    fun t u h => body5_eq (F := F) i _ _ _ _ _ _ _ _ _ _ _ _ _ _ _ _ _ _ _ _ _ _ _ _ _ _ _ t u h⟩⟩

/-! ## The operations on the TensorCore -/

/-- The operations before the call. -/
def pre [BitOps F] : List (HloOp τ sig (Elt F)) :=
  [StableHlo.unary main_arg0 main_v0 ((transpose S4x131072 [1, 0] · transposes_S131072x4_S4x131072_1_0) : (⟨S131072x4, .f32⟩ : BufTy).Contents (Elt F) → (⟨S4x131072, .f32⟩ : BufTy).Contents (Elt F)),
   StableHlo.unary main_v0 main_v1 ((truncf .bf16 · bitsLt_bf16_f32) : (⟨S4x131072, .f32⟩ : BufTy).Contents (Elt F) → (⟨S4x131072, .bf16⟩ : BufTy).Contents (Elt F)),
   StableHlo.unary main_v1 main_v2 (id : (⟨S4x131072, .bf16⟩ : BufTy).Contents (Elt F) → (⟨S4x131072, .bf16⟩ : BufTy).Contents (Elt F)),
   StableHlo.unary main_arg1 main_v3 ((truncf .bf16 · bitsLt_bf16_f32) : (⟨S64x4, .f32⟩ : BufTy).Contents (Elt F) → (⟨S64x4, .bf16⟩ : BufTy).Contents (Elt F)),
   StableHlo.unary main_v3 main_v4 (id : (⟨S64x4, .bf16⟩ : BufTy).Contents (Elt F) → (⟨S64x4, .bf16⟩ : BufTy).Contents (Elt F)),
   StableHlo.unary main_v2 main_v5 ((extf .f32 · bitsLt_bf16_f32) : (⟨S4x131072, .bf16⟩ : BufTy).Contents (Elt F) → (⟨S4x131072, .f32⟩ : BufTy).Contents (Elt F)),
   StableHlo.unary main_v4 main_v6 ((extf .f32 · bitsLt_bf16_f32) : (⟨S64x4, .bf16⟩ : BufTy).Contents (Elt F) → (⟨S64x4, .f32⟩ : BufTy).Contents (Elt F)),
   StableHlo.reshape main_v6 main_v7 (rfl : (.f32 : EltTy) = .f32) shapeCasts_S64x4_S256x1,
   StableHlo.unary main_v7 main_v8 (broadcastInDim S256x16 ![0, 1] bcast_S256x1_S256x16_0_1 : (⟨S256x1, .f32⟩ : BufTy).Contents (Elt F) → (⟨S256x16, .f32⟩ : BufTy).Contents (Elt F))]

/-- The operations after the call. -/
def post : List (HloOp τ sig (Elt F)) :=
  [StableHlo.unary main_v9_0 main_v10 ((transpose S131072x50 [1, 0] · transposes_S50x131072_S131072x50_1_0) : (⟨S50x131072, .f32⟩ : BufTy).Contents (Elt F) → (⟨S131072x50, .f32⟩ : BufTy).Contents (Elt F)),
   StableHlo.unary main_v9_1 main_v11 ((transpose S131072x50 [1, 0] · transposes_S50x131072_S131072x50_1_0) : (⟨S50x131072, .i32⟩ : BufTy).Contents (Elt F) → (⟨S131072x50, .i32⟩ : BufTy).Contents (Elt F))]

variable [BitOps F]

/-- @main is the operations before the call, the call, the operations after it. -/
theorem main_eq (d : Dev nD) :
    main (F := F) d = (StableHlo.seq pre >>= fun _ => sc.run d 0 >>= fun _ => StableHlo.seq post >>= fun _ => pure ⟨⟩) := rfl

theorem pre_bufs : ∀ op ∈ pre (F := F), op.bufs ⊆ StableHlo.tcRefs τ sig := by
  refine List.forall_iff_forall_mem.mp ?_
  simp only [pre, List.Forall]
  and_intros <;> first | exact StableHlo.unary_bufs_sub .. | exact StableHlo.reshape_bufs_sub ..
theorem post_bufs : ∀ op ∈ post (F := F), op.bufs ⊆ StableHlo.tcRefs τ sig := by
  refine List.forall_iff_forall_mem.mp ?_
  simp only [post, List.Forall]
  and_intros <;> first | exact StableHlo.unary_bufs_sub .. | exact StableHlo.reshape_bufs_sub ..
theorem pre_fresh : ∀ op ∈ pre (F := F), op.fresh = ∅ := by
  refine List.forall_iff_forall_mem.mp ?_
  simp only [pre, List.Forall]
  and_intros <;> rfl
theorem post_fresh : ∀ op ∈ post (F := F), op.fresh = ∅ := by
  refine List.forall_iff_forall_mem.mp ?_
  simp only [post, List.Forall]
  and_intros <;> rfl

variable (m : (ℓ : Loc nD τ sig) → Buf (Elt F) ℓ) (ρ : Dev nD → PrngReg)

/-- The device's arrays before the call. -/
def V1 (d : Dev nD) : Valuation τ sig (Elt F) := StableHlo.after pre fun b => m (d, b)

theorem V1_v8 (d : Dev nD) :
    V1 m d (Proc.devRef .tc main_v8) = broadcastInDim S256x16 ![0, 1] bcast_S256x1_S256x16_0_1 (V1 m d (Proc.devRef .tc main_v7)) := by
  unfold V1 pre
  after_results_simp

/-- What the call finds. -/
def data : Data F where
  X := fun d => V1 m d (Proc.devRef .tc main_v5)
  W := fun d => V1 m d (Proc.devRef .tc main_v8)
  wt := fun d k => V1 m d (Proc.devRef .tc main_v7) (ix2 (Fin.ofNat 256 k) 0)
  hW := fun d k l => by
    rw [V1_v8]
    show V1 m d (Proc.devRef .tc main_v7) _ = _
    refine congrArg _ (funext fun a => ?_)
    refine Fin.ext ?_
    fin_cases a
    · show k.val = k.val % 256
      omega
    · rfl
  V0 := fun d => V1 m d (Proc.devRef .tc main_v9_0)
  I0 := fun d => V1 m d (Proc.devRef .tc main_v9_1)

/-- What the two result arrays of the call hold after it. -/
abbrev callV (d : Dev nD) : S50x131072.Idx → F .f32 := resV ((data m).X d) ((data m).wt d)
abbrev callI (d : Dev nD) : S50x131072.Idx → BitVec 32 := resI ((data m).X d) ((data m).wt d)

/-- The device's arrays after the call, and at the end. -/
def V2 (d : Dev nD) : Valuation τ sig (Elt F) :=
  Function.update (Function.update (V1 m d) (Proc.devRef .tc main_v9_0) (callV m d)) (Proc.devRef .tc main_v9_1) (callI m d)
def V3 (d : Dev nD) : Valuation τ sig (Elt F) := StableHlo.after post (V2 m d)

/-- The call's four arrays. -/
abbrev B4 : Finset (DevRef τ sig) :=
  {Proc.devRef .tc main_v5, Proc.devRef .tc main_v8, Proc.devRef .tc main_v9_0, Proc.devRef .tc main_v9_1}

theorem B4_sub : B4 ⊆ StableHlo.tcRefs τ sig := by decide

theorem held_B4 (d : Dev nD) (W : Valuation τ sig (Elt F)) :
    (StableHlo.held (T d) B4 W : sProp 𝕄)
      = iprop((xLoc d ↦{fullShare} W (Proc.devRef .tc main_v5)) ∗ (wLoc d ↦{fullShare} W (Proc.devRef .tc main_v8))
          ∗ (vLoc d ↦{fullShare} W (Proc.devRef .tc main_v9_0)) ∗ (iLoc d ↦{fullShare} W (Proc.devRef .tc main_v9_1))) := by
  unfold StableHlo.held B4
  rw [SparseCore.bigSep_insert' (by decide), SparseCore.bigSep_insert' (by decide), SparseCore.bigSep_insert' (by decide), bigSep_singleton]

theorem unscoped_held (d : Dev nD) :
    (unscopedBufs d (fun b => m ((SparseCore.T d).loc b)) : sProp 𝕄) = StableHlo.held (T d) (StableHlo.tcRefs τ sig) (fun b => m (d, b)) := by
  unfold unscopedBufs StableHlo.held StableHlo.tcRefs
  rw [show (Finset.univ.filter fun b : Ref sig .tc => ¬ b.isScoped) = Finset.univ by decide, BI.bigSep_map]
  rfl

theorem V2_v9_1 (d : Dev nD) : V2 m d (Proc.devRef .tc main_v9_1) = callI m d := Function.update_self _ _ _
theorem V2_v9_0 (d : Dev nD) : V2 m d (Proc.devRef .tc main_v9_0) = callV m d :=
  (Function.update_of_ne (show (Proc.devRef .tc main_v9_0 : DevRef τ sig) ≠ Proc.devRef .tc main_v9_1 by decide) _ _).trans (Function.update_self _ _ _)
theorem V2_ne (d : Dev nD) (b : DevRef τ sig) (h0 : b ≠ Proc.devRef .tc main_v9_0) (h1 : b ≠ Proc.devRef .tc main_v9_1) : V2 m d b = V1 m d b :=
  (Function.update_of_ne h1 _ _).trans (Function.update_of_ne h0 _ _)

theorem V2_rest (d : Dev nD) :
    (StableHlo.held (T d) (StableHlo.tcRefs τ sig \ B4) (V2 m d) : sProp 𝕄) = StableHlo.held (T d) (StableHlo.tcRefs τ sig \ B4) (V1 m d) :=
  StableHlo.held_congr _ fun b hb => by
    have h := (Finset.mem_sdiff.mp hb).2
    refine V2_ne m d b (fun e => h ?_) (fun e => h ?_)
    · rw [e]; decide
    · rw [e]; decide

/-- Before the call: what is kept aside, what the cores are sent, the other arrays. -/
theorem before (d : Dev nD) :
    (StableHlo.held (T d) (StableHlo.tcRefs τ sig) (V1 m d) : sProp 𝕄)
      = iprop((kept (data m) d ∗ bigSep Finset.univ fun c : Fin 2 => sentCore (data m) d c)
          ∗ StableHlo.held (T d) (StableHlo.tcRefs τ sig \ B4) (V1 m d)) := by
  rw [StableHlo.held_sub_split _ B4_sub, held_B4, sent_eq]
  rfl

/-- After it: from what the cores send back. -/
theorem after_call (d : Dev nD) :
    (StableHlo.held (T d) (StableHlo.tcRefs τ sig) (V2 m d) : sProp 𝕄)
      = iprop((kept (data m) d ∗ bigSep Finset.univ fun c : Fin 2 => backCore (data m) d c)
          ∗ StableHlo.held (T d) (StableHlo.tcRefs τ sig \ B4) (V1 m d)) := by
  rw [StableHlo.held_sub_split _ B4_sub, held_B4, back_eq, V2_rest, V2_v9_0, V2_v9_1,
    V2_ne m d _ (by decide) (by decide), V2_ne m d _ (by decide) (by decide)]
  rfl

theorem before' (d : Dev nD) :
    (StableHlo.held (d.tc : Thread nD τ) (StableHlo.tcRefs τ sig) (StableHlo.after pre fun b => m (d, b)) : sProp 𝕄)
      = iprop((kept (data m) d ∗ bigSep Finset.univ fun c : Fin 2 => sentCore (data m) d c)
          ∗ StableHlo.held (T d) (StableHlo.tcRefs τ sig \ B4) (V1 m d)) := before m d
theorem after_call' (d : Dev nD) :
    (StableHlo.held (d.tc : Thread nD τ) (StableHlo.tcRefs τ sig) (V2 m d) : sProp 𝕄)
      = iprop((kept (data m) d ∗ bigSep Finset.univ fun c : Fin 2 => backCore (data m) d c)
          ∗ StableHlo.held (T d) (StableHlo.tcRefs τ sig \ B4) (V1 m d)) := after_call m d

attribute [local irreducible] sentCore backCore kept V1 V2

theorem st_eq (A : Data F) (d : Dev nD) :
    (bigSep Finset.univ fun c : Fin ((K (F := F)).nCore 0) => (P A).st 0 d c) = (bigSep Finset.univ fun c : Fin 2 => sentCore A d c) :=
  bigSep_congr fun c _ => (P_st A d c).trans (congrArg (sentCore A d) (Fin.ext rfl))
theorem dn_eq (A : Data F) (d : Dev nD) :
    (bigSep Finset.univ fun c : Fin ((K (F := F)).nCore 0) => (P A).dn 0 d c) = (bigSep Finset.univ fun c : Fin 2 => backCore A d c) :=
  bigSep_congr fun c _ => (P_dn A d c).trans (congrArg (backCore A d) (Fin.ext rfl))

/-- What @main leaves the claims: every array, at its contents at the end. -/
abbrev FIN (d : Dev nD) : PR F := StableHlo.held (d.tc : Thread nD τ) (StableHlo.tcRefs τ sig) (StableHlo.after post (V2 m d))

theorem hmain (κ : GSem nD τ sig → ℕ) (d : Dev nD) :
    iprop((K (F := F)).ctx EH (P (data m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held, main_eq]
  iintro ⟨#Hctx, Hst, ⟨Hb, Hheld, Hts, -⟩, -⟩
  iapply (StableHlo.wp_seq 𝒱 none Set.univ d (StableHlo.tcRefs τ sig) _ pre pre_bufs pre_fresh (fun b => m (d, b))) $$ [Hb Hheld]
  · isplitl [Hb] <;> iassumption
  iintro ⟨Hb, Hheld⟩
  rw [wp_bind]
  ihave Hh := (Entails.of_eq (before' (F := F) m d)) $$ Hheld
  icases Hh with ⟨⟨Hk, Hs⟩, Hr⟩
  iapply ((K (F := F)).wp_run (D (F := F)) 𝒱 (EH := EH) (P := P (data m)) κ d 0) $$ [Hst Hs Hb Hk Hr Hts]
  isplitr; · iexact Hctx
  isplitl [Hst]; · iexact Hst
  isplitl [Hs]
  · rw [st_eq]; iexact Hs
  iintro ⟨Hst, Hdn⟩
  ihave Hd := (Entails.of_eq (dn_eq (data m) d)) $$ Hdn
  ihave Hheld := (Entails.of_eq (after_call' (F := F) m d).symm) $$ [Hk Hd Hr]
  · isplitr [Hr]
    · isplitl [Hk] <;> iassumption
    · iexact Hr
  iapply (StableHlo.wp_seq 𝒱 none Set.univ d (StableHlo.tcRefs τ sig) _ post post_bufs post_fresh (V2 m d)) $$ [Hb Hheld]
  · isplitl [Hb] <;> iassumption
  iintro ⟨Hb, Hheld⟩
  rw [wp_pure]; imodintro
  isplitl [Hst]; · iexact Hst
  isplitl [Hheld]; · iexact Hheld
  isplitl [Hb] <;> iassumption

/-! ## The launch -/

/-- The launch's element of the ghost state. -/
def u₀ : UU := (initOf (K (F := F)).hsCells (K (F := F)).hsToks, 1)

theorem bigSep_none {I : Type} (t : Finset I) : (bigSep t fun _ => iprop(emp)) = (iprop(emp) : sProp 𝕄) := bigSep_emp_const t

theorem hu₀ (A : Data F) : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P A).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_none]; iempintro
  rw [show (bigSep Finset.univ fun thr : Thread nD τ => bigSep Finset.univ fun q : Fin 1 => (P (F := F) A).x q thr) = bigSep Finset.univ fun _ => iprop(emp) from
    bigSep_congr fun _ _ => bigSep_univ_of_subsingleton (0 : Fin 1), bigSep_none]
  iempintro

/-- What is read of device `d`'s memory at the end: every array at its contents. -/
def fq (d : Dev nD) (s' : Phys nD τ sig (Elt F)) : Prop :=
  ∀ b : DevRef τ sig, b ∈ StableHlo.tcRefs τ sig → s'.mem.mem (d, b) = StableHlo.after post (V2 m d) b

theorem hfin (d : Dev nD) (s' : Phys nD τ sig (Elt F)) : iprop(FIN m d ∗ SI s') ⊢ (⌜fq m d s'⌝ : sProp 𝕄) :=
  fun a ha b hb => funext fun i =>
    ((sep_mono (show (StableHlo.held (d.tc : Thread nD τ) (StableHlo.tcRefs τ sig) (StableHlo.after post (V2 m d)) : sProp 𝕄)
          ⊢ ((d, b) ↦{fullShare} StableHlo.after post (V2 m d) b) from bigSep_elim hb) .rfl).trans
      (sep_comm.1.trans (SI_pointsTo_agree (st := s') (ℓ := (d, b)) (I := Finset.univ) (q := fullShare)
        (f := StableHlo.after post (V2 m d) b)))) a ha i (Finset.mem_univ i)

/-- The split of a core's share among its tasks: it is their sum already. -/
theorem vecSplit (A : Data F) : (K (F := F)).VecSplit' (P A) 0 := by
  intro d c
  show sentCore A d (Fin.cast (nCore_zero (F := F)) c) ⊢ |={Set.univ}=> iprop(
      (bigSep Finset.univ fun i : Fin ((K (F := F)).nSub 0) => (P A).go 0 d c i)
      ∗ ((bigSep Finset.univ fun i : Fin ((K (F := F)).nSub 0) => (P A).td 0 d c i) -∗ backCore A d (Fin.cast (nCore_zero (F := F)) c)))
  rw [show (bigSep Finset.univ fun i : Fin ((K (F := F)).nSub 0) => (P A).go 0 d c i) = sentCore A d (Fin.cast (nCore_zero (F := F)) c) by
      unfold sentCore; exact bigSep_congr fun i _ => (P_go A d c i).trans (congrArg (sent A d _) (Fin.ext rfl)),
    show (bigSep Finset.univ fun i : Fin ((K (F := F)).nSub 0) => (P A).td 0 d c i) = backCore A d (Fin.cast (nCore_zero (F := F)) c) by
      unfold backCore; exact bigSep_congr fun i _ => (P_td A d c i).trans (congrArg (back A d _) (Fin.ext rfl))]
  iintro H; imodintro
  isplitl [H]; · iexact H
  iintro H; iexact H

/-- The program's post: every array of every device at its contents, every semaphore at zero. -/
def QC : PUnit × MemSt nD τ sig (Elt F) → Prop := fun r =>
  (∀ (d : Dev nD) (b : Ref sig .tc), r.2.mem ((d.tc : Thread nD τ).loc b) = StableHlo.after post (V2 m d) (Proc.devRef .tc b))
    ∧ r.2.sem = fun _ => 0

theorem run_main [∀ e, Nonempty (Elt F e)] :
    θ_run (Cert.Kernel.defs (F := F)) (Cert.Kernel.threads (F := F)) ⟨m, fun _ => 0, ρ⟩ (QC m) :=
  SparseCore.Cfg.θ_run_sc_quiescent (K := K (F := F)) (D := D (F := F)) (𝒱 := 𝒱) (EH := EH) (P := P (data m)) (A := ∅) facts v₀
    (fun q hq => match q with | 0 => nomatch hq)
    (fun q _ => match q with | 0 => tileObl (data m) regions facts)
    (fun q _ => match q with | 0 => SparseCore.Cfg.VecSplit.of_plain (vecSplit (data m)))
    m ρ main (fun _ => iprop(emp)) (FIN m) (u₀ (F := F)) (sep_elim_left.trans (hu₀ (data m))) (hmain m ρ) (fq m) (hfin m) (QC m)
    (fun _ h hz => ⟨fun d b => h d _ (StableHlo.devRef_mem_tcRefs b), hz⟩)

end Cert.Proof

end
-- ==== Proof.Frames.lean ====
/-
  The two programs' runs read at their arguments: nothing writes them, and every semaphore's counter ends at zero.
-/
module

public import proofs.«01_k».proof.Proof.Run
public import proofs.«01_k».proof.Proof.Gen.Reference
public import Idealize.ShloMosaic.Lib.Claim

@[expose] public section

noncomputable section

namespace Cert.Proof

open Idealize.ShloMosaic
open Idealize.SL.Sem

/-- The kernel's first argument at the end. -/
theorem arg0_eq {F : FTy → Type} [BitOps F] (m : (ℓ : Loc Cert.Kernel.nD Cert.Kernel.τ Cert.Kernel.sig) → Buf (Elt F) ℓ) (d : Dev Cert.Kernel.nD) :
    StableHlo.after post (V2 m d) (Proc.devRef .tc Cert.Kernel.main_arg0) = m ((d.tc : Thread Cert.Kernel.nD Cert.Kernel.τ).loc Cert.Kernel.main_arg0) := by
  unfold post
  after_results_simp
  rw [V2_ne m d _ (by decide) (by decide)]
  unfold V1 pre
  after_results_simp

/-- The kernel's second argument at the end. -/
theorem arg1_eq {F : FTy → Type} [BitOps F] (m : (ℓ : Loc Cert.Kernel.nD Cert.Kernel.τ Cert.Kernel.sig) → Buf (Elt F) ℓ) (d : Dev Cert.Kernel.nD) :
    StableHlo.after post (V2 m d) (Proc.devRef .tc Cert.Kernel.main_arg1) = m ((d.tc : Thread Cert.Kernel.nD Cert.Kernel.τ).loc Cert.Kernel.main_arg1) := by
  unfold post
  after_results_simp
  rw [V2_ne m d _ (by decide) (by decide)]
  unfold V1 pre
  after_results_simp

/-- `Cert.quiescent_Kernel`. -/
theorem frame_p : Cert.quiescent_Kernel := fun m ρ _ =>
  (θ_run Cert.Kernel.defs _ _).mono
    (fun _ h => ⟨fun d => ⟨(h.1 d Cert.Kernel.main_arg0).trans (arg0_eq m d), (h.1 d Cert.Kernel.main_arg1).trans (arg1_eq m d)⟩, h.2⟩)
    (run_main (F := Bits) m ρ)

/-- `Cert.quiescent_Reference`: the reference declares no semaphore. -/
theorem frame_r : Cert.quiescent_Reference := by
  intro m ρ _
  have hrun : θ_run (Cert.Reference.defs (F := Bits)) (onTc (τ := Cert.Reference.τ) (Cert.Reference.main (F := Bits))) ⟨m, fun _ => 0, ρ⟩
      (fun r => ∀ c : Dev Cert.Reference.nD,
        r.2.mem ((c.tc : Thread Cert.Reference.nD Cert.Reference.τ).loc Cert.Reference.main_arg0) = m ((c.tc : Thread Cert.Reference.nD Cert.Reference.τ).loc Cert.Reference.main_arg0)
        ∧ r.2.mem ((c.tc : Thread Cert.Reference.nD Cert.Reference.τ).loc Cert.Reference.main_arg1) = m ((c.tc : Thread Cert.Reference.nD Cert.Reference.τ).loc Cert.Reference.main_arg1)) := by
    hlo_run
  exact (θ_run Cert.Reference.defs _ _).mono (fun r h => ⟨h, sem_eq_zero_of_no_sems (by decide) r.2⟩) hrun

end Cert.Proof

end
-- ==== Proof.Net.lean ====
/-
  The comparators sort. Over a linear order the kernel's list of 529 comparators leaves, on its first fifty wires, the
  fifty greatest of the 64 entries, greatest first. Two changes take the list to the library's odd-even merge sort of 64
  wires, which sorts: comparators that share no wire may trade places (`same`), and a comparator may be left out, or half
  of it, when what it would write is never asked for (`lost`). Both are checked by running a small program over the lists.
-/
module

public import proofs.«01_k».proof.Proof.Vals
public import Idealize.ShloMosaic.Lib.SortNet.OddEvenSort

@[expose] public section

namespace Cert.Proof

open Idealize.ShloMosaic.SortNet

/-- A comparator of a list: two wires, and whether each is written. -/
abbrev Cmp : Type := Nat × Nat × Bool × Bool

/-! ## Steps read wire by wire -/

section steps
variable {α : Type} [LinearOrder α]

/-- A rewritten wire is the new value there and the old one elsewhere. -/
theorem upd_eq (e : Nat → α) (i : Nat) (v : α) (k : Nat) : upd e i v k = if k = i then v else e k := by
  unfold upd
  by_cases h : k = i
  · rw [if_pos h, h, Nat.beq_refl]; rfl
  · rw [if_neg h]
    cases hb : Nat.beq k i
    · rfl
    · exact absurd (Nat.eq_of_beq_eq_true hb) h

/-- What a comparator leaves on wire `k`. -/
theorem cstep_eq (e : Nat → α) (c : Cmp) (k : Nat) :
    cstep max min e c k =
      if c.2.2.2 = true ∧ k = c.2.1 then min (e c.1) (e c.2.1)
      else if c.2.2.1 = true ∧ k = c.1 then max (e c.1) (e c.2.1) else e k := by
  obtain ⟨i, j, ni, nj⟩ := c
  cases ni <;> cases nj <;> simp only [cstep, cond_true, cond_false, upd_eq, true_and, false_and, if_false, Bool.false_eq_true]

/-- Two comparators that share no wire. -/
def apart (c d : Cmp) : Bool :=
  !(c.1 == d.1) && !(c.1 == d.2.1) && !(c.2.1 == d.1) && !(c.2.1 == d.2.1)

/-- Comparators that share no wire may trade places. -/
theorem cstep_comm (e : Nat → α) (c d : Cmp) (h : apart c d = true) :
    cstep max min (cstep max min e c) d = cstep max min (cstep max min e d) c := by
  simp only [apart, Bool.and_eq_true, Bool.not_eq_true', beq_eq_false_iff_ne, ne_eq] at h
  obtain ⟨⟨⟨h1, h2⟩, h3⟩, h4⟩ := h
  have a1 : d.1 ≠ c.1 := Ne.symm h1
  have a2 : d.2.1 ≠ c.1 := Ne.symm h2
  have a3 : d.1 ≠ c.2.1 := Ne.symm h3
  have a4 : d.2.1 ≠ c.2.1 := Ne.symm h4
  funext k
  rw [cstep_eq (cstep max min e c) d k, cstep_eq (cstep max min e d) c k, cstep_eq e c k, cstep_eq e d k, cstep_eq e c d.1, cstep_eq e c d.2.1,
    cstep_eq e d c.1, cstep_eq e d c.2.1]
  simp only [h1, h2, h3, h4, a1, a2, a3, a4, and_false, if_false]
  by_cases k1 : k = c.1
  · rw [k1]; simp only [h1, h2, and_false, if_false]
  · by_cases k2 : k = c.2.1
    · rw [k2]; simp only [h3, h4, and_false, if_false]
    · simp only [k1, k2, and_false, if_false]

/-! ## Trading places -/

/-- The list without its first `c`, when nothing before that one shares a wire with it. -/
def pull (c : Cmp) : List Cmp → Option (List Cmp)
  | [] => none
  | d :: ds => if d = c then some ds else if apart c d then (pull c ds).map (d :: ·) else none

/-- The two lists are one up to comparators trading places. -/
def same : List Cmp → List Cmp → Bool
  | [], [] => true
  | [], _ :: _ => false
  | c :: cs, ds => match pull c ds with
    | some r => same cs r
    | none => false

/-- A comparator that can be pulled to the front may run first. -/
theorem crun_pull (c : Cmp) : ∀ (ds r : List Cmp), pull c ds = some r → ∀ e : Nat → α,
    crun max min ds e = crun max min r (cstep max min e c)
  | [], r, h, e => by cases h
  | d :: ds, r, h, e => by
    unfold pull at h
    by_cases hd : d = c
    · rw [if_pos hd] at h
      cases h
      rw [hd]
    · rw [if_neg hd] at h
      by_cases ha : apart c d = true
      · rw [if_pos ha] at h
        obtain ⟨r', hr', rfl⟩ := Option.map_eq_some_iff.mp h
        show crun max min ds (cstep max min e d) = crun max min r' (cstep max min (cstep max min e c) d)
        rw [crun_pull c ds r' hr', cstep_comm e c d ha]
      · rw [if_neg ha] at h
        cases h

/-- Lists that are one up to comparators trading places do the same. -/
theorem crun_same : ∀ (cs ds : List Cmp), same cs ds = true → ∀ e : Nat → α, crun max min ds e = crun max min cs e
  | [], [], _, e => rfl
  | [], d :: ds, h, e => by cases h
  | c :: cs, ds, h, e => by
    unfold same at h
    cases hp : pull c ds with
    | none => rw [hp] at h; cases h
    | some r =>
      rw [hp] at h
      rw [crun_pull c ds r hp e, crun_same cs r h]

/-! ## Leaving out -/

/-- A whole comparator on a pair of wires. -/
def whole (p : Nat × Nat) : Cmp := (p.1, p.2, true, true)

/-- What a whole comparator leaves on wire `k`. -/
theorem cstep_whole (e : Nat → α) (p : Nat × Nat) (k : Nat) :
    cstep max min e (whole p) k = if k = p.2 then min (e p.1) (e p.2) else if k = p.1 then max (e p.1) (e p.2) else e k := by
  rw [cstep_eq]
  simp only [whole, true_and]

/-- The wires on which a list with parts left out may differ from the full one, from the wires `bad` on which they differ
    already; nothing when the list is not the full one with parts left out, or works on a wire that differs. -/
def lost : List (Nat × Nat) → List Cmp → List Nat → Option (List Nat)
  | [], [], bad => some bad
  | [], _ :: _, _ => none
  | p :: ps, [], bad => lost ps [] (p.1 :: p.2 :: bad)
  | p :: ps, c :: cs, bad =>
    if c.1 = p.1 ∧ c.2.1 = p.2 then
      if bad.contains p.1 || bad.contains p.2 then none
      else lost ps cs ((if c.2.2.1 then [] else [p.1]) ++ ((if c.2.2.2 then [] else [p.2]) ++ bad))
    else lost ps (c :: cs) (p.1 :: p.2 :: bad)

/-- Skipping a comparator keeps the other wires. -/
theorem agree_skip (p : Nat × Nat) (bad : List Nat) (e e' : Nat → α) (h : ∀ k, k ∉ bad → e k = e' k) (k : Nat)
    (hk : k ∉ p.1 :: p.2 :: bad) : cstep max min e (whole p) k = e' k := by
  simp only [List.mem_cons, not_or] at hk
  rw [cstep_whole, if_neg hk.2.1, if_neg hk.1]
  exact h k hk.2.2

/-- Off the wires `lost` lists, the list with parts left out does what the full one does. -/
theorem crun_lost : ∀ (ps : List (Nat × Nat)) (cs : List Cmp) (bad r : List Nat), lost ps cs bad = some r →
    ∀ e e' : Nat → α, (∀ k, k ∉ bad → e k = e' k) → ∀ k, k ∉ r → crun max min (ps.map whole) e k = crun max min cs e' k
  | [], [], bad, r, h, e, e', he, k, hk => by cases h; exact he k hk
  | [], _ :: _, bad, r, h, e, e', he, k, hk => by cases h
  | p :: ps, [], bad, r, h, e, e', he, k, hk =>
    crun_lost ps [] _ r h _ e' (fun k hk => agree_skip p bad e e' he k hk) k hk
  | p :: ps, c :: cs, bad, r, h, e, e', he, k, hk => by
    unfold lost at h
    by_cases hc : c.1 = p.1 ∧ c.2.1 = p.2
    · rw [if_pos hc] at h
      by_cases hb : (bad.contains p.1 || bad.contains p.2) = true
      · rw [if_pos hb] at h; cases h
      · rw [if_neg hb] at h
        simp only [Bool.or_eq_true, List.contains_iff_mem, not_or] at hb
        refine crun_lost ps cs _ r h _ _ (fun n hn => ?_) k hk
        rw [cstep_whole, cstep_eq, hc.1, hc.2, ← he p.1 hb.1, ← he p.2 hb.2]
        simp only [List.mem_append, not_or] at hn
        by_cases n2 : n = p.2
        · have : c.2.2.2 = true := by
            by_contra hf
            rw [if_neg hf] at hn
            exact hn.2.1 (List.mem_singleton.mpr n2)
          rw [if_pos n2, if_pos ⟨this, n2⟩]
        · rw [if_neg n2, if_neg (show ¬(c.2.2.2 = true ∧ n = p.2) from fun h => n2 h.2)]
          by_cases n1 : n = p.1
          · have : c.2.2.1 = true := by
              by_contra hf
              rw [if_neg hf] at hn
              exact hn.1 (List.mem_singleton.mpr n1)
            rw [if_pos n1, if_pos ⟨this, n1⟩]
          · rw [if_neg n1, if_neg fun h => n1 h.2]
            exact he n hn.2.2
    · rw [if_neg hc] at h
      exact crun_lost ps (c :: cs) _ r h _ e' (fun k hk => agree_skip p bad e e' he k hk) k hk

end steps

/-! ## The full network -/

/-- What each comparator of the full network keeps, from the wires asked for at the end: a pair, and whether each of its
    two outputs is asked for. -/
def asked : List (Nat × Nat) → List Nat → List Cmp × List Nat
  | [], live => ([], live)
  | p :: ps, live =>
    let (cs, l) := asked ps live
    let a := l.contains p.1
    let b := l.contains p.2
    if a || b then ((p.1, p.2, a, b) :: cs, l.insert p.1 |>.insert p.2) else (cs, l)

/-- The full network's comparators that the first fifty wires ask for, in the full network's order. -/
def liveAfter : List Cmp := (asked (oddEvenPairs 6) (List.range 50)).1

/-- The kernel's list is those comparators, up to trading places. -/
theorem same_plan : same liveAfter plan = true := by decide +kernel

/-- Leaving the others out costs only wires past the fiftieth. -/
theorem lost_kept : ∃ r, lost (oddEvenPairs 6) liveAfter [] = some r ∧ ∀ k < 50, k ∉ r := by
  have h : (match lost (oddEvenPairs 6) liveAfter [] with
    | some r => (List.range 50).all fun k => !(r.contains k)
    | none => false) = true := by decide +kernel
  cases hl : lost (oddEvenPairs 6) liveAfter [] with
  | none => rw [hl] at h; cases h
  | some r =>
    rw [hl] at h
    refine ⟨r, rfl, fun k hk hm => ?_⟩
    have := List.all_eq_true.mp h k (List.mem_range.mpr hk)
    simp only [Bool.not_eq_true', List.contains_eq_mem, decide_eq_false_iff_not] at this
    exact this hm

section sorted
variable {α : Type} [LinearOrder α]

/-- A list of pairs of different wires below `n`, run over wires, is that network on `n` positions. -/
theorem crun_ofPairs (n : Nat) : ∀ (ps : List (Nat × Nat)), (ps.all fun p => decide (p.2 < n ∧ p.1 < n ∧ p.2 ≠ p.1)) = true →
    ∀ (e : Nat → α) (v : Fin n → α), (∀ k : Fin n, e k = v k) →
      ∀ k : Fin n, crun max min (ps.map whole) e k = Network.apply (Network.ofPairs n ps) v k
  | [], h, e, v, hv, k => hv k
  | p :: ps, h, e, v, hv, k => by
    rw [List.all_cons, Bool.and_eq_true, decide_eq_true_iff] at h
    have hof : Network.ofPairs n (p :: ps)
        = ⟨⟨p.2, h.1.1⟩, ⟨p.1, h.1.2.1⟩, fun e => h.1.2.2 (Fin.val_eq_of_eq e)⟩ :: Network.ofPairs n ps := by
      unfold Network.ofPairs
      rw [List.filterMap_cons, dif_pos h.1]
    rw [hof, Network.apply_cons]
    refine crun_ofPairs n ps h.2 _ _ (fun m => ?_) k
    rw [cstep_whole]
    unfold Cmpx.apply
    have h1 := hv ⟨p.1, h.1.2.1⟩
    have h2 := hv ⟨p.2, h.1.1⟩
    simp only at h1 h2
    by_cases m2 : m.val = p.2
    · rw [if_pos m2, if_pos (Fin.ext m2), ← h1, ← h2, min_comm]
    · rw [if_neg m2, if_neg fun h => m2 (congrArg Fin.val h)]
      by_cases m1 : m.val = p.1
      · rw [if_pos m1, if_pos (Fin.ext m1), ← h1, ← h2, max_comm]
      · rw [if_neg m1, if_neg fun h => m1 (congrArg Fin.val h)]
        exact hv m

/-- The kernel's comparators leave the fifty greatest entries on the first fifty wires, greatest first: the entries, put
    in descending order, read off from the top. -/
theorem crun_plan (e : Nat → α) : ∃ σ : Equiv.Perm (Fin 64), Antitone (fun k => e (σ k)) ∧
    ∀ k : Fin 64, k.val < 50 → crun max min plan e k = e (σ k) := by
  have hanti := oddEvenNet_antitone 6 (fun k : Fin (2 ^ 6) => e k)
  obtain ⟨σ, hσ⟩ := Network.exists_perm (oddEvenNet 6) (fun k : Fin (2 ^ 6) => e k)
  obtain ⟨r, hr, hlive⟩ := lost_kept
  refine ⟨σ, ?_, fun k hk => ?_⟩
  · rw [hσ] at hanti
    exact hanti
  · have h1 : crun max min plan e k = crun max min liveAfter e k := congrFun (crun_same liveAfter plan same_plan e) k
    have h2 := crun_lost (oddEvenPairs 6) liveAfter [] r hr e e (fun _ _ => rfl) k.val (hlive k.val hk)
    have h3 := crun_ofPairs (2 ^ 6) (oddEvenPairs 6) (by decide +kernel) e (fun k : Fin (2 ^ 6) => e k) (fun _ => rfl) k
    rw [h1, ← h2, h3]
    exact congrFun hσ k

end sorted

end Cert.Proof

end
-- ==== Proof.Stable.lean ====
/-
  A stable top-k read through a key. `lax.top_k` puts the greater value first and, among equal values, the earlier
  position. If each position of a row has a number that orders the positions the same way (between an earlier and a later
  position, the later value is greater exactly when its number is), then place `k` of the top-k comes from the position
  with the `k`-th greatest number.
-/
module

public import Idealize.ShloMosaic.PureOps
public import Idealize.ShloMosaic.PureOps.BitExact
public import Idealize.ShloMosaic.Lib.SortFacts
public import Idealize.ShloMosaic.Lib.SortNet.HostSort
public import Idealize.ShloMosaic.Lib.ValueIdxCore

@[expose] public section

namespace Cert.Proof

open Idealize.ShloMosaic Idealize.ShloMosaic.SortNet Idealize.ShloMosaic.ValueIdx

/-- Two relations that agree on whether a later element goes before an earlier one sort an ascending list alike. -/
theorem stableSort_later {n : Nat} (B R : Fin n → Fin n → Bool) (h : ∀ a b, a < b → B b a = R b a) :
    ∀ l : List (Fin n), l.Pairwise (· < ·) → stableSort B l = stableSort R l
  | [], _ => rfl
  | a :: l, hl => by
    rw [List.pairwise_cons] at hl
    unfold stableSort
    rw [stableSort_later B R h l hl.2]
    exact insertBefore_congr B R a _ fun b hb => h a b (hl.1 b ((perm_stableSort R l).mem_iff.mp hb))

/-- Place `k` of a stable sort, when a number for each position decides it: the position with the `k`-th greatest. -/
theorem sortedFrom_key {n : Nat} (B : Fin n → Fin n → Bool) (K : Fin n → Nat) (h : ∀ a b, a < b → B b a = decide (K a < K b))
    (σ : Equiv.Perm (Fin n)) (hσ : ∀ i j, i < j → K (σ j) < K (σ i)) (k : Fin n) : sortedFrom B k = σ k := by
  have hinj : Function.Injective K := by
    intro a b hab
    obtain ⟨i, rfl⟩ := σ.surjective a
    obtain ⟨j, rfl⟩ := σ.surjective b
    rcases lt_trichotomy i j with hij | hij | hij
    · exact absurd hab (ne_of_gt (hσ i j hij))
    · rw [hij]
    · exact absurd hab (ne_of_lt (hσ j i hij))
  have hL : sortPositions n B = List.ofFn fun i => σ i := by
    refine (stableSort_later B (greaterFirst K) (fun a b hab => h a b hab) (List.finRange n) (List.pairwise_lt_finRange n)).trans ?_
    refine ((strictTotalBefore_greaterFirst K hinj).eq_stableSort_of_sorted (Equiv.Perm.ofFn_comp_perm σ fun i => i) ?_).symm
    rw [List.pairwise_ofFn]
    exact fun i j hij => decide_eq_false (Nat.lt_asymm (hσ i j hij))
  unfold sortedFrom
  rw [List.get_of_eq hL]
  simp

/-- The index along a row. -/
theorem along_row {N n : Nat} (r : Fin N) (j c : Fin n) (hd : 1 < (⟨2, ![N, n]⟩ : Shape).rank) :
    (ix2 r j : (⟨2, ![N, n]⟩ : Shape).Idx).along (⟨1, hd⟩ : Fin (⟨2, ![N, n]⟩ : Shape).rank) c = ix2 r c := by
  unfold Shape.Idx.along
  funext a
  match a with
  | ⟨0, _⟩ => rfl
  | ⟨1, _⟩ => rfl

/-- Place `k` of row `r` of a top-k is the value and the position the row's stable sort puts there. -/
theorem topK_place {N n p : Nat} {α : Type} (gt : α → α → BitVec 1) (q : (⟨2, ![N, n]⟩ : Shape).Idx → α)
    (h : (⟨2, ![N, n]⟩ : Shape).Slices (fun _ => 0) ⟨2, ![N, p]⟩) (r : Fin N) (k : Fin p) (hk : k.val < n) (s : Fin n)
    (hs : sortedFrom (fun a b => gt (q (ix2 r a)) (q (ix2 r b)) == 1#1) (⟨k.val, hk⟩ : Fin n) = s) :
    (Host.topK ⟨2, ![N, p]⟩ 1 gt q h).1 (ix2 r k) = q (ix2 r s)
      ∧ (Host.topK ⟨2, ![N, p]⟩ 1 gt q h).2 (ix2 r k) = BitVec.ofNat 32 s.val := by
  have hd : 1 < (⟨2, ![N, n]⟩ : Shape).rank := Nat.lt_succ_self 1
  have hi : ∀ a : Fin 2, (⟨2, ![N, n]⟩ : Shape).size a = ![N, n] a := fun _ => rfl
  have hat : ∀ j : (⟨2, ![N, n]⟩ : Shape).Idx, j = ix2 r ⟨k.val, hk⟩ →
      j.along (⟨1, hd⟩ : Fin (⟨2, ![N, n]⟩ : Shape).rank)
        (sortedFrom (n := n) (fun a b => gt (q (j.along ⟨1, hd⟩ a)) (q (j.along ⟨1, hd⟩ b)) == 1#1) (j 1)) = ix2 r s := by
    rintro j rfl
    simp only [along_row]
    exact congrArg (ix2 r) hs
  have hj : ∀ (g : (a : Fin 2) → Fin ((⟨2, ![N, n]⟩ : Shape).size a)), (∀ a, (g a).val = ((ix2 r (⟨k.val, hk⟩ : Fin n) : (⟨2, ![N, n]⟩ : Shape).Idx) a).val) →
      g = ix2 r ⟨k.val, hk⟩ := fun g hg => funext fun a => Fin.ext (hg a)
  unfold Host.topK extractStridedSlice Host.sort2
  simp only [dif_pos hd]
  constructor
  · refine congrArg q (hat _ (hj _ fun a => ?_))
    match a with
    | ⟨0, _⟩ => exact Nat.zero_add _
    | ⟨1, _⟩ => exact Nat.zero_add _
  · refine congrArg (iotaInDim (⟨2, ![N, n]⟩ : Shape) 32 ⟨1, hd⟩) (hat _ (hj _ fun a => ?_))
    match a with
    | ⟨0, _⟩ => exact Nat.zero_add _
    | ⟨1, _⟩ => exact Nat.zero_add _

/-- The total order's "greater" on the words. -/
theorem gt_word (x y : Bits .f32) : (FloatOps.cmpfTotal (F := Bits) .gt x y == 1#1)
    = decide ((totalOrderKey (y : BitVec 32)).toNat < (totalOrderKey (x : BitVec 32)).toNat) := by
  have e : FloatOps.cmpfTotal (F := Bits) .gt x y
      = BitVec.ofBool ((totalOrderKey (y : BitVec 32)).ult (totalOrderKey (x : BitVec 32))) := rfl
  rw [e, BitVec.ult_eq_decide]
  cases decide ((totalOrderKey (y : BitVec 32)).toNat < (totalOrderKey (x : BitVec 32)).toNat) <;> rfl

/-- The top 50 of each row of 64, at row `r` and place `k`, from numbers that order row `r`'s positions. -/
theorem topK_read {N : Nat} (q : (⟨2, ![N, 64]⟩ : Shape).Idx → Bits .f32) (h : (⟨2, ![N, 64]⟩ : Shape).Slices (fun _ => 0) ⟨2, ![N, 50]⟩)
    (r : Fin N) (K : Fin 64 → Nat)
    (hK : ∀ a b : Fin 64, a < b →
      ((totalOrderKey (q (ix2 r a) : BitVec 32)).toNat < (totalOrderKey (q (ix2 r b) : BitVec 32)).toNat ↔ K a < K b))
    (σ : Equiv.Perm (Fin 64)) (hσ : ∀ i j, i < j → K (σ j) < K (σ i)) (k : Fin 50) (hk : k.val < 64) :
    (Host.topK ⟨2, ![N, 50]⟩ 1 (FloatOps.cmpfTotal (F := Bits) .gt) q h).1 (ix2 r k) = q (ix2 r (σ ⟨k.val, hk⟩))
      ∧ (Host.topK ⟨2, ![N, 50]⟩ 1 (FloatOps.cmpfTotal (F := Bits) .gt) q h).2 (ix2 r k)
        = BitVec.ofNat 32 (σ ⟨k.val, hk⟩).val := by
  refine topK_place (FloatOps.cmpfTotal (F := Bits) .gt) q h r k hk (σ ⟨k.val, hk⟩) ?_
  refine sortedFrom_key _ K (fun a b hab => ?_) σ hσ _
  rw [gt_word]
  exact decide_eq_decide.mpr (hK a b hab)

end Cert.Proof

end
-- ==== Proof.Words.lean ====
/-
  The words of a key. A key is a float's bits mapped to an unsigned word in the float's total order, cut to its upper
  26 bits, with the feature's number (reversed) in the lower six. So keys of different features differ; one key is above
  another exactly when its quantised value is above the other's, or is equal to it and its feature comes earlier; and the
  feature and the quantised value are read back from the key.
-/
module

public import proofs.«01_k».proof.Proof.Vals
public import Idealize.ShloMosaic.Lib.TotalOrder

@[expose] public section

namespace Cert.Proof

open Idealize.ShloMosaic Idealize.SL.Sem

/-! ## Masks and shifts as arithmetic -/

/-- Clearing the lower six bits. -/
theorem toNat_high (k : BitVec 32) : (IntOp.andi k 4294967232#32).toNat = 64 * (k.toNat / 64) := by
  have h : IntOp.andi k 4294967232#32 = (k >>> 6) <<< 6 := by
    unfold IntOp.andi
    refine BitVec.eq_of_getLsbD_eq fun i hi => ?_
    interval_cases i <;> simp
  rw [h, BitVec.toNat_shiftLeft, BitVec.toNat_ushiftRight, Nat.shiftRight_eq_div_pow, Nat.shiftLeft_eq]
  have := k.isLt
  omega

/-- Filling the cleared lower six bits. -/
theorem toNat_fill (k r : BitVec 32) (hr : r.toNat < 64) :
    (IntOp.ori (IntOp.andi k 4294967232#32) r).toNat = 64 * (k.toNat / 64) + r.toNat := by
  unfold IntOp.ori
  rw [BitVec.toNat_or, toNat_high]
  exact (Nat.two_pow_add_eq_or_of_lt (i := 6) hr (k.toNat / 64)).symm

/-- The lower six bits. -/
theorem toNat_low (k : BitVec 32) : (IntOp.andi k 63#32).toNat = k.toNat % 64 := by
  unfold IntOp.andi
  rw [BitVec.toNat_and]
  exact Nat.and_two_pow_sub_one_eq_mod k.toNat 6

/-- The sign bit copied to every place. -/
theorem sign_fill (b : BitVec 32) : IntOp.shrsi .vector b 31#32 = if b.msb then BitVec.allOnes 32 else 0#32 := by
  unfold IntOp.shrsi
  rw [if_pos (by decide)]
  refine BitVec.eq_of_getLsbD_eq fun i hi => ?_
  rw [BitVec.sshiftRight_eq', BitVec.getLsbD_sshiftRight, show (31#32 : BitVec 32).toNat = 31 from rfl]
  have hm : b.msb = b.getLsbD 31 := BitVec.msb_eq_getLsbD_last b
  have hr : (if 31 + i < 32 then b.getLsbD (31 + i) else b.msb) = b.msb := by
    by_cases h : 31 + i < 32
    · rw [if_pos h, hm, show 31 + i = 31 by omega]
    · rw [if_neg h]
  rw [hr, decide_eq_false (show ¬32 ≤ i by omega)]
  cases b.msb
  · exact (BitVec.getLsbD_zero).symm
  · exact (BitVec.getLsbD_allOnes.trans (decide_eq_true hi)).symm

/-! ## The order word -/

/-- The key's map of a float's bits is the total order's. -/
theorem order_word (b : BitVec 32) :
    IntOp.xori b (IntOp.ori (IntOp.shrsi .vector b 31#32) 2147483648#32) = totalOrderKey b := by
  rw [sign_fill]
  unfold IntOp.xori IntOp.ori totalOrderKey
  have hm : b.msb = b[31] := BitVec.msb_eq_getLsbD_last b
  rw [show BitVec.intMin 32 = 2147483648#32 from rfl, show BitVec.allOnes 32 = 4294967295#32 from rfl]
  cases h : b.msb
  · rw [h] at hm
    simp only [Bool.false_eq_true, if_false]
    refine BitVec.eq_of_getLsbD_eq fun i hi => ?_
    interval_cases i <;> simp [← hm]
  · simp only [if_true]
    refine BitVec.eq_of_getLsbD_eq fun i hi => ?_
    interval_cases i <;> simp

/-- The order word as a number. -/
theorem toNat_order (b : BitVec 32) :
    (totalOrderKey b).toNat = if b.toNat < 2147483648 then b.toNat + 2147483648 else 4294967295 - b.toNat := by
  have h := TotalOrder.toNat_totalOrderKey (e := 8) (m := 23) b
  have hm : b.msb = decide (2 ^ 31 ≤ b.toNat) := BitVec.msb_eq_decide b
  refine h.trans ?_
  rw [show (b : BitVec (8 + 23 + 1)).msb = decide (2 ^ 31 ≤ b.toNat) from hm]
  by_cases hb : b.toNat < 2147483648
  · rw [if_pos hb, if_neg (by simp; omega)]
    rfl
  · rw [if_neg hb, if_pos (by simp; omega)]
    rfl

/-- The order word back to the float's bits, as the kernel undoes it. -/
theorem toNat_undo (k : BitVec 32) :
    (IntOp.xori k (IntOp.ori (IntOp.xori (IntOp.shrsi .vector k 31#32) 4294967295#32) 2147483648#32)).toNat
      = if k.toNat < 2147483648 then 4294967295 - k.toNat else k.toNat - 2147483648 := by
  have hm : k.msb = decide (2 ^ 31 ≤ k.toNat) := BitVec.msb_eq_decide k
  rw [sign_fill]
  by_cases hb : k.toNat < 2147483648
  · have h0 : k.msb = false := by rw [hm]; simp; omega
    rw [if_pos hb, h0]
    have e : IntOp.xori k (IntOp.ori (IntOp.xori (if false = true then BitVec.allOnes 32 else 0#32) 4294967295#32) 2147483648#32)
        = ~~~k := by
      unfold IntOp.xori IntOp.ori
      refine BitVec.eq_of_getLsbD_eq fun i hi => ?_
      interval_cases i <;> simp
    rw [e, BitVec.toNat_not]
  · have h1 : k.msb = true := by rw [hm]; simp; omega
    rw [if_neg hb, h1]
    have hx : (k ^^^ 2147483648#32).msb = false := by rw [BitVec.msb_xor, h1]; rfl
    have hk : totalOrderKey (k ^^^ 2147483648#32) = k := by
      unfold totalOrderKey
      have hm' : k.msb = k[31] := BitVec.msb_eq_getLsbD_last k
      rw [hx, show BitVec.intMin 32 = 2147483648#32 from rfl]
      rw [h1] at hm'
      refine BitVec.eq_of_getLsbD_eq fun i hi => ?_
      interval_cases i <;> simp [← hm']
    have hn := toNat_order (k ^^^ 2147483648#32)
    have hd : (k ^^^ 2147483648#32).toNat < 2147483648 := by
      have := BitVec.msb_eq_decide (k ^^^ 2147483648#32)
      rw [hx] at this
      exact Nat.lt_of_not_le (of_decide_eq_false this.symm)
    rw [hk, if_pos hd] at hn
    show (k ^^^ 2147483648#32).toNat = _
    omega

/-! ## The quantised value -/

/-- The quantiser on a float's bits: the lower six bits become 32 above zero and 31 below. -/
def quantW (b : BitVec 32) : BitVec 32 :=
  IntOp.ori (IntOp.andi b 4294967232#32) (if b.toNat < 2147483648 then 32#32 else 31#32)

/-- The quantised bits as a number. -/
theorem toNat_quantW (b : BitVec 32) :
    (quantW b).toNat = 64 * (b.toNat / 64) + if b.toNat < 2147483648 then 32 else 31 := by
  unfold quantW
  by_cases h : b.toNat < 2147483648
  · rw [if_pos h, if_pos h]; exact toNat_fill b 32#32 (by decide)
  · rw [if_neg h, if_neg h]; exact toNat_fill b 31#32 (by decide)

/-- Quantising is cutting the order word to its upper 26 bits and setting the lower six to 32. -/
theorem toNat_order_quantW (b : BitVec 32) :
    (totalOrderKey (quantW b)).toNat = 64 * ((totalOrderKey b).toNat / 64) + 32 := by
  rw [toNat_order, toNat_order, toNat_quantW]
  have := b.isLt
  split <;> split <;> omega

/-! ## The key -/

/-- Feature `f`'s key as a number. -/
theorem toNat_keyW (b : BitVec 32) (f : Nat) (hf : f < 64) :
    (keyW b (BitVec.ofNat 32 (63 - f))).toNat = 64 * ((totalOrderKey b).toNat / 64) + (63 - f) := by
  unfold keyW
  have hr : (BitVec.ofNat 32 (63 - f)).toNat = 63 - f := by
    rw [BitVec.toNat_ofNat]; exact Nat.mod_eq_of_lt (by omega)
  rw [order_word, toNat_fill _ _ (by rw [hr]; omega), hr]

/-- Keys of different features differ. -/
theorem keyW_ne (b c : BitVec 32) (f g : Nat) (hf : f < 64) (hg : g < 64)
    (h : (keyW b (BitVec.ofNat 32 (63 - f))).toNat = (keyW c (BitVec.ofNat 32 (63 - g))).toNat) : f = g := by
  rw [toNat_keyW b f hf, toNat_keyW c g hg] at h
  omega

/-- For a later feature `g`, its quantised value is above `f`'s exactly when its key is. -/
theorem quantW_lt (b c : BitVec 32) (f g : Nat) (hf : f < g) (hg : g < 64) :
    (totalOrderKey (quantW b)).toNat < (totalOrderKey (quantW c)).toNat ↔
      (keyW b (BitVec.ofNat 32 (63 - f))).toNat < (keyW c (BitVec.ofNat 32 (63 - g))).toNat := by
  rw [toNat_keyW b f (by omega), toNat_keyW c g hg, toNat_order_quantW, toNat_order_quantW]
  omega

/-- A key's feature read back. -/
theorem idxW_keyW (b : BitVec 32) (f : Nat) (hf : f < 64) : idxW (keyW b (BitVec.ofNat 32 (63 - f))) = BitVec.ofNat 32 f := by
  refine BitVec.eq_of_toNat_eq ?_
  have h : (IntOp.andi (keyW b (BitVec.ofNat 32 (63 - f))) 63#32).toNat = 63 - f := by
    rw [toNat_low, toNat_keyW b f hf]; omega
  have hf' : (BitVec.ofNat 32 f).toNat = f := by rw [BitVec.toNat_ofNat]; exact Nat.mod_eq_of_lt (by omega)
  unfold idxW
  rw [show ∀ x y : BitVec 32, IntOp.subi x y = x - y from fun _ _ => rfl,
    BitVec.toNat_sub_of_le (by rw [BitVec.le_def, h]; show 63 - f ≤ 63; omega), h, hf']
  show 63 - (63 - f) = f
  omega

/-- A key's quantised value read back. -/
theorem valW_keyW (b : BitVec 32) (f : Nat) (hf : f < 64) : valW (keyW b (BitVec.ofNat 32 (63 - f))) = quantW b := by
  refine BitVec.eq_of_toNat_eq ?_
  have h : (IntOp.ori (IntOp.andi (keyW b (BitVec.ofNat 32 (63 - f))) 4294967232#32) 32#32).toNat
      = 64 * ((totalOrderKey b).toNat / 64) + 32 := by
    rw [toNat_fill _ _ (by decide), toNat_keyW b f hf]
    show 64 * ((64 * ((totalOrderKey b).toNat / 64) + (63 - f)) / 64) + 32 = _
    omega
  unfold valW
  rw [toNat_undo, h, toNat_order, toNat_quantW]
  have := b.isLt
  split <;> split <;> omega

end Cert.Proof

end
-- ==== Proof.RefVal.lean ====
/-
  What the reference computes. Its results are the top 50 of each row of a table of quantised dot products, values and
  positions; the table read at a row and a feature is the quantiser of the sum of four products, on words.
-/
module

public import proofs.«01_k».proof.Proof.Words
public import proofs.«01_k».proof.Proof.Gen.Reference
public import Idealize.ShloMosaic.Lib.Claim
public import Idealize.ShloMosaic.Lib.ValueIdxCore
public import Idealize.ShloMosaic.Lib.Pipeline.Value
public import Idealize.ShloMosaic.PureOps.BitExact

@[expose] public section

noncomputable section

namespace Cert.Proof

open Cert.Reference
open Idealize.ShloMosaic Idealize.ShloMosaic.ValueIdx
open Idealize.SL.Sem
open Cert.Reference.Facts₀ Cert.Reference.Facts

/-- A float rounded to the shorter format and read back. -/
def rnd (v : Bits .f32) : Bits .f32 := FloatOps.extf .f32 bitsLt_bf16_f32 (FloatOps.truncf .bf16 bitsLt_bf16_f32 v)

/-- The products of the rounded inputs. -/
def refProd (x : FVec Bits S131072x4 .f32) (w : FVec Bits S64x4 .f32) : FVec Bits S131072x64x4 .f32 :=
  mulf (broadcastInDim S131072x64x4 ![0, 1, 2] bcast_S131072x1x4_S131072x64x4_0_1_2
      (broadcastInDim S131072x1x4 ![0, 2] bcast_S131072x4_S131072x1x4_0_2 (extf .f32 (truncf .bf16 x bitsLt_bf16_f32) bitsLt_bf16_f32)))
    (broadcastInDim S131072x64x4 ![0, 1, 2] bcast_S1x64x4_S131072x64x4_0_1_2
      (broadcastInDim S1x64x4 ![1, 2] bcast_S64x4_S1x64x4_1_2 (extf .f32 (truncf .bf16 w bitsLt_bf16_f32) bitsLt_bf16_f32)))

/-- The dot products, in the reference's order of the four terms. -/
def refSum (x : FVec Bits S131072x4 .f32) (w : FVec Bits S64x4 .f32) : FVec Bits S131072x64 .f32 :=
  addf
    (addf (shapeCast S131072x64 (extractStridedSlice S131072x64x1 ![0, 0, 0] (refProd x w) slices_S131072x64x4_S131072x64x1_0_0_0) shapeCasts_S131072x64x1_S131072x64)
      (shapeCast S131072x64 (extractStridedSlice S131072x64x1 ![0, 0, 1] (refProd x w) slices_S131072x64x4_S131072x64x1_0_0_1) shapeCasts_S131072x64x1_S131072x64))
    (addf (shapeCast S131072x64 (extractStridedSlice S131072x64x1 ![0, 0, 2] (refProd x w) slices_S131072x64x4_S131072x64x1_0_0_2) shapeCasts_S131072x64x1_S131072x64)
      (shapeCast S131072x64 (extractStridedSlice S131072x64x1 ![0, 0, 3] (refProd x w) slices_S131072x64x4_S131072x64x1_0_0_3) shapeCasts_S131072x64x1_S131072x64))

/-- The reference's quantiser on a table. -/
def refQuant (s : FVec Bits S131072x64 .f32) : FVec Bits S131072x64 .f32 :=
  bitcastToFloat .f32
    (ori (andi (bitcastToInt s) (broadcastInDim S131072x64 ![] bcast_S_S131072x64 (constantI S_ 32 4294967232#32)))
      (select (cmpi .sge (bitcastToInt s) (broadcastInDim S131072x64 ![] bcast_S_S131072x64 (constantI S_ 32 0#32)))
        (broadcastInDim S131072x64 ![] bcast_S_S131072x64 (constantI S_ 32 32#32))
        (broadcastInDim S131072x64 ![] bcast_S_S131072x64 (constantI S_ 32 31#32))))

/-- The reference's values. -/
def refV (x : FVec Bits S131072x4 .f32) (w : FVec Bits S64x4 .f32) : FVec Bits S131072x50 .f32 :=
  (Host.topK S131072x50 1 (FloatOps.cmpfTotal .gt) (refQuant (refSum x w)) sliceFits_S131072x64_S131072x50).1

/-- The reference's positions. -/
def refI (x : FVec Bits S131072x4 .f32) (w : FVec Bits S64x4 .f32) : IVec S131072x50 32 :=
  (Host.topK S131072x50 1 (FloatOps.cmpfTotal .gt) (refQuant (refSum x w)) sliceFits_S131072x64_S131072x50).2

/-- The reference's run, with its results. -/
theorem run_ref (m : (ℓ : Loc nD τ sig) → Buf (Elt Bits) ℓ) (ρ : Dev nD → PrngReg) :
    θ_run (defs (F := Bits)) (onTc (τ := τ) (main (F := Bits))) ⟨m, fun _ => 0, ρ⟩ (fun r => ∀ c : Dev nD,
      r.2.mem ((c.tc : Thread nD τ).loc main_values) = refV (m ((c.tc : Thread nD τ).loc main_arg0)) (m ((c.tc : Thread nD τ).loc main_arg1))
      ∧ r.2.mem ((c.tc : Thread nD τ).loc main_indices) = refI (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  hlo_run
  · rfl
  · rfl

/-! ## The table, word by word -/

/-- A product, at row `n`, feature `f` and term `b`. -/
theorem refProd_apply (x : FVec Bits S131072x4 .f32) (w : FVec Bits S64x4 .f32) (n : Fin 131072) (f : Fin 64) (b : Fin 4) :
    refProd x w (ix3 n f b) = FloatOps.mulf (rnd (x (ix2 n b))) (rnd (w (ix2 f b))) := by
  unfold refProd
  refine congr (congrArg FloatOps.mulf ?_) ?_
  · refine (broadcastInDim_apply _ _ _ _ (ix3 n 0 b) fun a => ?_).trans
      (broadcastInDim_apply _ _ _ _ (ix2 n b) fun a => ?_)
    · match a with
      | ⟨0, _⟩ => rfl
      | ⟨1, _⟩ => rfl
      | ⟨2, _⟩ => rfl
    · match a with
      | ⟨0, _⟩ => rfl
      | ⟨1, _⟩ => rfl
  · refine (broadcastInDim_apply _ _ _ _ (ix3 0 f b) fun a => ?_).trans
      (broadcastInDim_apply _ _ _ _ (ix2 f b) fun a => ?_)
    · match a with
      | ⟨0, _⟩ => rfl
      | ⟨1, _⟩ => rfl
      | ⟨2, _⟩ => rfl
    · match a with
      | ⟨0, _⟩ => rfl
      | ⟨1, _⟩ => rfl

/-- One term's column, dropped to two axes. -/
theorem refTerm_apply (p : FVec Bits S131072x64x4 .f32) (k : Fin 4) (hs : S131072x64x4.Slices ![0, 0, k.val] S131072x64x1)
    (hc : S131072x64x1.ShapeCasts S131072x64) (n : Fin 131072) (f : Fin 64) :
    shapeCast S131072x64 (extractStridedSlice S131072x64x1 ![0, 0, k.val] p hs) hc (ix2 n f) = p (ix3 n f k) := by
  refine (shapeCast_apply _ hc (ix2 n f) (ix3 n f (0 : Fin 1)) ?_).trans ?_
  · rw [Shape.rowMajor_val_three, Shape.rowMajor_val_two]
    show (n.val * 64 + f.val) * 1 + 0 = n.val * 64 + f.val
    omega
  · unfold extractStridedSlice
    refine congrArg p (funext fun a => Fin.ext ?_)
    match a with
    | ⟨0, _⟩ => exact Nat.zero_add _
    | ⟨1, _⟩ => exact Nat.zero_add _
    | ⟨2, _⟩ => rfl

/-- The dot product of row `n` and feature `f`. -/
theorem refSum_apply (x : FVec Bits S131072x4 .f32) (w : FVec Bits S64x4 .f32) (n : Fin 131072) (f : Fin 64) :
    refSum x w (ix2 n f) = sumS (fun b => rnd (x (ix2 n b))) (fun b => rnd (w (ix2 f b))) := by
  have h : ∀ (k : Fin 4) (hs : S131072x64x4.Slices ![0, 0, k.val] S131072x64x1),
      shapeCast S131072x64 (extractStridedSlice S131072x64x1 ![0, 0, k.val] (refProd x w) hs) shapeCasts_S131072x64x1_S131072x64 (ix2 n f)
        = FloatOps.mulf (rnd (x (ix2 n k))) (rnd (w (ix2 f k))) :=
    fun k hs => (refTerm_apply _ k hs _ n f).trans (refProd_apply x w n f k)
  unfold refSum sumS
  exact congr (congrArg FloatOps.addf (congr (congrArg FloatOps.addf (h 0 _)) (h 1 _)))
    (congr (congrArg FloatOps.addf (h 2 _)) (h 3 _))

/-- The sign's choice between the two offsets, on a word. -/
theorem sign_choice (b : BitVec 32) :
    Scalar.select (IntOp.cmpi .sge b 0#32) 32#32 31#32 = if b.toNat < 2147483648 then 32#32 else 31#32 := by
  have e : (0#32).sle b = decide (b.toNat < 2147483648) := by
    rw [BitVec.sle_eq_decide]
    refine decide_eq_decide.mpr ?_
    have hz : (0#32).toInt = 0 := rfl
    rw [hz, BitVec.toInt_eq_toNat_cond]
    have := b.isLt
    split <;> omega
  show (if BitVec.ofBool ((0#32).sle b) = 1 then 32#32 else 31#32) = _
  rw [e]
  by_cases hb : b.toNat < 2147483648
  · rw [if_pos hb, decide_eq_true hb]; rfl
  · rw [if_neg hb, decide_eq_false hb]; rfl

/-- The quantiser, on a word. -/
theorem refQuant_apply (s : FVec Bits S131072x64 .f32) (i : S131072x64.Idx) :
    refQuant s i = FloatOps.ofBits .f32 (quantW (BitOps.toBits (s i))) := by
  unfold quantW
  rw [← sign_choice]
  rfl

end Cert.Proof

end
-- ==== Proof.Results.lean ====
/-
  The kernel's results against the reference's: a column of the sorting network is the features of that row by decreasing key,
  and the arrays the kernel's run leaves, read at a row and a place, are the reference's.
-/
module

public import proofs.«01_k».proof.Proof.Run
public import proofs.«01_k».proof.Proof.Net
public import proofs.«01_k».proof.Proof.Stable
public import proofs.«01_k».proof.Proof.RefVal

@[expose] public section

noncomputable section

namespace Cert.Proof

open Idealize.ShloMosaic Idealize.ShloMosaic.ValueIdx
open Idealize.SL.Sem

/-! ## A sorted column -/

/-- The unsigned maximum on words is the maximum of the numbers. -/
theorem toNat_maxui (a b : BitVec 32) : (IntOp.maxui a b).toNat = max a.toNat b.toNat := by
  unfold IntOp.maxui
  rw [BitVec.ult_eq_decide]
  by_cases h : b.toNat < a.toNat
  · rw [decide_eq_true h, if_pos rfl]; omega
  · rw [decide_eq_false h, if_neg Bool.false_ne_true]; omega

/-- The unsigned minimum on words is the minimum of the numbers. -/
theorem toNat_minui (a b : BitVec 32) : (IntOp.minui a b).toNat = min a.toNat b.toNat := by
  unfold IntOp.minui
  rw [BitVec.ult_eq_decide]
  by_cases h : a.toNat < b.toNat
  · rw [decide_eq_true h, if_pos rfl]; omega
  · rw [decide_eq_false h, if_neg Bool.false_ne_true]; omega

/-- The first fifty words of a sorted column are the keys of distinct features, by decreasing key. -/
theorem colSort_perm (x : Fin 4 → Bits .f32) (wt : Nat → Bits .f32) : ∃ σ : Equiv.Perm (Fin 64),
    (∀ i j, i < j → (colKey x wt (σ j).val).toNat < (colKey x wt (σ i).val).toNat) ∧
      ∀ k : Fin 64, k.val < 50 → colSort x wt k.val = colKey x wt (σ k).val := by
  obtain ⟨σ, ha, hk⟩ := crun_plan fun n => (if n < 64 then colKey x wt n else 0#32).toNat
  have e : ∀ f : Fin 64, (if f.val < 64 then colKey x wt f.val else 0#32) = colKey x wt f.val := fun f => if_pos f.isLt
  refine ⟨σ, fun i j hij => ?_, fun k h50 => BitVec.eq_of_toNat_eq ?_⟩
  · have hle := ha hij.le
    simp only [e] at hle
    refine lt_of_le_of_ne hle fun h => ?_
    have h' := σ.injective (Fin.ext (keyW_ne _ _ _ _ (σ j).isLt (σ i).isLt h))
    exact absurd h'.symm (ne_of_lt hij)
  · unfold colSort
    rw [crun_map BitVec.toNat IntOp.maxui IntOp.minui max min toNat_maxui toNat_minui, hk k h50]
    simp only [e]

/-! ## The kernel's arrays -/

section Reads

variable (m : (ℓ : Loc Cert.Kernel.nD Cert.Kernel.τ Cert.Kernel.sig) → Buf (Elt Bits) ℓ) (d : Dev Cert.Kernel.nD)

/-- The kernel's arguments. -/
abbrev argX : FVec Bits Cert.Reference.S131072x4 .f32 := m ((d.tc : Thread Cert.Kernel.nD Cert.Kernel.τ).loc Cert.Kernel.main_arg0)
abbrev argW : FVec Bits Cert.Reference.S64x4 .f32 := m ((d.tc : Thread Cert.Kernel.nD Cert.Kernel.τ).loc Cert.Kernel.main_arg1)

/-- The first result is the call's first array, transposed. -/
theorem v10_eq : StableHlo.after post (V2 m d) (Proc.devRef .tc Cert.Kernel.main_v10)
    = transpose Cert.Kernel.S131072x50 [1, 0] (callV m d) Cert.Kernel.Facts₀.transposes_S50x131072_S131072x50_1_0 := by
  unfold post
  after_results_simp
  rw [V2_v9_0]

/-- The second result is the call's second array, transposed. -/
theorem v11_eq : StableHlo.after post (V2 m d) (Proc.devRef .tc Cert.Kernel.main_v11)
    = transpose Cert.Kernel.S131072x50 [1, 0] (callI m d) Cert.Kernel.Facts₀.transposes_S50x131072_S131072x50_1_0 := by
  unfold post
  after_results_simp
  rw [V2_v9_1]

/-- The call's first operand: the rounded inputs, transposed. -/
theorem X_apply (b : Fin 4) (n : Fin 131072) : (data m).X d (ix2 b n) = rnd (argX m d (ix2 n b)) := by
  have h : V1 m d (Proc.devRef .tc Cert.Kernel.main_v5)
      = fun i => rnd (transpose Cert.Kernel.S4x131072 [1, 0] (argX m d) Cert.Kernel.Facts₀.transposes_S131072x4_S4x131072_1_0 i) := by
    unfold V1 pre
    after_results_simp
    rfl
  refine (congrFun h (ix2 b n)).trans (congrArg rnd (transpose_apply _ _ _ _ _ fun c => ?_))
  match c with
  | ⟨0, _⟩ => rfl
  | ⟨1, _⟩ => rfl

/-- The call's weights: the rounded weights, one after another. -/
theorem wt_apply (f : Fin 64) (b : Fin 4) : (data m).wt d (4 * f.val + b.val) = rnd (argW m d (ix2 f b)) := by
  have h : V1 m d (Proc.devRef .tc Cert.Kernel.main_v7)
      = shapeCast Cert.Kernel.S256x1 (fun i => rnd (argW m d i)) Cert.Kernel.Facts₀.shapeCasts_S64x4_S256x1 := by
    unfold V1 pre
    after_results_simp
    rfl
  refine (congrFun h (ix2 (Fin.ofNat 256 (4 * f.val + b.val)) 0)).trans (shapeCast_apply _ _ _ (ix2 f b) ?_)
  rw [Shape.rowMajor_val_two, Shape.rowMajor_val_two]
  show f.val * 4 + b.val = (4 * f.val + b.val) % 256 * 1 + 0
  have := f.isLt
  have := b.isLt
  omega

/-- A row's column of inputs. -/
theorem xAt_eq (n : Fin 131072) : xAt ((data m).X d) n.val = fun b => rnd (argX m d (ix2 n b)) := by
  funext b
  unfold xAt
  rw [show Fin.ofNat 131072 n.val = n from Fin.ext (Nat.mod_eq_of_lt n.isLt)]
  exact X_apply m d b n

/-- The reference's table at a row and a feature: the quantiser of the sum the kernel's key carries. -/
theorem table_eq (n : Fin 131072) (f : Fin 64) :
    refQuant (refSum (argX m d) (argW m d)) (ix2 n f)
      = FloatOps.ofBits .f32 (quantW (BitOps.toBits (sumS (xAt ((data m).X d) n.val) fun b => (data m).wt d (4 * f.val + b.val)))) := by
  rw [refQuant_apply, refSum_apply, xAt_eq]
  refine congrArg (fun w => FloatOps.ofBits .f32 (quantW (BitOps.toBits (sumS _ w)))) (funext fun b => ?_)
  exact (wt_apply m d f b).symm

/-- Both results at a row and a place. -/
theorem result_apply (n : Fin 131072) (k : Fin 50) :
    refV (argX m d) (argW m d) (ix2 n k) = callV m d (ix2 k n) ∧ refI (argX m d) (argW m d) (ix2 n k) = callI m d (ix2 k n) := by
  obtain ⟨σ, hσ, hc⟩ := colSort_perm (xAt ((data m).X d) n.val) ((data m).wt d)
  have hk : k.val < 64 := lt_trans k.isLt (by decide)
  have hK : ∀ a b : Fin 64, a < b →
      ((totalOrderKey (refQuant (refSum (argX m d) (argW m d)) (ix2 n a) : BitVec 32)).toNat
          < (totalOrderKey (refQuant (refSum (argX m d) (argW m d)) (ix2 n b) : BitVec 32)).toNat
        ↔ (colKey (xAt ((data m).X d) n.val) ((data m).wt d) a.val).toNat
          < (colKey (xAt ((data m).X d) n.val) ((data m).wt d) b.val).toNat) := by
    intro a b hab
    rw [table_eq, table_eq]
    exact quantW_lt _ _ a.val b.val hab b.isLt
  have ht := topK_read (refQuant (refSum (argX m d) (argW m d))) Cert.Reference.Facts₀.sliceFits_S131072x64_S131072x50 n
    (fun f => (colKey (xAt ((data m).X d) n.val) ((data m).wt d) f.val).toNat) hK σ hσ k hk
  have hs := hc ⟨k.val, hk⟩ k.isLt
  refine ⟨ht.1.trans ?_, ht.2.trans ?_⟩
  · rw [table_eq]
    show _ = FloatOps.ofBits .f32 (valW (colSort (xAt ((data m).X d) n.val) ((data m).wt d) k.val))
    rw [hs]
    unfold colKey
    rw [valW_keyW _ _ (σ ⟨k.val, hk⟩).isLt]
  · show _ = idxW (colSort (xAt ((data m).X d) n.val) ((data m).wt d) k.val)
    rw [hs]
    unfold colKey
    rw [idxW_keyW _ _ (σ ⟨k.val, hk⟩).isLt]

/-- The kernel's first result is the reference's. -/
theorem values_eq : StableHlo.after post (V2 m d) (Proc.devRef .tc Cert.Kernel.main_v10) = refV (argX m d) (argW m d) := by
  rw [v10_eq]
  funext j
  rw [eq_ix2 j]
  refine (transpose_apply _ _ _ _ (ix2 (j 1) (j 0)) fun c => ?_).trans (result_apply m d (j 0) (j 1)).1.symm
  match c with
  | ⟨0, _⟩ => rfl
  | ⟨1, _⟩ => rfl

/-- The kernel's second result is the reference's. -/
theorem indices_eq : StableHlo.after post (V2 m d) (Proc.devRef .tc Cert.Kernel.main_v11) = refI (argX m d) (argW m d) := by
  rw [v11_eq]
  funext j
  rw [eq_ix2 j]
  refine (transpose_apply _ _ _ _ (ix2 (j 1) (j 0)) fun c => ?_).trans (result_apply m d (j 0) (j 1)).2.symm
  match c with
  | ⟨0, _⟩ => rfl
  | ⟨1, _⟩ => rfl

end Reads

end Cert.Proof

end
-- ==== Proof.Bitexact.lean ====
/-
  The value claim: from equal arguments the kernel and the reference leave the same two results, bit for bit.
-/
module

public import proofs.«01_k».proof.Proof.Frames
public import proofs.«01_k».proof.Proof.Results

@[expose] public section

noncomputable section

namespace Cert.Proof

open Idealize.ShloMosaic
open Idealize.SL.Sem

/-- `Cert.bitexact_Kernel_Reference`: both runs leave the reference's values and positions of the kernel's arguments. -/
theorem bitexact : Cert.bitexact_Kernel_Reference := by
  intro m g m' g' _ hagree
  refine ⟨fun c => refV (argX m c) (argW m c), fun c => refI (argX m c) (argW m c), ?_, ?_⟩
  · exact (θ_run Cert.Kernel.defs _ _).mono
      (fun r h c => ⟨(h.1 c Cert.Kernel.main_v10).trans (values_eq m c), (h.1 c Cert.Kernel.main_v11).trans (indices_eq m c),
        (h.1 c Cert.Kernel.main_arg0).trans (arg0_eq m c), (h.1 c Cert.Kernel.main_arg1).trans (arg1_eq m c)⟩)
      (run_main (F := Bits) m g)
  · refine (θ_run Cert.Reference.defs _ _).mono (fun r h c => ?_) (run_ref m' g')
    obtain ⟨hv, hi, h0, h1⟩ := h c
    rw [(hagree c).1, (hagree c).2] at hv hi
    exact ⟨hv, hi, h0, h1⟩

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Reference
public import proofs.«01_k».proof.Proof.Frames
public import proofs.«01_k».proof.Proof.Bitexact
public import Idealize.ShloMosaic.Adequacy
public import Idealize.ShloMosaic.Init

@[expose] public section

noncomputable section

namespace Cert.Proof

open Idealize.ShloMosaic Idealize.SL.Sem Cert.Kernel

/-- Both programs run to their end with the arguments unchanged and every semaphore at zero, and from equal arguments they leave
    the same values and the same positions. -/
theorem claim : Cert.Claim := ⟨Cert.Kernel.Gen.facts, Cert.Reference.Gen.facts, frame_p, frame_r, bitexact⟩

end Cert.Proof

end
